-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attnp_finite [hPre_attnp_finite : Cert.Pre_attnp_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attnp_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).1 = (fun _ => 1#1)
    ∧ (Cert.Pre_attnp_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.1 = (fun _ => 1#1)
    ∧ (Cert.Pre_attnp_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.1 = (fun _ => 1#1)
    ∧ (Cert.Pre_attnp_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.1 = (fun _ => 1#1)
    ∧ (Cert.Pre_attnp_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attnp_finite [hPre_attnp_finite : Cert.Pre_attnp_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attnp_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).1 = (fun _ => 1#1)
    ∧ (Cert.Pre_attnp_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.1 = (fun _ => 1#1)
    ∧ (Cert.Pre_attnp_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.1 = (fun _ => 1#1)
    ∧ (Cert.Pre_attnp_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.1 = (fun _ => 1#1)
    ∧ (Cert.Pre_attnp_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.2 = (fun _ => 1#1)

def Pre_Sconv (m : (ℓ : Loc Cert.Sconv.nD Cert.Sconv.τ Cert.Sconv.sig) → Buf (Elt Bits) ℓ) : Prop :=
  True

def Pre_SconvIdeal (m : (ℓ : Loc Cert.SconvIdeal.nD Cert.SconvIdeal.τ Cert.SconvIdeal.sig) → Buf (Elt Ideal) ℓ) : Prop :=
  True

def Pre_SconvRefIdeal (m : (ℓ : Loc Cert.SconvRefIdeal.nD Cert.SconvRefIdeal.τ Cert.SconvRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Mlps (m : (ℓ : Loc Cert.Mlps.nD Cert.Mlps.τ Cert.Mlps.sig) → Buf (Elt Bits) ℓ) : Prop :=
  True

def Pre_MlpsIdeal (m : (ℓ : Loc Cert.MlpsIdeal.nD Cert.MlpsIdeal.τ Cert.MlpsIdeal.sig) → Buf (Elt Ideal) ℓ) : Prop :=
  True

def Pre_MlpsRefIdeal (m : (ℓ : Loc Cert.MlpsRefIdeal.nD Cert.MlpsRefIdeal.τ Cert.MlpsRefIdeal.sig) → Buf (Elt Ideal) ℓ) : Prop :=
  True

def Pre_Vs (m : (ℓ : Loc Cert.Vs.nD Cert.Vs.τ Cert.Vs.sig) → Buf (Elt Bits) ℓ) : Prop :=
  True

def Pre_VsIdeal (m : (ℓ : Loc Cert.VsIdeal.nD Cert.VsIdeal.τ Cert.VsIdeal.sig) → Buf (Elt Ideal) ℓ) : Prop :=
  True

def Pre_VsRefIdeal (m : (ℓ : Loc Cert.VsRefIdeal.nD Cert.VsRefIdeal.τ Cert.VsRefIdeal.sig) → Buf (Elt Ideal) ℓ) : Prop :=
  True

def Pre_Vp (m : (ℓ : Loc Cert.Vp.nD Cert.Vp.τ Cert.Vp.sig) → Buf (Elt Bits) ℓ) : Prop :=
  True

def Pre_VpIdeal (m : (ℓ : Loc Cert.VpIdeal.nD Cert.VpIdeal.τ Cert.VpIdeal.sig) → Buf (Elt Ideal) ℓ) : Prop :=
  True

def Pre_VpRefIdeal (m : (ℓ : Loc Cert.VpRefIdeal.nD Cert.VpRefIdeal.τ Cert.VpRefIdeal.sig) → Buf (Elt Ideal) ℓ) : Prop :=
  True

def Pre_Xg (m : (ℓ : Loc Cert.Xg.nD Cert.Xg.τ Cert.Xg.sig) → Buf (Elt Bits) ℓ) : Prop :=
  True

def Pre_XgIdeal (m : (ℓ : Loc Cert.XgIdeal.nD Cert.XgIdeal.τ Cert.XgIdeal.sig) → Buf (Elt Ideal) ℓ) : Prop :=
  True

def Pre_XgRefIdeal (m : (ℓ : Loc Cert.XgRefIdeal.nD Cert.XgRefIdeal.τ Cert.XgRefIdeal.sig) → Buf (Elt Ideal) ℓ) : Prop :=
  True

def Pre_Kp (m : (ℓ : Loc Cert.Kp.nD Cert.Kp.τ Cert.Kp.sig) → Buf (Elt Bits) ℓ) : Prop :=
  True

def Pre_KpIdeal (m : (ℓ : Loc Cert.KpIdeal.nD Cert.KpIdeal.τ Cert.KpIdeal.sig) → Buf (Elt Ideal) ℓ) : Prop :=
  True

def Pre_KpRefIdeal (m : (ℓ : Loc Cert.KpRefIdeal.nD Cert.KpRefIdeal.τ Cert.KpRefIdeal.sig) → Buf (Elt Ideal) ℓ) : Prop :=
  True

def Pre_Ks (m : (ℓ : Loc Cert.Ks.nD Cert.Ks.τ Cert.Ks.sig) → Buf (Elt Bits) ℓ) : Prop :=
  True

def Pre_KsIdeal (m : (ℓ : Loc Cert.KsIdeal.nD Cert.KsIdeal.τ Cert.KsIdeal.sig) → Buf (Elt Ideal) ℓ) : Prop :=
  True

def Pre_KsRefIdeal (m : (ℓ : Loc Cert.KsRefIdeal.nD Cert.KsRefIdeal.τ Cert.KsRefIdeal.sig) → Buf (Elt Ideal) ℓ) : Prop :=
  True

def Pre_Scp (m : (ℓ : Loc Cert.Scp.nD Cert.Scp.τ Cert.Scp.sig) → Buf (Elt Bits) ℓ) : Prop :=
  True

def Pre_ScpIdeal (m : (ℓ : Loc Cert.ScpIdeal.nD Cert.ScpIdeal.τ Cert.ScpIdeal.sig) → Buf (Elt Ideal) ℓ) : Prop :=
  True

def Pre_ScpRefIdeal (m : (ℓ : Loc Cert.ScpRefIdeal.nD Cert.ScpRefIdeal.τ Cert.ScpRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_attnp_finite [hAttnIdeal : Cert.AttnIdeal.Facts] [hPre_attnp_finite : Cert.Pre_attnp_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attnp_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_attnp_finite [hAttnRefIdeal : Cert.AttnRefIdeal.Facts] [hPre_attnp_finite : Cert.Pre_attnp_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attnp_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_Sconv [hSconv : Cert.Sconv.Facts] : Prop :=
  ∀ (m : (ℓ : Loc Cert.Sconv.nD Cert.Sconv.τ Cert.Sconv.sig) → Buf (Elt Bits) ℓ) (g : Dev Cert.Sconv.nD → PrngReg), Pre_Sconv m →
    θ_run (Cert.Sconv.defs (F := Bits)) (onTc (τ := Cert.Sconv.τ) (Cert.Sconv.main (F := Bits))) ⟨m, fun _ => 0, g⟩ (fun r => (∀ c : Dev Cert.Sconv.nD,
      r.2.mem ((c.tc : Thread Cert.Sconv.nD Cert.Sconv.τ).loc Cert.Sconv.main_arg0) = m ((c.tc : Thread Cert.Sconv.nD Cert.Sconv.τ).loc Cert.Sconv.main_arg0)
      ∧ r.2.mem ((c.tc : Thread Cert.Sconv.nD Cert.Sconv.τ).loc Cert.Sconv.main_arg1) = m ((c.tc : Thread Cert.Sconv.nD Cert.Sconv.τ).loc Cert.Sconv.main_arg1)
      ∧ r.2.mem ((c.tc : Thread Cert.Sconv.nD Cert.Sconv.τ).loc Cert.Sconv.main_arg2) = m ((c.tc : Thread Cert.Sconv.nD Cert.Sconv.τ).loc Cert.Sconv.main_arg2)
      ∧ r.2.mem ((c.tc : Thread Cert.Sconv.nD Cert.Sconv.τ).loc Cert.Sconv.main_arg3) = m ((c.tc : Thread Cert.Sconv.nD Cert.Sconv.τ).loc Cert.Sconv.main_arg3))
      ∧ r.2.sem = fun _ => 0)

def quiescent_SconvIdeal [hSconvIdeal : Cert.SconvIdeal.Facts] : Prop :=
  ∀ (m : (ℓ : Loc Cert.SconvIdeal.nD Cert.SconvIdeal.τ Cert.SconvIdeal.sig) → Buf (Elt Ideal) ℓ) (g : Dev Cert.SconvIdeal.nD → PrngReg), Pre_SconvIdeal m →
    θ_run (Cert.SconvIdeal.defs (F := Ideal)) (onTc (τ := Cert.SconvIdeal.τ) (Cert.SconvIdeal.main (F := Ideal))) ⟨m, fun _ => 0, g⟩ (fun r => (∀ c : Dev Cert.SconvIdeal.nD,
      r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
      ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
      ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2)
      ∧ r.2.mem ((c.tc : Thread Cert.SconvIdeal.nD Cert.SconvIdeal.τ).loc Cert.SconvIdeal.main_arg3) = m ((c.tc : Thread Cert.SconvIdeal.nD Cert.SconvIdeal.τ).loc Cert.SconvIdeal.main_arg3))
      ∧ r.2.sem = fun _ => 0)

def quiescent_SconvRefIdeal [hSconvRefIdeal : Cert.SconvRefIdeal.Facts] : Prop :=
  ∀ (m : (ℓ : Loc Cert.SconvRefIdeal.nD Cert.SconvRefIdeal.τ Cert.SconvRefIdeal.sig) → Buf (Elt Ideal) ℓ) (g : Dev Cert.SconvRefIdeal.nD → PrngReg), Pre_SconvRefIdeal m →
    θ_run (Cert.SconvRefIdeal.defs (F := Ideal)) (onTc (τ := Cert.SconvRefIdeal.τ) (Cert.SconvRefIdeal.main (F := Ideal))) ⟨m, fun _ => 0, g⟩ (fun r => (∀ c : Dev Cert.SconvRefIdeal.nD,
      r.2.mem ((c.tc : Thread Cert.SconvRefIdeal.nD Cert.SconvRefIdeal.τ).loc Cert.SconvRefIdeal.main_arg0) = m ((c.tc : Thread Cert.SconvRefIdeal.nD Cert.SconvRefIdeal.τ).loc Cert.SconvRefIdeal.main_arg0)
      ∧ r.2.mem ((c.tc : Thread Cert.SconvRefIdeal.nD Cert.SconvRefIdeal.τ).loc Cert.SconvRefIdeal.main_arg1) = m ((c.tc : Thread Cert.SconvRefIdeal.nD Cert.SconvRefIdeal.τ).loc Cert.SconvRefIdeal.main_arg1)
      ∧ r.2.mem ((c.tc : Thread Cert.SconvRefIdeal.nD Cert.SconvRefIdeal.τ).loc Cert.SconvRefIdeal.main_arg2) = m ((c.tc : Thread Cert.SconvRefIdeal.nD Cert.SconvRefIdeal.τ).loc Cert.SconvRefIdeal.main_arg2)
      ∧ r.2.mem ((c.tc : Thread Cert.SconvRefIdeal.nD Cert.SconvRefIdeal.τ).loc Cert.SconvRefIdeal.main_arg3) = m ((c.tc : Thread Cert.SconvRefIdeal.nD Cert.SconvRefIdeal.τ).loc Cert.SconvRefIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Mlps [hMlps : Cert.Mlps.Facts] : Prop :=
  ∀ (m : (ℓ : Loc Cert.Mlps.nD Cert.Mlps.τ Cert.Mlps.sig) → Buf (Elt Bits) ℓ) (g : Dev Cert.Mlps.nD → PrngReg), Pre_Mlps m →
    θ_run (Cert.Mlps.defs (F := Bits)) (onTc (τ := Cert.Mlps.τ) (Cert.Mlps.main (F := Bits))) ⟨m, fun _ => 0, g⟩ (fun r => (∀ c : Dev Cert.Mlps.nD,
      r.2.mem ((c.tc : Thread Cert.Mlps.nD Cert.Mlps.τ).loc Cert.Mlps.main_arg0) = m ((c.tc : Thread Cert.Mlps.nD Cert.Mlps.τ).loc Cert.Mlps.main_arg0)
      ∧ r.2.mem ((c.tc : Thread Cert.Mlps.nD Cert.Mlps.τ).loc Cert.Mlps.main_arg1) = m ((c.tc : Thread Cert.Mlps.nD Cert.Mlps.τ).loc Cert.Mlps.main_arg1)
      ∧ r.2.mem ((c.tc : Thread Cert.Mlps.nD Cert.Mlps.τ).loc Cert.Mlps.main_arg2) = m ((c.tc : Thread Cert.Mlps.nD Cert.Mlps.τ).loc Cert.Mlps.main_arg2)
      ∧ r.2.mem ((c.tc : Thread Cert.Mlps.nD Cert.Mlps.τ).loc Cert.Mlps.main_arg3) = m ((c.tc : Thread Cert.Mlps.nD Cert.Mlps.τ).loc Cert.Mlps.main_arg3)
      ∧ r.2.mem ((c.tc : Thread Cert.Mlps.nD Cert.Mlps.τ).loc Cert.Mlps.main_arg4) = m ((c.tc : Thread Cert.Mlps.nD Cert.Mlps.τ).loc Cert.Mlps.main_arg4))
      ∧ r.2.sem = fun _ => 0)

def quiescent_MlpsIdeal [hMlpsIdeal : Cert.MlpsIdeal.Facts] : Prop :=
  ∀ (m : (ℓ : Loc Cert.MlpsIdeal.nD Cert.MlpsIdeal.τ Cert.MlpsIdeal.sig) → Buf (Elt Ideal) ℓ) (g : Dev Cert.MlpsIdeal.nD → PrngReg), Pre_MlpsIdeal m →
    θ_run (Cert.MlpsIdeal.defs (F := Ideal)) (onTc (τ := Cert.MlpsIdeal.τ) (Cert.MlpsIdeal.main (F := Ideal))) ⟨m, fun _ => 0, g⟩ (fun r => (∀ c : Dev Cert.MlpsIdeal.nD,
      r.2.mem ((c.tc : Thread Cert.MlpsIdeal.nD Cert.MlpsIdeal.τ).loc Cert.MlpsIdeal.main_arg0) = m ((c.tc : Thread Cert.MlpsIdeal.nD Cert.MlpsIdeal.τ).loc Cert.MlpsIdeal.main_arg0)
      ∧ r.2.mem ((c.tc : Thread Cert.MlpsIdeal.nD Cert.MlpsIdeal.τ).loc Cert.MlpsIdeal.main_arg1) = m ((c.tc : Thread Cert.MlpsIdeal.nD Cert.MlpsIdeal.τ).loc Cert.MlpsIdeal.main_arg1)
      ∧ r.2.mem ((c.tc : Thread Cert.MlpsIdeal.nD Cert.MlpsIdeal.τ).loc Cert.MlpsIdeal.main_arg2) = m ((c.tc : Thread Cert.MlpsIdeal.nD Cert.MlpsIdeal.τ).loc Cert.MlpsIdeal.main_arg2)
      ∧ r.2.mem ((c.tc : Thread Cert.MlpsIdeal.nD Cert.MlpsIdeal.τ).loc Cert.MlpsIdeal.main_arg3) = m ((c.tc : Thread Cert.MlpsIdeal.nD Cert.MlpsIdeal.τ).loc Cert.MlpsIdeal.main_arg3)
      ∧ r.2.mem ((c.tc : Thread Cert.MlpsIdeal.nD Cert.MlpsIdeal.τ).loc Cert.MlpsIdeal.main_arg4) = m ((c.tc : Thread Cert.MlpsIdeal.nD Cert.MlpsIdeal.τ).loc Cert.MlpsIdeal.main_arg4))
      ∧ r.2.sem = fun _ => 0)

def quiescent_MlpsRefIdeal [hMlpsRefIdeal : Cert.MlpsRefIdeal.Facts] : Prop :=
  ∀ (m : (ℓ : Loc Cert.MlpsRefIdeal.nD Cert.MlpsRefIdeal.τ Cert.MlpsRefIdeal.sig) → Buf (Elt Ideal) ℓ) (g : Dev Cert.MlpsRefIdeal.nD → PrngReg), Pre_MlpsRefIdeal m →
    θ_run (Cert.MlpsRefIdeal.defs (F := Ideal)) (onTc (τ := Cert.MlpsRefIdeal.τ) (Cert.MlpsRefIdeal.main (F := Ideal))) ⟨m, fun _ => 0, g⟩ (fun r => (∀ c : Dev Cert.MlpsRefIdeal.nD,
      r.2.mem ((c.tc : Thread Cert.MlpsRefIdeal.nD Cert.MlpsRefIdeal.τ).loc Cert.MlpsRefIdeal.main_arg0) = m ((c.tc : Thread Cert.MlpsRefIdeal.nD Cert.MlpsRefIdeal.τ).loc Cert.MlpsRefIdeal.main_arg0)
      ∧ r.2.mem ((c.tc : Thread Cert.MlpsRefIdeal.nD Cert.MlpsRefIdeal.τ).loc Cert.MlpsRefIdeal.main_arg1) = m ((c.tc : Thread Cert.MlpsRefIdeal.nD Cert.MlpsRefIdeal.τ).loc Cert.MlpsRefIdeal.main_arg1)
      ∧ r.2.mem ((c.tc : Thread Cert.MlpsRefIdeal.nD Cert.MlpsRefIdeal.τ).loc Cert.MlpsRefIdeal.main_arg2) = m ((c.tc : Thread Cert.MlpsRefIdeal.nD Cert.MlpsRefIdeal.τ).loc Cert.MlpsRefIdeal.main_arg2)
      ∧ r.2.mem ((c.tc : Thread Cert.MlpsRefIdeal.nD Cert.MlpsRefIdeal.τ).loc Cert.MlpsRefIdeal.main_arg3) = m ((c.tc : Thread Cert.MlpsRefIdeal.nD Cert.MlpsRefIdeal.τ).loc Cert.MlpsRefIdeal.main_arg3)
      ∧ r.2.mem ((c.tc : Thread Cert.MlpsRefIdeal.nD Cert.MlpsRefIdeal.τ).loc Cert.MlpsRefIdeal.main_arg4) = m ((c.tc : Thread Cert.MlpsRefIdeal.nD Cert.MlpsRefIdeal.τ).loc Cert.MlpsRefIdeal.main_arg4))
      ∧ r.2.sem = fun _ => 0)

def quiescent_Vs [hVs : Cert.Vs.Facts] : Prop :=
  ∀ (m : (ℓ : Loc Cert.Vs.nD Cert.Vs.τ Cert.Vs.sig) → Buf (Elt Bits) ℓ) (g : Dev Cert.Vs.nD → PrngReg), Pre_Vs m →
    θ_run (Cert.Vs.defs (F := Bits)) (onTc (τ := Cert.Vs.τ) (Cert.Vs.main (F := Bits))) ⟨m, fun _ => 0, g⟩ (fun r => (∀ c : Dev Cert.Vs.nD,
      r.2.mem ((c.tc : Thread Cert.Vs.nD Cert.Vs.τ).loc Cert.Vs.main_arg0) = m ((c.tc : Thread Cert.Vs.nD Cert.Vs.τ).loc Cert.Vs.main_arg0)
      ∧ r.2.mem ((c.tc : Thread Cert.Vs.nD Cert.Vs.τ).loc Cert.Vs.main_arg1) = m ((c.tc : Thread Cert.Vs.nD Cert.Vs.τ).loc Cert.Vs.main_arg1))
      ∧ r.2.sem = fun _ => 0)

def quiescent_VsIdeal [hVsIdeal : Cert.VsIdeal.Facts] : Prop :=
  ∀ (m : (ℓ : Loc Cert.VsIdeal.nD Cert.VsIdeal.τ Cert.VsIdeal.sig) → Buf (Elt Ideal) ℓ) (g : Dev Cert.VsIdeal.nD → PrngReg), Pre_VsIdeal m →
    θ_run (Cert.VsIdeal.defs (F := Ideal)) (onTc (τ := Cert.VsIdeal.τ) (Cert.VsIdeal.main (F := Ideal))) ⟨m, fun _ => 0, g⟩ (fun r => (∀ c : Dev Cert.VsIdeal.nD,
      r.2.mem ((c.tc : Thread Cert.VsIdeal.nD Cert.VsIdeal.τ).loc Cert.VsIdeal.main_arg0) = m ((c.tc : Thread Cert.VsIdeal.nD Cert.VsIdeal.τ).loc Cert.VsIdeal.main_arg0)
      ∧ r.2.mem ((c.tc : Thread Cert.VsIdeal.nD Cert.VsIdeal.τ).loc Cert.VsIdeal.main_arg1) = m ((c.tc : Thread Cert.VsIdeal.nD Cert.VsIdeal.τ).loc Cert.VsIdeal.main_arg1))
      ∧ r.2.sem = fun _ => 0)

def quiescent_VsRefIdeal [hVsRefIdeal : Cert.VsRefIdeal.Facts] : Prop :=
  ∀ (m : (ℓ : Loc Cert.VsRefIdeal.nD Cert.VsRefIdeal.τ Cert.VsRefIdeal.sig) → Buf (Elt Ideal) ℓ) (g : Dev Cert.VsRefIdeal.nD → PrngReg), Pre_VsRefIdeal m →
    θ_run (Cert.VsRefIdeal.defs (F := Ideal)) (onTc (τ := Cert.VsRefIdeal.τ) (Cert.VsRefIdeal.main (F := Ideal))) ⟨m, fun _ => 0, g⟩ (fun r => (∀ c : Dev Cert.VsRefIdeal.nD,
      r.2.mem ((c.tc : Thread Cert.VsRefIdeal.nD Cert.VsRefIdeal.τ).loc Cert.VsRefIdeal.main_arg0) = m ((c.tc : Thread Cert.VsRefIdeal.nD Cert.VsRefIdeal.τ).loc Cert.VsRefIdeal.main_arg0)
      ∧ r.2.mem ((c.tc : Thread Cert.VsRefIdeal.nD Cert.VsRefIdeal.τ).loc Cert.VsRefIdeal.main_arg1) = m ((c.tc : Thread Cert.VsRefIdeal.nD Cert.VsRefIdeal.τ).loc Cert.VsRefIdeal.main_arg1))
      ∧ r.2.sem = fun _ => 0)

def quiescent_Vp [hVp : Cert.Vp.Facts] : Prop :=
  ∀ (m : (ℓ : Loc Cert.Vp.nD Cert.Vp.τ Cert.Vp.sig) → Buf (Elt Bits) ℓ) (g : Dev Cert.Vp.nD → PrngReg), Pre_Vp m →
    θ_run (Cert.Vp.defs (F := Bits)) (onTc (τ := Cert.Vp.τ) (Cert.Vp.main (F := Bits))) ⟨m, fun _ => 0, g⟩ (fun r => (∀ c : Dev Cert.Vp.nD,
      r.2.mem ((c.tc : Thread Cert.Vp.nD Cert.Vp.τ).loc Cert.Vp.main_arg0) = m ((c.tc : Thread Cert.Vp.nD Cert.Vp.τ).loc Cert.Vp.main_arg0)
      ∧ r.2.mem ((c.tc : Thread Cert.Vp.nD Cert.Vp.τ).loc Cert.Vp.main_arg1) = m ((c.tc : Thread Cert.Vp.nD Cert.Vp.τ).loc Cert.Vp.main_arg1))
      ∧ r.2.sem = fun _ => 0)

def quiescent_VpIdeal [hVpIdeal : Cert.VpIdeal.Facts] : Prop :=
  ∀ (m : (ℓ : Loc Cert.VpIdeal.nD Cert.VpIdeal.τ Cert.VpIdeal.sig) → Buf (Elt Ideal) ℓ) (g : Dev Cert.VpIdeal.nD → PrngReg), Pre_VpIdeal m →
    θ_run (Cert.VpIdeal.defs (F := Ideal)) (onTc (τ := Cert.VpIdeal.τ) (Cert.VpIdeal.main (F := Ideal))) ⟨m, fun _ => 0, g⟩ (fun r => (∀ c : Dev Cert.VpIdeal.nD,
      r.2.mem ((c.tc : Thread Cert.VpIdeal.nD Cert.VpIdeal.τ).loc Cert.VpIdeal.main_arg0) = m ((c.tc : Thread Cert.VpIdeal.nD Cert.VpIdeal.τ).loc Cert.VpIdeal.main_arg0)
      ∧ r.2.mem ((c.tc : Thread Cert.VpIdeal.nD Cert.VpIdeal.τ).loc Cert.VpIdeal.main_arg1) = m ((c.tc : Thread Cert.VpIdeal.nD Cert.VpIdeal.τ).loc Cert.VpIdeal.main_arg1))
      ∧ r.2.sem = fun _ => 0)

def quiescent_VpRefIdeal [hVpRefIdeal : Cert.VpRefIdeal.Facts] : Prop :=
  ∀ (m : (ℓ : Loc Cert.VpRefIdeal.nD Cert.VpRefIdeal.τ Cert.VpRefIdeal.sig) → Buf (Elt Ideal) ℓ) (g : Dev Cert.VpRefIdeal.nD → PrngReg), Pre_VpRefIdeal m →
    θ_run (Cert.VpRefIdeal.defs (F := Ideal)) (onTc (τ := Cert.VpRefIdeal.τ) (Cert.VpRefIdeal.main (F := Ideal))) ⟨m, fun _ => 0, g⟩ (fun r => (∀ c : Dev Cert.VpRefIdeal.nD,
      r.2.mem ((c.tc : Thread Cert.VpRefIdeal.nD Cert.VpRefIdeal.τ).loc Cert.VpRefIdeal.main_arg0) = m ((c.tc : Thread Cert.VpRefIdeal.nD Cert.VpRefIdeal.τ).loc Cert.VpRefIdeal.main_arg0)
      ∧ r.2.mem ((c.tc : Thread Cert.VpRefIdeal.nD Cert.VpRefIdeal.τ).loc Cert.VpRefIdeal.main_arg1) = m ((c.tc : Thread Cert.VpRefIdeal.nD Cert.VpRefIdeal.τ).loc Cert.VpRefIdeal.main_arg1))
      ∧ r.2.sem = fun _ => 0)

def quiescent_Xg [hXg : Cert.Xg.Facts] : Prop :=
  ∀ (m : (ℓ : Loc Cert.Xg.nD Cert.Xg.τ Cert.Xg.sig) → Buf (Elt Bits) ℓ) (g : Dev Cert.Xg.nD → PrngReg), Pre_Xg m →
    θ_run (Cert.Xg.defs (F := Bits)) (onTc (τ := Cert.Xg.τ) (Cert.Xg.main (F := Bits))) ⟨m, fun _ => 0, g⟩ (fun r => (∀ c : Dev Cert.Xg.nD,
      r.2.mem ((c.tc : Thread Cert.Xg.nD Cert.Xg.τ).loc Cert.Xg.main_arg0) = m ((c.tc : Thread Cert.Xg.nD Cert.Xg.τ).loc Cert.Xg.main_arg0)
      ∧ r.2.mem ((c.tc : Thread Cert.Xg.nD Cert.Xg.τ).loc Cert.Xg.main_arg1) = m ((c.tc : Thread Cert.Xg.nD Cert.Xg.τ).loc Cert.Xg.main_arg1))
      ∧ r.2.sem = fun _ => 0)

def quiescent_XgIdeal [hXgIdeal : Cert.XgIdeal.Facts] : Prop :=
  ∀ (m : (ℓ : Loc Cert.XgIdeal.nD Cert.XgIdeal.τ Cert.XgIdeal.sig) → Buf (Elt Ideal) ℓ) (g : Dev Cert.XgIdeal.nD → PrngReg), Pre_XgIdeal m →
    θ_run (Cert.XgIdeal.defs (F := Ideal)) (onTc (τ := Cert.XgIdeal.τ) (Cert.XgIdeal.main (F := Ideal))) ⟨m, fun _ => 0, g⟩ (fun r => (∀ c : Dev Cert.XgIdeal.nD,
      r.2.mem ((c.tc : Thread Cert.XgIdeal.nD Cert.XgIdeal.τ).loc Cert.XgIdeal.main_arg0) = m ((c.tc : Thread Cert.XgIdeal.nD Cert.XgIdeal.τ).loc Cert.XgIdeal.main_arg0)
      ∧ r.2.mem ((c.tc : Thread Cert.XgIdeal.nD Cert.XgIdeal.τ).loc Cert.XgIdeal.main_arg1) = m ((c.tc : Thread Cert.XgIdeal.nD Cert.XgIdeal.τ).loc Cert.XgIdeal.main_arg1))
      ∧ r.2.sem = fun _ => 0)

def quiescent_XgRefIdeal [hXgRefIdeal : Cert.XgRefIdeal.Facts] : Prop :=
  ∀ (m : (ℓ : Loc Cert.XgRefIdeal.nD Cert.XgRefIdeal.τ Cert.XgRefIdeal.sig) → Buf (Elt Ideal) ℓ) (g : Dev Cert.XgRefIdeal.nD → PrngReg), Pre_XgRefIdeal m →
    θ_run (Cert.XgRefIdeal.defs (F := Ideal)) (onTc (τ := Cert.XgRefIdeal.τ) (Cert.XgRefIdeal.main (F := Ideal))) ⟨m, fun _ => 0, g⟩ (fun r => (∀ c : Dev Cert.XgRefIdeal.nD,
      r.2.mem ((c.tc : Thread Cert.XgRefIdeal.nD Cert.XgRefIdeal.τ).loc Cert.XgRefIdeal.main_arg0) = m ((c.tc : Thread Cert.XgRefIdeal.nD Cert.XgRefIdeal.τ).loc Cert.XgRefIdeal.main_arg0)
      ∧ r.2.mem ((c.tc : Thread Cert.XgRefIdeal.nD Cert.XgRefIdeal.τ).loc Cert.XgRefIdeal.main_arg1) = m ((c.tc : Thread Cert.XgRefIdeal.nD Cert.XgRefIdeal.τ).loc Cert.XgRefIdeal.main_arg1))
      ∧ r.2.sem = fun _ => 0)

def quiescent_Kp [hKp : Cert.Kp.Facts] : Prop :=
  ∀ (m : (ℓ : Loc Cert.Kp.nD Cert.Kp.τ Cert.Kp.sig) → Buf (Elt Bits) ℓ) (g : Dev Cert.Kp.nD → PrngReg), Pre_Kp m →
    θ_run (Cert.Kp.defs (F := Bits)) (onTc (τ := Cert.Kp.τ) (Cert.Kp.main (F := Bits))) ⟨m, fun _ => 0, g⟩ (fun r => (∀ c : Dev Cert.Kp.nD,
      r.2.mem ((c.tc : Thread Cert.Kp.nD Cert.Kp.τ).loc Cert.Kp.main_arg0) = m ((c.tc : Thread Cert.Kp.nD Cert.Kp.τ).loc Cert.Kp.main_arg0)
      ∧ r.2.mem ((c.tc : Thread Cert.Kp.nD Cert.Kp.τ).loc Cert.Kp.main_arg1) = m ((c.tc : Thread Cert.Kp.nD Cert.Kp.τ).loc Cert.Kp.main_arg1)
      ∧ r.2.mem ((c.tc : Thread Cert.Kp.nD Cert.Kp.τ).loc Cert.Kp.main_arg2) = m ((c.tc : Thread Cert.Kp.nD Cert.Kp.τ).loc Cert.Kp.main_arg2))
      ∧ r.2.sem = fun _ => 0)

def quiescent_KpIdeal [hKpIdeal : Cert.KpIdeal.Facts] : Prop :=
  ∀ (m : (ℓ : Loc Cert.KpIdeal.nD Cert.KpIdeal.τ Cert.KpIdeal.sig) → Buf (Elt Ideal) ℓ) (g : Dev Cert.KpIdeal.nD → PrngReg), Pre_KpIdeal m →
    θ_run (Cert.KpIdeal.defs (F := Ideal)) (onTc (τ := Cert.KpIdeal.τ) (Cert.KpIdeal.main (F := Ideal))) ⟨m, fun _ => 0, g⟩ (fun r => (∀ c : Dev Cert.KpIdeal.nD,
      r.2.mem ((c.tc : Thread Cert.KpIdeal.nD Cert.KpIdeal.τ).loc Cert.KpIdeal.main_arg0) = m ((c.tc : Thread Cert.KpIdeal.nD Cert.KpIdeal.τ).loc Cert.KpIdeal.main_arg0)
      ∧ r.2.mem ((c.tc : Thread Cert.KpIdeal.nD Cert.KpIdeal.τ).loc Cert.KpIdeal.main_arg1) = m ((c.tc : Thread Cert.KpIdeal.nD Cert.KpIdeal.τ).loc Cert.KpIdeal.main_arg1)
      ∧ r.2.mem ((c.tc : Thread Cert.KpIdeal.nD Cert.KpIdeal.τ).loc Cert.KpIdeal.main_arg2) = m ((c.tc : Thread Cert.KpIdeal.nD Cert.KpIdeal.τ).loc Cert.KpIdeal.main_arg2))
      ∧ r.2.sem = fun _ => 0)

def quiescent_KpRefIdeal [hKpRefIdeal : Cert.KpRefIdeal.Facts] : Prop :=
  ∀ (m : (ℓ : Loc Cert.KpRefIdeal.nD Cert.KpRefIdeal.τ Cert.KpRefIdeal.sig) → Buf (Elt Ideal) ℓ) (g : Dev Cert.KpRefIdeal.nD → PrngReg), Pre_KpRefIdeal m →
    θ_run (Cert.KpRefIdeal.defs (F := Ideal)) (onTc (τ := Cert.KpRefIdeal.τ) (Cert.KpRefIdeal.main (F := Ideal))) ⟨m, fun _ => 0, g⟩ (fun r => (∀ c : Dev Cert.KpRefIdeal.nD,
      r.2.mem ((c.tc : Thread Cert.KpRefIdeal.nD Cert.KpRefIdeal.τ).loc Cert.KpRefIdeal.main_arg0) = m ((c.tc : Thread Cert.KpRefIdeal.nD Cert.KpRefIdeal.τ).loc Cert.KpRefIdeal.main_arg0)
      ∧ r.2.mem ((c.tc : Thread Cert.KpRefIdeal.nD Cert.KpRefIdeal.τ).loc Cert.KpRefIdeal.main_arg1) = m ((c.tc : Thread Cert.KpRefIdeal.nD Cert.KpRefIdeal.τ).loc Cert.KpRefIdeal.main_arg1)
      ∧ r.2.mem ((c.tc : Thread Cert.KpRefIdeal.nD Cert.KpRefIdeal.τ).loc Cert.KpRefIdeal.main_arg2) = m ((c.tc : Thread Cert.KpRefIdeal.nD Cert.KpRefIdeal.τ).loc Cert.KpRefIdeal.main_arg2))
      ∧ r.2.sem = fun _ => 0)

def quiescent_Ks [hKs : Cert.Ks.Facts] : Prop :=
  ∀ (m : (ℓ : Loc Cert.Ks.nD Cert.Ks.τ Cert.Ks.sig) → Buf (Elt Bits) ℓ) (g : Dev Cert.Ks.nD → PrngReg), Pre_Ks m →
    θ_run (Cert.Ks.defs (F := Bits)) (onTc (τ := Cert.Ks.τ) (Cert.Ks.main (F := Bits))) ⟨m, fun _ => 0, g⟩ (fun r => (∀ c : Dev Cert.Ks.nD,
      r.2.mem ((c.tc : Thread Cert.Ks.nD Cert.Ks.τ).loc Cert.Ks.main_arg0) = m ((c.tc : Thread Cert.Ks.nD Cert.Ks.τ).loc Cert.Ks.main_arg0)
      ∧ r.2.mem ((c.tc : Thread Cert.Ks.nD Cert.Ks.τ).loc Cert.Ks.main_arg1) = m ((c.tc : Thread Cert.Ks.nD Cert.Ks.τ).loc Cert.Ks.main_arg1)
      ∧ r.2.mem ((c.tc : Thread Cert.Ks.nD Cert.Ks.τ).loc Cert.Ks.main_arg2) = m ((c.tc : Thread Cert.Ks.nD Cert.Ks.τ).loc Cert.Ks.main_arg2))
      ∧ r.2.sem = fun _ => 0)

def quiescent_KsIdeal [hKsIdeal : Cert.KsIdeal.Facts] : Prop :=
  ∀ (m : (ℓ : Loc Cert.KsIdeal.nD Cert.KsIdeal.τ Cert.KsIdeal.sig) → Buf (Elt Ideal) ℓ) (g : Dev Cert.KsIdeal.nD → PrngReg), Pre_KsIdeal m →
    θ_run (Cert.KsIdeal.defs (F := Ideal)) (onTc (τ := Cert.KsIdeal.τ) (Cert.KsIdeal.main (F := Ideal))) ⟨m, fun _ => 0, g⟩ (fun r => (∀ c : Dev Cert.KsIdeal.nD,
      r.2.mem ((c.tc : Thread Cert.KsIdeal.nD Cert.KsIdeal.τ).loc Cert.KsIdeal.main_arg0) = m ((c.tc : Thread Cert.KsIdeal.nD Cert.KsIdeal.τ).loc Cert.KsIdeal.main_arg0)
      ∧ r.2.mem ((c.tc : Thread Cert.KsIdeal.nD Cert.KsIdeal.τ).loc Cert.KsIdeal.main_arg1) = m ((c.tc : Thread Cert.KsIdeal.nD Cert.KsIdeal.τ).loc Cert.KsIdeal.main_arg1)
      ∧ r.2.mem ((c.tc : Thread Cert.KsIdeal.nD Cert.KsIdeal.τ).loc Cert.KsIdeal.main_arg2) = m ((c.tc : Thread Cert.KsIdeal.nD Cert.KsIdeal.τ).loc Cert.KsIdeal.main_arg2))
      ∧ r.2.sem = fun _ => 0)

def quiescent_KsRefIdeal [hKsRefIdeal : Cert.KsRefIdeal.Facts] : Prop :=
  ∀ (m : (ℓ : Loc Cert.KsRefIdeal.nD Cert.KsRefIdeal.τ Cert.KsRefIdeal.sig) → Buf (Elt Ideal) ℓ) (g : Dev Cert.KsRefIdeal.nD → PrngReg), Pre_KsRefIdeal m →
    θ_run (Cert.KsRefIdeal.defs (F := Ideal)) (onTc (τ := Cert.KsRefIdeal.τ) (Cert.KsRefIdeal.main (F := Ideal))) ⟨m, fun _ => 0, g⟩ (fun r => (∀ c : Dev Cert.KsRefIdeal.nD,
      r.2.mem ((c.tc : Thread Cert.KsRefIdeal.nD Cert.KsRefIdeal.τ).loc Cert.KsRefIdeal.main_arg0) = m ((c.tc : Thread Cert.KsRefIdeal.nD Cert.KsRefIdeal.τ).loc Cert.KsRefIdeal.main_arg0)
      ∧ r.2.mem ((c.tc : Thread Cert.KsRefIdeal.nD Cert.KsRefIdeal.τ).loc Cert.KsRefIdeal.main_arg1) = m ((c.tc : Thread Cert.KsRefIdeal.nD Cert.KsRefIdeal.τ).loc Cert.KsRefIdeal.main_arg1)
      ∧ r.2.mem ((c.tc : Thread Cert.KsRefIdeal.nD Cert.KsRefIdeal.τ).loc Cert.KsRefIdeal.main_arg2) = m ((c.tc : Thread Cert.KsRefIdeal.nD Cert.KsRefIdeal.τ).loc Cert.KsRefIdeal.main_arg2))
      ∧ r.2.sem = fun _ => 0)

def quiescent_Scp [hScp : Cert.Scp.Facts] : Prop :=
  ∀ (m : (ℓ : Loc Cert.Scp.nD Cert.Scp.τ Cert.Scp.sig) → Buf (Elt Bits) ℓ) (g : Dev Cert.Scp.nD → PrngReg), Pre_Scp m →
    θ_run (Cert.Scp.defs (F := Bits)) (onTc (τ := Cert.Scp.τ) (Cert.Scp.main (F := Bits))) ⟨m, fun _ => 0, g⟩ (fun r => (∀ c : Dev Cert.Scp.nD,
      r.2.mem ((c.tc : Thread Cert.Scp.nD Cert.Scp.τ).loc Cert.Scp.main_arg0) = m ((c.tc : Thread Cert.Scp.nD Cert.Scp.τ).loc Cert.Scp.main_arg0)
      ∧ r.2.mem ((c.tc : Thread Cert.Scp.nD Cert.Scp.τ).loc Cert.Scp.main_arg1) = m ((c.tc : Thread Cert.Scp.nD Cert.Scp.τ).loc Cert.Scp.main_arg1)
      ∧ r.2.mem ((c.tc : Thread Cert.Scp.nD Cert.Scp.τ).loc Cert.Scp.main_arg2) = m ((c.tc : Thread Cert.Scp.nD Cert.Scp.τ).loc Cert.Scp.main_arg2))
      ∧ r.2.sem = fun _ => 0)

def quiescent_ScpIdeal [hScpIdeal : Cert.ScpIdeal.Facts] : Prop :=
  ∀ (m : (ℓ : Loc Cert.ScpIdeal.nD Cert.ScpIdeal.τ Cert.ScpIdeal.sig) → Buf (Elt Ideal) ℓ) (g : Dev Cert.ScpIdeal.nD → PrngReg), Pre_ScpIdeal m →
    θ_run (Cert.ScpIdeal.defs (F := Ideal)) (onTc (τ := Cert.ScpIdeal.τ) (Cert.ScpIdeal.main (F := Ideal))) ⟨m, fun _ => 0, g⟩ (fun r => (∀ c : Dev Cert.ScpIdeal.nD,
      r.2.mem ((c.tc : Thread Cert.ScpIdeal.nD Cert.ScpIdeal.τ).loc Cert.ScpIdeal.main_arg0) = m ((c.tc : Thread Cert.ScpIdeal.nD Cert.ScpIdeal.τ).loc Cert.ScpIdeal.main_arg0)
      ∧ r.2.mem ((c.tc : Thread Cert.ScpIdeal.nD Cert.ScpIdeal.τ).loc Cert.ScpIdeal.main_arg1) = m ((c.tc : Thread Cert.ScpIdeal.nD Cert.ScpIdeal.τ).loc Cert.ScpIdeal.main_arg1)
      ∧ r.2.mem ((c.tc : Thread Cert.ScpIdeal.nD Cert.ScpIdeal.τ).loc Cert.ScpIdeal.main_arg2) = m ((c.tc : Thread Cert.ScpIdeal.nD Cert.ScpIdeal.τ).loc Cert.ScpIdeal.main_arg2))
      ∧ r.2.sem = fun _ => 0)

def quiescent_ScpRefIdeal [hScpRefIdeal : Cert.ScpRefIdeal.Facts] : Prop :=
  ∀ (m : (ℓ : Loc Cert.ScpRefIdeal.nD Cert.ScpRefIdeal.τ Cert.ScpRefIdeal.sig) → Buf (Elt Ideal) ℓ) (g : Dev Cert.ScpRefIdeal.nD → PrngReg), Pre_ScpRefIdeal m →
    θ_run (Cert.ScpRefIdeal.defs (F := Ideal)) (onTc (τ := Cert.ScpRefIdeal.τ) (Cert.ScpRefIdeal.main (F := Ideal))) ⟨m, fun _ => 0, g⟩ (fun r => (∀ c : Dev Cert.ScpRefIdeal.nD,
      r.2.mem ((c.tc : Thread Cert.ScpRefIdeal.nD Cert.ScpRefIdeal.τ).loc Cert.ScpRefIdeal.main_arg0) = m ((c.tc : Thread Cert.ScpRefIdeal.nD Cert.ScpRefIdeal.τ).loc Cert.ScpRefIdeal.main_arg0)
      ∧ r.2.mem ((c.tc : Thread Cert.ScpRefIdeal.nD Cert.ScpRefIdeal.τ).loc Cert.ScpRefIdeal.main_arg1) = m ((c.tc : Thread Cert.ScpRefIdeal.nD Cert.ScpRefIdeal.τ).loc Cert.ScpRefIdeal.main_arg1)
      ∧ r.2.mem ((c.tc : Thread Cert.ScpRefIdeal.nD Cert.ScpRefIdeal.τ).loc Cert.ScpRefIdeal.main_arg2) = m ((c.tc : Thread Cert.ScpRefIdeal.nD Cert.ScpRefIdeal.τ).loc Cert.ScpRefIdeal.main_arg2))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_attnp_finite [hAttnIdeal : Cert.AttnIdeal.Facts] [hAttnRefIdeal : Cert.AttnRefIdeal.Facts] [hPre_attnp_finite : Cert.Pre_attnp_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attnp_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v16)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v16) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v59) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_Sconv_SconvIdeal : Prop :=
  True

def algebraic_SconvIdeal_SconvRefIdeal [hSconvIdeal : Cert.SconvIdeal.Facts] [hSconvRefIdeal : Cert.SconvRefIdeal.Facts] : Prop :=
  ∀ (m : (ℓ : Loc Cert.SconvIdeal.nD Cert.SconvIdeal.τ Cert.SconvIdeal.sig) → Buf (Elt Ideal) ℓ) (g : Dev Cert.SconvIdeal.nD → PrngReg)
    (m' : (ℓ : Loc Cert.SconvRefIdeal.nD Cert.SconvRefIdeal.τ Cert.SconvRefIdeal.sig) → Buf (Elt Ideal) ℓ) (g' : Dev Cert.SconvRefIdeal.nD → PrngReg), Pre_SconvIdeal m →
    (∀ c : Dev Cert.SconvIdeal.nD,
      m' ((c.tc : Thread Cert.SconvRefIdeal.nD Cert.SconvRefIdeal.τ).loc Cert.SconvRefIdeal.main_arg0) = m ((c.tc : Thread Cert.SconvIdeal.nD Cert.SconvIdeal.τ).loc Cert.SconvIdeal.main_arg0)
      ∧ m' ((c.tc : Thread Cert.SconvRefIdeal.nD Cert.SconvRefIdeal.τ).loc Cert.SconvRefIdeal.main_arg1) = m ((c.tc : Thread Cert.SconvIdeal.nD Cert.SconvIdeal.τ).loc Cert.SconvIdeal.main_arg1)
      ∧ m' ((c.tc : Thread Cert.SconvRefIdeal.nD Cert.SconvRefIdeal.τ).loc Cert.SconvRefIdeal.main_arg2) = m ((c.tc : Thread Cert.SconvIdeal.nD Cert.SconvIdeal.τ).loc Cert.SconvIdeal.main_arg2)
      ∧ m' ((c.tc : Thread Cert.SconvRefIdeal.nD Cert.SconvRefIdeal.τ).loc Cert.SconvRefIdeal.main_arg3) = m ((c.tc : Thread Cert.SconvIdeal.nD Cert.SconvIdeal.τ).loc Cert.SconvIdeal.main_arg3)) →
    ∃ (v0 : (c : Dev Cert.SconvIdeal.nD) → Buf (Elt Ideal) ((c.tc : Thread Cert.SconvIdeal.nD Cert.SconvIdeal.τ).loc Cert.SconvIdeal.main_v7_0)) (v1 : (c : Dev Cert.SconvIdeal.nD) → Buf (Elt Ideal) ((c.tc : Thread Cert.SconvIdeal.nD Cert.SconvIdeal.τ).loc Cert.SconvIdeal.main_v7_1)),
      θ_run (Cert.SconvIdeal.defs (F := Ideal)) (onTc (τ := Cert.SconvIdeal.τ) (Cert.SconvIdeal.main (F := Ideal))) ⟨m, fun _ => 0, g⟩ (fun r => ∀ c : Dev Cert.SconvIdeal.nD,
          r.2.mem ((c.tc : Thread Cert.SconvIdeal.nD Cert.SconvIdeal.τ).loc Cert.SconvIdeal.main_v7_0) = v0 c
          ∧ r.2.mem ((c.tc : Thread Cert.SconvIdeal.nD Cert.SconvIdeal.τ).loc Cert.SconvIdeal.main_v7_1) = v1 c
          ∧ r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
          ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
          ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2)
          ∧ r.2.mem ((c.tc : Thread Cert.SconvIdeal.nD Cert.SconvIdeal.τ).loc Cert.SconvIdeal.main_arg3) = m ((c.tc : Thread Cert.SconvIdeal.nD Cert.SconvIdeal.τ).loc Cert.SconvIdeal.main_arg3))
      ∧ θ_run (Cert.SconvRefIdeal.defs (F := Ideal)) (onTc (τ := Cert.SconvRefIdeal.τ) (Cert.SconvRefIdeal.main (F := Ideal))) ⟨m', fun _ => 0, g'⟩ (fun r => ∀ c : Dev Cert.SconvRefIdeal.nD,
          r.2.mem ((c.tc : Thread Cert.SconvRefIdeal.nD Cert.SconvRefIdeal.τ).loc Cert.SconvRefIdeal.main_v32) = v0 c
          ∧ r.2.mem ((c.tc : Thread Cert.SconvRefIdeal.nD Cert.SconvRefIdeal.τ).loc Cert.SconvRefIdeal.main_v34) = v1 c
          ∧ r.2.mem ((c.tc : Thread Cert.SconvRefIdeal.nD Cert.SconvRefIdeal.τ).loc Cert.SconvRefIdeal.main_arg0) = m' ((c.tc : Thread Cert.SconvRefIdeal.nD Cert.SconvRefIdeal.τ).loc Cert.SconvRefIdeal.main_arg0)
          ∧ r.2.mem ((c.tc : Thread Cert.SconvRefIdeal.nD Cert.SconvRefIdeal.τ).loc Cert.SconvRefIdeal.main_arg1) = m' ((c.tc : Thread Cert.SconvRefIdeal.nD Cert.SconvRefIdeal.τ).loc Cert.SconvRefIdeal.main_arg1)
          ∧ r.2.mem ((c.tc : Thread Cert.SconvRefIdeal.nD Cert.SconvRefIdeal.τ).loc Cert.SconvRefIdeal.main_arg2) = m' ((c.tc : Thread Cert.SconvRefIdeal.nD Cert.SconvRefIdeal.τ).loc Cert.SconvRefIdeal.main_arg2)
          ∧ r.2.mem ((c.tc : Thread Cert.SconvRefIdeal.nD Cert.SconvRefIdeal.τ).loc Cert.SconvRefIdeal.main_arg3) = m' ((c.tc : Thread Cert.SconvRefIdeal.nD Cert.SconvRefIdeal.τ).loc Cert.SconvRefIdeal.main_arg3))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v9)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v9) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v15) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Mlps_MlpsIdeal : Prop :=
  True

def algebraic_MlpsIdeal_MlpsRefIdeal [hMlpsIdeal : Cert.MlpsIdeal.Facts] [hMlpsRefIdeal : Cert.MlpsRefIdeal.Facts] : Prop :=
  ∀ (m : (ℓ : Loc Cert.MlpsIdeal.nD Cert.MlpsIdeal.τ Cert.MlpsIdeal.sig) → Buf (Elt Ideal) ℓ) (g : Dev Cert.MlpsIdeal.nD → PrngReg)
    (m' : (ℓ : Loc Cert.MlpsRefIdeal.nD Cert.MlpsRefIdeal.τ Cert.MlpsRefIdeal.sig) → Buf (Elt Ideal) ℓ) (g' : Dev Cert.MlpsRefIdeal.nD → PrngReg), Pre_MlpsIdeal m →
    (∀ c : Dev Cert.MlpsIdeal.nD,
      m' ((c.tc : Thread Cert.MlpsRefIdeal.nD Cert.MlpsRefIdeal.τ).loc Cert.MlpsRefIdeal.main_arg0) = m ((c.tc : Thread Cert.MlpsIdeal.nD Cert.MlpsIdeal.τ).loc Cert.MlpsIdeal.main_arg0)
      ∧ m' ((c.tc : Thread Cert.MlpsRefIdeal.nD Cert.MlpsRefIdeal.τ).loc Cert.MlpsRefIdeal.main_arg1) = m ((c.tc : Thread Cert.MlpsIdeal.nD Cert.MlpsIdeal.τ).loc Cert.MlpsIdeal.main_arg1)
      ∧ m' ((c.tc : Thread Cert.MlpsRefIdeal.nD Cert.MlpsRefIdeal.τ).loc Cert.MlpsRefIdeal.main_arg2) = m ((c.tc : Thread Cert.MlpsIdeal.nD Cert.MlpsIdeal.τ).loc Cert.MlpsIdeal.main_arg2)
      ∧ m' ((c.tc : Thread Cert.MlpsRefIdeal.nD Cert.MlpsRefIdeal.τ).loc Cert.MlpsRefIdeal.main_arg3) = m ((c.tc : Thread Cert.MlpsIdeal.nD Cert.MlpsIdeal.τ).loc Cert.MlpsIdeal.main_arg3)
      ∧ m' ((c.tc : Thread Cert.MlpsRefIdeal.nD Cert.MlpsRefIdeal.τ).loc Cert.MlpsRefIdeal.main_arg4) = m ((c.tc : Thread Cert.MlpsIdeal.nD Cert.MlpsIdeal.τ).loc Cert.MlpsIdeal.main_arg4)) →
    ∃ (v0 : (c : Dev Cert.MlpsIdeal.nD) → Buf (Elt Ideal) ((c.tc : Thread Cert.MlpsIdeal.nD Cert.MlpsIdeal.τ).loc Cert.MlpsIdeal.main_v10)),
      θ_run (Cert.MlpsIdeal.defs (F := Ideal)) (onTc (τ := Cert.MlpsIdeal.τ) (Cert.MlpsIdeal.main (F := Ideal))) ⟨m, fun _ => 0, g⟩ (fun r => ∀ c : Dev Cert.MlpsIdeal.nD,
          r.2.mem ((c.tc : Thread Cert.MlpsIdeal.nD Cert.MlpsIdeal.τ).loc Cert.MlpsIdeal.main_v10) = v0 c
          ∧ r.2.mem ((c.tc : Thread Cert.MlpsIdeal.nD Cert.MlpsIdeal.τ).loc Cert.MlpsIdeal.main_arg0) = m ((c.tc : Thread Cert.MlpsIdeal.nD Cert.MlpsIdeal.τ).loc Cert.MlpsIdeal.main_arg0)
          ∧ r.2.mem ((c.tc : Thread Cert.MlpsIdeal.nD Cert.MlpsIdeal.τ).loc Cert.MlpsIdeal.main_arg1) = m ((c.tc : Thread Cert.MlpsIdeal.nD Cert.MlpsIdeal.τ).loc Cert.MlpsIdeal.main_arg1)
          ∧ r.2.mem ((c.tc : Thread Cert.MlpsIdeal.nD Cert.MlpsIdeal.τ).loc Cert.MlpsIdeal.main_arg2) = m ((c.tc : Thread Cert.MlpsIdeal.nD Cert.MlpsIdeal.τ).loc Cert.MlpsIdeal.main_arg2)
          ∧ r.2.mem ((c.tc : Thread Cert.MlpsIdeal.nD Cert.MlpsIdeal.τ).loc Cert.MlpsIdeal.main_arg3) = m ((c.tc : Thread Cert.MlpsIdeal.nD Cert.MlpsIdeal.τ).loc Cert.MlpsIdeal.main_arg3)
          ∧ r.2.mem ((c.tc : Thread Cert.MlpsIdeal.nD Cert.MlpsIdeal.τ).loc Cert.MlpsIdeal.main_arg4) = m ((c.tc : Thread Cert.MlpsIdeal.nD Cert.MlpsIdeal.τ).loc Cert.MlpsIdeal.main_arg4))
      ∧ θ_run (Cert.MlpsRefIdeal.defs (F := Ideal)) (onTc (τ := Cert.MlpsRefIdeal.τ) (Cert.MlpsRefIdeal.main (F := Ideal))) ⟨m', fun _ => 0, g'⟩ (fun r => ∀ c : Dev Cert.MlpsRefIdeal.nD,
          r.2.mem ((c.tc : Thread Cert.MlpsRefIdeal.nD Cert.MlpsRefIdeal.τ).loc Cert.MlpsRefIdeal.main_v16) = v0 c
          ∧ r.2.mem ((c.tc : Thread Cert.MlpsRefIdeal.nD Cert.MlpsRefIdeal.τ).loc Cert.MlpsRefIdeal.main_arg0) = m' ((c.tc : Thread Cert.MlpsRefIdeal.nD Cert.MlpsRefIdeal.τ).loc Cert.MlpsRefIdeal.main_arg0)
          ∧ r.2.mem ((c.tc : Thread Cert.MlpsRefIdeal.nD Cert.MlpsRefIdeal.τ).loc Cert.MlpsRefIdeal.main_arg1) = m' ((c.tc : Thread Cert.MlpsRefIdeal.nD Cert.MlpsRefIdeal.τ).loc Cert.MlpsRefIdeal.main_arg1)
          ∧ r.2.mem ((c.tc : Thread Cert.MlpsRefIdeal.nD Cert.MlpsRefIdeal.τ).loc Cert.MlpsRefIdeal.main_arg2) = m' ((c.tc : Thread Cert.MlpsRefIdeal.nD Cert.MlpsRefIdeal.τ).loc Cert.MlpsRefIdeal.main_arg2)
          ∧ r.2.mem ((c.tc : Thread Cert.MlpsRefIdeal.nD Cert.MlpsRefIdeal.τ).loc Cert.MlpsRefIdeal.main_arg3) = m' ((c.tc : Thread Cert.MlpsRefIdeal.nD Cert.MlpsRefIdeal.τ).loc Cert.MlpsRefIdeal.main_arg3)
          ∧ r.2.mem ((c.tc : Thread Cert.MlpsRefIdeal.nD Cert.MlpsRefIdeal.τ).loc Cert.MlpsRefIdeal.main_arg4) = m' ((c.tc : Thread Cert.MlpsRefIdeal.nD Cert.MlpsRefIdeal.τ).loc Cert.MlpsRefIdeal.main_arg4))

def preserves_Vs_VsIdeal : Prop :=
  True

def algebraic_VsIdeal_VsRefIdeal [hVsIdeal : Cert.VsIdeal.Facts] [hVsRefIdeal : Cert.VsRefIdeal.Facts] : Prop :=
  ∀ (m : (ℓ : Loc Cert.VsIdeal.nD Cert.VsIdeal.τ Cert.VsIdeal.sig) → Buf (Elt Ideal) ℓ) (g : Dev Cert.VsIdeal.nD → PrngReg)
    (m' : (ℓ : Loc Cert.VsRefIdeal.nD Cert.VsRefIdeal.τ Cert.VsRefIdeal.sig) → Buf (Elt Ideal) ℓ) (g' : Dev Cert.VsRefIdeal.nD → PrngReg), Pre_VsIdeal m →
    (∀ c : Dev Cert.VsIdeal.nD,
      m' ((c.tc : Thread Cert.VsRefIdeal.nD Cert.VsRefIdeal.τ).loc Cert.VsRefIdeal.main_arg0) = m ((c.tc : Thread Cert.VsIdeal.nD Cert.VsIdeal.τ).loc Cert.VsIdeal.main_arg0)
      ∧ m' ((c.tc : Thread Cert.VsRefIdeal.nD Cert.VsRefIdeal.τ).loc Cert.VsRefIdeal.main_arg1) = m ((c.tc : Thread Cert.VsIdeal.nD Cert.VsIdeal.τ).loc Cert.VsIdeal.main_arg1)) →
    ∃ (v0 : (c : Dev Cert.VsIdeal.nD) → Buf (Elt Ideal) ((c.tc : Thread Cert.VsIdeal.nD Cert.VsIdeal.τ).loc Cert.VsIdeal.main_v3_0)),
      θ_run (Cert.VsIdeal.defs (F := Ideal)) (onTc (τ := Cert.VsIdeal.τ) (Cert.VsIdeal.main (F := Ideal))) ⟨m, fun _ => 0, g⟩ (fun r => ∀ c : Dev Cert.VsIdeal.nD,
          r.2.mem ((c.tc : Thread Cert.VsIdeal.nD Cert.VsIdeal.τ).loc Cert.VsIdeal.main_v3_0) = v0 c
          ∧ r.2.mem ((c.tc : Thread Cert.VsIdeal.nD Cert.VsIdeal.τ).loc Cert.VsIdeal.main_arg0) = m ((c.tc : Thread Cert.VsIdeal.nD Cert.VsIdeal.τ).loc Cert.VsIdeal.main_arg0)
          ∧ r.2.mem ((c.tc : Thread Cert.VsIdeal.nD Cert.VsIdeal.τ).loc Cert.VsIdeal.main_arg1) = m ((c.tc : Thread Cert.VsIdeal.nD Cert.VsIdeal.τ).loc Cert.VsIdeal.main_arg1))
      ∧ θ_run (Cert.VsRefIdeal.defs (F := Ideal)) (onTc (τ := Cert.VsRefIdeal.τ) (Cert.VsRefIdeal.main (F := Ideal))) ⟨m', fun _ => 0, g'⟩ (fun r => ∀ c : Dev Cert.VsRefIdeal.nD,
          r.2.mem ((c.tc : Thread Cert.VsRefIdeal.nD Cert.VsRefIdeal.τ).loc Cert.VsRefIdeal.main_v4) = v0 c
          ∧ r.2.mem ((c.tc : Thread Cert.VsRefIdeal.nD Cert.VsRefIdeal.τ).loc Cert.VsRefIdeal.main_arg0) = m' ((c.tc : Thread Cert.VsRefIdeal.nD Cert.VsRefIdeal.τ).loc Cert.VsRefIdeal.main_arg0)
          ∧ r.2.mem ((c.tc : Thread Cert.VsRefIdeal.nD Cert.VsRefIdeal.τ).loc Cert.VsRefIdeal.main_arg1) = m' ((c.tc : Thread Cert.VsRefIdeal.nD Cert.VsRefIdeal.τ).loc Cert.VsRefIdeal.main_arg1))

def preserves_Vp_VpIdeal : Prop :=
  True

def algebraic_VpIdeal_VpRefIdeal [hVpIdeal : Cert.VpIdeal.Facts] [hVpRefIdeal : Cert.VpRefIdeal.Facts] : Prop :=
  ∀ (m : (ℓ : Loc Cert.VpIdeal.nD Cert.VpIdeal.τ Cert.VpIdeal.sig) → Buf (Elt Ideal) ℓ) (g : Dev Cert.VpIdeal.nD → PrngReg)
    (m' : (ℓ : Loc Cert.VpRefIdeal.nD Cert.VpRefIdeal.τ Cert.VpRefIdeal.sig) → Buf (Elt Ideal) ℓ) (g' : Dev Cert.VpRefIdeal.nD → PrngReg), Pre_VpIdeal m →
    (∀ c : Dev Cert.VpIdeal.nD,
      m' ((c.tc : Thread Cert.VpRefIdeal.nD Cert.VpRefIdeal.τ).loc Cert.VpRefIdeal.main_arg0) = m ((c.tc : Thread Cert.VpIdeal.nD Cert.VpIdeal.τ).loc Cert.VpIdeal.main_arg0)
      ∧ m' ((c.tc : Thread Cert.VpRefIdeal.nD Cert.VpRefIdeal.τ).loc Cert.VpRefIdeal.main_arg1) = m ((c.tc : Thread Cert.VpIdeal.nD Cert.VpIdeal.τ).loc Cert.VpIdeal.main_arg1)) →
    ∃ (v0 : (c : Dev Cert.VpIdeal.nD) → Buf (Elt Ideal) ((c.tc : Thread Cert.VpIdeal.nD Cert.VpIdeal.τ).loc Cert.VpIdeal.main_v5_0)),
      θ_run (Cert.VpIdeal.defs (F := Ideal)) (onTc (τ := Cert.VpIdeal.τ) (Cert.VpIdeal.main (F := Ideal))) ⟨m, fun _ => 0, g⟩ (fun r => ∀ c : Dev Cert.VpIdeal.nD,
          r.2.mem ((c.tc : Thread Cert.VpIdeal.nD Cert.VpIdeal.τ).loc Cert.VpIdeal.main_v5_0) = v0 c
          ∧ r.2.mem ((c.tc : Thread Cert.VpIdeal.nD Cert.VpIdeal.τ).loc Cert.VpIdeal.main_arg0) = m ((c.tc : Thread Cert.VpIdeal.nD Cert.VpIdeal.τ).loc Cert.VpIdeal.main_arg0)
          ∧ r.2.mem ((c.tc : Thread Cert.VpIdeal.nD Cert.VpIdeal.τ).loc Cert.VpIdeal.main_arg1) = m ((c.tc : Thread Cert.VpIdeal.nD Cert.VpIdeal.τ).loc Cert.VpIdeal.main_arg1))
      ∧ θ_run (Cert.VpRefIdeal.defs (F := Ideal)) (onTc (τ := Cert.VpRefIdeal.τ) (Cert.VpRefIdeal.main (F := Ideal))) ⟨m', fun _ => 0, g'⟩ (fun r => ∀ c : Dev Cert.VpRefIdeal.nD,
          r.2.mem ((c.tc : Thread Cert.VpRefIdeal.nD Cert.VpRefIdeal.τ).loc Cert.VpRefIdeal.main_v3) = v0 c
          ∧ r.2.mem ((c.tc : Thread Cert.VpRefIdeal.nD Cert.VpRefIdeal.τ).loc Cert.VpRefIdeal.main_arg0) = m' ((c.tc : Thread Cert.VpRefIdeal.nD Cert.VpRefIdeal.τ).loc Cert.VpRefIdeal.main_arg0)
          ∧ r.2.mem ((c.tc : Thread Cert.VpRefIdeal.nD Cert.VpRefIdeal.τ).loc Cert.VpRefIdeal.main_arg1) = m' ((c.tc : Thread Cert.VpRefIdeal.nD Cert.VpRefIdeal.τ).loc Cert.VpRefIdeal.main_arg1))

def preserves_Xg_XgIdeal : Prop :=
  True

def algebraic_XgIdeal_XgRefIdeal [hXgIdeal : Cert.XgIdeal.Facts] [hXgRefIdeal : Cert.XgRefIdeal.Facts] : Prop :=
  ∀ (m : (ℓ : Loc Cert.XgIdeal.nD Cert.XgIdeal.τ Cert.XgIdeal.sig) → Buf (Elt Ideal) ℓ) (g : Dev Cert.XgIdeal.nD → PrngReg)
    (m' : (ℓ : Loc Cert.XgRefIdeal.nD Cert.XgRefIdeal.τ Cert.XgRefIdeal.sig) → Buf (Elt Ideal) ℓ) (g' : Dev Cert.XgRefIdeal.nD → PrngReg), Pre_XgIdeal m →
    (∀ c : Dev Cert.XgIdeal.nD,
      m' ((c.tc : Thread Cert.XgRefIdeal.nD Cert.XgRefIdeal.τ).loc Cert.XgRefIdeal.main_arg0) = m ((c.tc : Thread Cert.XgIdeal.nD Cert.XgIdeal.τ).loc Cert.XgIdeal.main_arg0)
      ∧ m' ((c.tc : Thread Cert.XgRefIdeal.nD Cert.XgRefIdeal.τ).loc Cert.XgRefIdeal.main_arg1) = m ((c.tc : Thread Cert.XgIdeal.nD Cert.XgIdeal.τ).loc Cert.XgIdeal.main_arg1)) →
    ∃ (v0 : (c : Dev Cert.XgIdeal.nD) → Buf (Elt Ideal) ((c.tc : Thread Cert.XgIdeal.nD Cert.XgIdeal.τ).loc Cert.XgIdeal.main_v3_0)),
      θ_run (Cert.XgIdeal.defs (F := Ideal)) (onTc (τ := Cert.XgIdeal.τ) (Cert.XgIdeal.main (F := Ideal))) ⟨m, fun _ => 0, g⟩ (fun r => ∀ c : Dev Cert.XgIdeal.nD,
          r.2.mem ((c.tc : Thread Cert.XgIdeal.nD Cert.XgIdeal.τ).loc Cert.XgIdeal.main_v3_0) = v0 c
          ∧ r.2.mem ((c.tc : Thread Cert.XgIdeal.nD Cert.XgIdeal.τ).loc Cert.XgIdeal.main_arg0) = m ((c.tc : Thread Cert.XgIdeal.nD Cert.XgIdeal.τ).loc Cert.XgIdeal.main_arg0)
          ∧ r.2.mem ((c.tc : Thread Cert.XgIdeal.nD Cert.XgIdeal.τ).loc Cert.XgIdeal.main_arg1) = m ((c.tc : Thread Cert.XgIdeal.nD Cert.XgIdeal.τ).loc Cert.XgIdeal.main_arg1))
      ∧ θ_run (Cert.XgRefIdeal.defs (F := Ideal)) (onTc (τ := Cert.XgRefIdeal.τ) (Cert.XgRefIdeal.main (F := Ideal))) ⟨m', fun _ => 0, g'⟩ (fun r => ∀ c : Dev Cert.XgRefIdeal.nD,
          r.2.mem ((c.tc : Thread Cert.XgRefIdeal.nD Cert.XgRefIdeal.τ).loc Cert.XgRefIdeal.main_v4) = v0 c
          ∧ r.2.mem ((c.tc : Thread Cert.XgRefIdeal.nD Cert.XgRefIdeal.τ).loc Cert.XgRefIdeal.main_arg0) = m' ((c.tc : Thread Cert.XgRefIdeal.nD Cert.XgRefIdeal.τ).loc Cert.XgRefIdeal.main_arg0)
          ∧ r.2.mem ((c.tc : Thread Cert.XgRefIdeal.nD Cert.XgRefIdeal.τ).loc Cert.XgRefIdeal.main_arg1) = m' ((c.tc : Thread Cert.XgRefIdeal.nD Cert.XgRefIdeal.τ).loc Cert.XgRefIdeal.main_arg1))

def preserves_Kp_KpIdeal : Prop :=
  True

def algebraic_KpIdeal_KpRefIdeal [hKpIdeal : Cert.KpIdeal.Facts] [hKpRefIdeal : Cert.KpRefIdeal.Facts] : Prop :=
  ∀ (m : (ℓ : Loc Cert.KpIdeal.nD Cert.KpIdeal.τ Cert.KpIdeal.sig) → Buf (Elt Ideal) ℓ) (g : Dev Cert.KpIdeal.nD → PrngReg)
    (m' : (ℓ : Loc Cert.KpRefIdeal.nD Cert.KpRefIdeal.τ Cert.KpRefIdeal.sig) → Buf (Elt Ideal) ℓ) (g' : Dev Cert.KpRefIdeal.nD → PrngReg), Pre_KpIdeal m →
    (∀ c : Dev Cert.KpIdeal.nD,
      m' ((c.tc : Thread Cert.KpRefIdeal.nD Cert.KpRefIdeal.τ).loc Cert.KpRefIdeal.main_arg0) = m ((c.tc : Thread Cert.KpIdeal.nD Cert.KpIdeal.τ).loc Cert.KpIdeal.main_arg0)
      ∧ m' ((c.tc : Thread Cert.KpRefIdeal.nD Cert.KpRefIdeal.τ).loc Cert.KpRefIdeal.main_arg1) = m ((c.tc : Thread Cert.KpIdeal.nD Cert.KpIdeal.τ).loc Cert.KpIdeal.main_arg1)
      ∧ m' ((c.tc : Thread Cert.KpRefIdeal.nD Cert.KpRefIdeal.τ).loc Cert.KpRefIdeal.main_arg2) = m ((c.tc : Thread Cert.KpIdeal.nD Cert.KpIdeal.τ).loc Cert.KpIdeal.main_arg2)) →
    ∃ (v0 : (c : Dev Cert.KpIdeal.nD) → Buf (Elt Ideal) ((c.tc : Thread Cert.KpIdeal.nD Cert.KpIdeal.τ).loc Cert.KpIdeal.main_v29_0)),
      θ_run (Cert.KpIdeal.defs (F := Ideal)) (onTc (τ := Cert.KpIdeal.τ) (Cert.KpIdeal.main (F := Ideal))) ⟨m, fun _ => 0, g⟩ (fun r => ∀ c : Dev Cert.KpIdeal.nD,
          r.2.mem ((c.tc : Thread Cert.KpIdeal.nD Cert.KpIdeal.τ).loc Cert.KpIdeal.main_v29_0) = v0 c
          ∧ r.2.mem ((c.tc : Thread Cert.KpIdeal.nD Cert.KpIdeal.τ).loc Cert.KpIdeal.main_arg0) = m ((c.tc : Thread Cert.KpIdeal.nD Cert.KpIdeal.τ).loc Cert.KpIdeal.main_arg0)
          ∧ r.2.mem ((c.tc : Thread Cert.KpIdeal.nD Cert.KpIdeal.τ).loc Cert.KpIdeal.main_arg1) = m ((c.tc : Thread Cert.KpIdeal.nD Cert.KpIdeal.τ).loc Cert.KpIdeal.main_arg1)
          ∧ r.2.mem ((c.tc : Thread Cert.KpIdeal.nD Cert.KpIdeal.τ).loc Cert.KpIdeal.main_arg2) = m ((c.tc : Thread Cert.KpIdeal.nD Cert.KpIdeal.τ).loc Cert.KpIdeal.main_arg2))
      ∧ θ_run (Cert.KpRefIdeal.defs (F := Ideal)) (onTc (τ := Cert.KpRefIdeal.τ) (Cert.KpRefIdeal.main (F := Ideal))) ⟨m', fun _ => 0, g'⟩ (fun r => ∀ c : Dev Cert.KpRefIdeal.nD,
          r.2.mem ((c.tc : Thread Cert.KpRefIdeal.nD Cert.KpRefIdeal.τ).loc Cert.KpRefIdeal.main_v52) = v0 c
          ∧ r.2.mem ((c.tc : Thread Cert.KpRefIdeal.nD Cert.KpRefIdeal.τ).loc Cert.KpRefIdeal.main_arg0) = m' ((c.tc : Thread Cert.KpRefIdeal.nD Cert.KpRefIdeal.τ).loc Cert.KpRefIdeal.main_arg0)
          ∧ r.2.mem ((c.tc : Thread Cert.KpRefIdeal.nD Cert.KpRefIdeal.τ).loc Cert.KpRefIdeal.main_arg1) = m' ((c.tc : Thread Cert.KpRefIdeal.nD Cert.KpRefIdeal.τ).loc Cert.KpRefIdeal.main_arg1)
          ∧ r.2.mem ((c.tc : Thread Cert.KpRefIdeal.nD Cert.KpRefIdeal.τ).loc Cert.KpRefIdeal.main_arg2) = m' ((c.tc : Thread Cert.KpRefIdeal.nD Cert.KpRefIdeal.τ).loc Cert.KpRefIdeal.main_arg2))

def preserves_Ks_KsIdeal : Prop :=
  True

def algebraic_KsIdeal_KsRefIdeal [hKsIdeal : Cert.KsIdeal.Facts] [hKsRefIdeal : Cert.KsRefIdeal.Facts] : Prop :=
  ∀ (m : (ℓ : Loc Cert.KsIdeal.nD Cert.KsIdeal.τ Cert.KsIdeal.sig) → Buf (Elt Ideal) ℓ) (g : Dev Cert.KsIdeal.nD → PrngReg)
    (m' : (ℓ : Loc Cert.KsRefIdeal.nD Cert.KsRefIdeal.τ Cert.KsRefIdeal.sig) → Buf (Elt Ideal) ℓ) (g' : Dev Cert.KsRefIdeal.nD → PrngReg), Pre_KsIdeal m →
    (∀ c : Dev Cert.KsIdeal.nD,
      m' ((c.tc : Thread Cert.KsRefIdeal.nD Cert.KsRefIdeal.τ).loc Cert.KsRefIdeal.main_arg0) = m ((c.tc : Thread Cert.KsIdeal.nD Cert.KsIdeal.τ).loc Cert.KsIdeal.main_arg0)
      ∧ m' ((c.tc : Thread Cert.KsRefIdeal.nD Cert.KsRefIdeal.τ).loc Cert.KsRefIdeal.main_arg1) = m ((c.tc : Thread Cert.KsIdeal.nD Cert.KsIdeal.τ).loc Cert.KsIdeal.main_arg1)
      ∧ m' ((c.tc : Thread Cert.KsRefIdeal.nD Cert.KsRefIdeal.τ).loc Cert.KsRefIdeal.main_arg2) = m ((c.tc : Thread Cert.KsIdeal.nD Cert.KsIdeal.τ).loc Cert.KsIdeal.main_arg2)) →
    ∃ (v0 : (c : Dev Cert.KsIdeal.nD) → Buf (Elt Ideal) ((c.tc : Thread Cert.KsIdeal.nD Cert.KsIdeal.τ).loc Cert.KsIdeal.main_v33_0)),
      θ_run (Cert.KsIdeal.defs (F := Ideal)) (onTc (τ := Cert.KsIdeal.τ) (Cert.KsIdeal.main (F := Ideal))) ⟨m, fun _ => 0, g⟩ (fun r => ∀ c : Dev Cert.KsIdeal.nD,
          r.2.mem ((c.tc : Thread Cert.KsIdeal.nD Cert.KsIdeal.τ).loc Cert.KsIdeal.main_v33_0) = v0 c
          ∧ r.2.mem ((c.tc : Thread Cert.KsIdeal.nD Cert.KsIdeal.τ).loc Cert.KsIdeal.main_arg0) = m ((c.tc : Thread Cert.KsIdeal.nD Cert.KsIdeal.τ).loc Cert.KsIdeal.main_arg0)
          ∧ r.2.mem ((c.tc : Thread Cert.KsIdeal.nD Cert.KsIdeal.τ).loc Cert.KsIdeal.main_arg1) = m ((c.tc : Thread Cert.KsIdeal.nD Cert.KsIdeal.τ).loc Cert.KsIdeal.main_arg1)
          ∧ r.2.mem ((c.tc : Thread Cert.KsIdeal.nD Cert.KsIdeal.τ).loc Cert.KsIdeal.main_arg2) = m ((c.tc : Thread Cert.KsIdeal.nD Cert.KsIdeal.τ).loc Cert.KsIdeal.main_arg2))
      ∧ θ_run (Cert.KsRefIdeal.defs (F := Ideal)) (onTc (τ := Cert.KsRefIdeal.τ) (Cert.KsRefIdeal.main (F := Ideal))) ⟨m', fun _ => 0, g'⟩ (fun r => ∀ c : Dev Cert.KsRefIdeal.nD,
          r.2.mem ((c.tc : Thread Cert.KsRefIdeal.nD Cert.KsRefIdeal.τ).loc Cert.KsRefIdeal.main_v55) = v0 c
          ∧ r.2.mem ((c.tc : Thread Cert.KsRefIdeal.nD Cert.KsRefIdeal.τ).loc Cert.KsRefIdeal.main_arg0) = m' ((c.tc : Thread Cert.KsRefIdeal.nD Cert.KsRefIdeal.τ).loc Cert.KsRefIdeal.main_arg0)
          ∧ r.2.mem ((c.tc : Thread Cert.KsRefIdeal.nD Cert.KsRefIdeal.τ).loc Cert.KsRefIdeal.main_arg1) = m' ((c.tc : Thread Cert.KsRefIdeal.nD Cert.KsRefIdeal.τ).loc Cert.KsRefIdeal.main_arg1)
          ∧ r.2.mem ((c.tc : Thread Cert.KsRefIdeal.nD Cert.KsRefIdeal.τ).loc Cert.KsRefIdeal.main_arg2) = m' ((c.tc : Thread Cert.KsRefIdeal.nD Cert.KsRefIdeal.τ).loc Cert.KsRefIdeal.main_arg2))

def preserves_Scp_ScpIdeal : Prop :=
  True

def algebraic_ScpIdeal_ScpRefIdeal [hScpIdeal : Cert.ScpIdeal.Facts] [hScpRefIdeal : Cert.ScpRefIdeal.Facts] : Prop :=
  ∀ (m : (ℓ : Loc Cert.ScpIdeal.nD Cert.ScpIdeal.τ Cert.ScpIdeal.sig) → Buf (Elt Ideal) ℓ) (g : Dev Cert.ScpIdeal.nD → PrngReg)
    (m' : (ℓ : Loc Cert.ScpRefIdeal.nD Cert.ScpRefIdeal.τ Cert.ScpRefIdeal.sig) → Buf (Elt Ideal) ℓ) (g' : Dev Cert.ScpRefIdeal.nD → PrngReg), Pre_ScpIdeal m →
    (∀ c : Dev Cert.ScpIdeal.nD,
      m' ((c.tc : Thread Cert.ScpRefIdeal.nD Cert.ScpRefIdeal.τ).loc Cert.ScpRefIdeal.main_arg0) = m ((c.tc : Thread Cert.ScpIdeal.nD Cert.ScpIdeal.τ).loc Cert.ScpIdeal.main_arg0)
      ∧ m' ((c.tc : Thread Cert.ScpRefIdeal.nD Cert.ScpRefIdeal.τ).loc Cert.ScpRefIdeal.main_arg1) = m ((c.tc : Thread Cert.ScpIdeal.nD Cert.ScpIdeal.τ).loc Cert.ScpIdeal.main_arg1)
      ∧ m' ((c.tc : Thread Cert.ScpRefIdeal.nD Cert.ScpRefIdeal.τ).loc Cert.ScpRefIdeal.main_arg2) = m ((c.tc : Thread Cert.ScpIdeal.nD Cert.ScpIdeal.τ).loc Cert.ScpIdeal.main_arg2)) →
    ∃ (v0 : (c : Dev Cert.ScpIdeal.nD) → Buf (Elt Ideal) ((c.tc : Thread Cert.ScpIdeal.nD Cert.ScpIdeal.τ).loc Cert.ScpIdeal.main_v12_0)) (v1 : (c : Dev Cert.ScpIdeal.nD) → Buf (Elt Ideal) ((c.tc : Thread Cert.ScpIdeal.nD Cert.ScpIdeal.τ).loc Cert.ScpIdeal.main_v12_1)),
      θ_run (Cert.ScpIdeal.defs (F := Ideal)) (onTc (τ := Cert.ScpIdeal.τ) (Cert.ScpIdeal.main (F := Ideal))) ⟨m, fun _ => 0, g⟩ (fun r => ∀ c : Dev Cert.ScpIdeal.nD,
          r.2.mem ((c.tc : Thread Cert.ScpIdeal.nD Cert.ScpIdeal.τ).loc Cert.ScpIdeal.main_v12_0) = v0 c
          ∧ r.2.mem ((c.tc : Thread Cert.ScpIdeal.nD Cert.ScpIdeal.τ).loc Cert.ScpIdeal.main_v12_1) = v1 c
          ∧ r.2.mem ((c.tc : Thread Cert.ScpIdeal.nD Cert.ScpIdeal.τ).loc Cert.ScpIdeal.main_arg0) = m ((c.tc : Thread Cert.ScpIdeal.nD Cert.ScpIdeal.τ).loc Cert.ScpIdeal.main_arg0)
          ∧ r.2.mem ((c.tc : Thread Cert.ScpIdeal.nD Cert.ScpIdeal.τ).loc Cert.ScpIdeal.main_arg1) = m ((c.tc : Thread Cert.ScpIdeal.nD Cert.ScpIdeal.τ).loc Cert.ScpIdeal.main_arg1)
          ∧ r.2.mem ((c.tc : Thread Cert.ScpIdeal.nD Cert.ScpIdeal.τ).loc Cert.ScpIdeal.main_arg2) = m ((c.tc : Thread Cert.ScpIdeal.nD Cert.ScpIdeal.τ).loc Cert.ScpIdeal.main_arg2))
      ∧ θ_run (Cert.ScpRefIdeal.defs (F := Ideal)) (onTc (τ := Cert.ScpRefIdeal.τ) (Cert.ScpRefIdeal.main (F := Ideal))) ⟨m', fun _ => 0, g'⟩ (fun r => ∀ c : Dev Cert.ScpRefIdeal.nD,
          r.2.mem ((c.tc : Thread Cert.ScpRefIdeal.nD Cert.ScpRefIdeal.τ).loc Cert.ScpRefIdeal.main_v30) = v0 c
          ∧ r.2.mem ((c.tc : Thread Cert.ScpRefIdeal.nD Cert.ScpRefIdeal.τ).loc Cert.ScpRefIdeal.main_v31) = v1 c
          ∧ r.2.mem ((c.tc : Thread Cert.ScpRefIdeal.nD Cert.ScpRefIdeal.τ).loc Cert.ScpRefIdeal.main_arg0) = m' ((c.tc : Thread Cert.ScpRefIdeal.nD Cert.ScpRefIdeal.τ).loc Cert.ScpRefIdeal.main_arg0)
          ∧ r.2.mem ((c.tc : Thread Cert.ScpRefIdeal.nD Cert.ScpRefIdeal.τ).loc Cert.ScpRefIdeal.main_arg1) = m' ((c.tc : Thread Cert.ScpRefIdeal.nD Cert.ScpRefIdeal.τ).loc Cert.ScpRefIdeal.main_arg1)
          ∧ r.2.mem ((c.tc : Thread Cert.ScpRefIdeal.nD Cert.ScpRefIdeal.τ).loc Cert.ScpRefIdeal.main_arg2) = m' ((c.tc : Thread Cert.ScpRefIdeal.nD Cert.ScpRefIdeal.τ).loc Cert.ScpRefIdeal.main_arg2))

def Claim : Prop :=
  ∃ (hAttn : Cert.Attn.Facts) (hAttnIdeal : Cert.AttnIdeal.Facts) (hAttnRefIdeal : Cert.AttnRefIdeal.Facts) (hSconv : Cert.Sconv.Facts) (hSconvIdeal : Cert.SconvIdeal.Facts) (hSconvRefIdeal : Cert.SconvRefIdeal.Facts) (hMlp : Cert.Mlp.Facts) (hMlpIdeal : Cert.MlpIdeal.Facts) (hMlpRefIdeal : Cert.MlpRefIdeal.Facts) (hMlps : Cert.Mlps.Facts) (hMlpsIdeal : Cert.MlpsIdeal.Facts) (hMlpsRefIdeal : Cert.MlpsRefIdeal.Facts) (hVs : Cert.Vs.Facts) (hVsIdeal : Cert.VsIdeal.Facts) (hVsRefIdeal : Cert.VsRefIdeal.Facts) (hVp : Cert.Vp.Facts) (hVpIdeal : Cert.VpIdeal.Facts) (hVpRefIdeal : Cert.VpRefIdeal.Facts) (hXg : Cert.Xg.Facts) (hXgIdeal : Cert.XgIdeal.Facts) (hXgRefIdeal : Cert.XgRefIdeal.Facts) (hKp : Cert.Kp.Facts) (hKpIdeal : Cert.KpIdeal.Facts) (hKpRefIdeal : Cert.KpRefIdeal.Facts) (hKs : Cert.Ks.Facts) (hKsIdeal : Cert.KsIdeal.Facts) (hKsRefIdeal : Cert.KsRefIdeal.Facts) (hScp : Cert.Scp.Facts) (hScpIdeal : Cert.ScpIdeal.Facts) (hScpRefIdeal : Cert.ScpRefIdeal.Facts) (hPre_attnp_finite : Cert.Pre_attnp_finite.Facts),
    quiescent_Attn (hAttn := hAttn)
    ∧ quiescent_AttnIdeal (hAttnIdeal := hAttnIdeal)
    ∧ quiescent_AttnIdeal_pre_attnp_finite (hAttnIdeal := hAttnIdeal) (hPre_attnp_finite := hPre_attnp_finite)
    ∧ quiescent_AttnRefIdeal (hAttnRefIdeal := hAttnRefIdeal)
    ∧ quiescent_AttnRefIdeal_pre_attnp_finite (hAttnRefIdeal := hAttnRefIdeal) (hPre_attnp_finite := hPre_attnp_finite)
    ∧ quiescent_Sconv (hSconv := hSconv)
    ∧ quiescent_SconvIdeal (hSconvIdeal := hSconvIdeal)
    ∧ quiescent_SconvRefIdeal (hSconvRefIdeal := hSconvRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Mlps (hMlps := hMlps)
    ∧ quiescent_MlpsIdeal (hMlpsIdeal := hMlpsIdeal)
    ∧ quiescent_MlpsRefIdeal (hMlpsRefIdeal := hMlpsRefIdeal)
    ∧ quiescent_Vs (hVs := hVs)
    ∧ quiescent_VsIdeal (hVsIdeal := hVsIdeal)
    ∧ quiescent_VsRefIdeal (hVsRefIdeal := hVsRefIdeal)
    ∧ quiescent_Vp (hVp := hVp)
    ∧ quiescent_VpIdeal (hVpIdeal := hVpIdeal)
    ∧ quiescent_VpRefIdeal (hVpRefIdeal := hVpRefIdeal)
    ∧ quiescent_Xg (hXg := hXg)
    ∧ quiescent_XgIdeal (hXgIdeal := hXgIdeal)
    ∧ quiescent_XgRefIdeal (hXgRefIdeal := hXgRefIdeal)
    ∧ quiescent_Kp (hKp := hKp)
    ∧ quiescent_KpIdeal (hKpIdeal := hKpIdeal)
    ∧ quiescent_KpRefIdeal (hKpRefIdeal := hKpRefIdeal)
    ∧ quiescent_Ks (hKs := hKs)
    ∧ quiescent_KsIdeal (hKsIdeal := hKsIdeal)
    ∧ quiescent_KsRefIdeal (hKsRefIdeal := hKsRefIdeal)
    ∧ quiescent_Scp (hScp := hScp)
    ∧ quiescent_ScpIdeal (hScpIdeal := hScpIdeal)
    ∧ quiescent_ScpRefIdeal (hScpRefIdeal := hScpRefIdeal)
    ∧ preserves_Attn_AttnIdeal
    ∧ algebraic_AttnIdeal_AttnRefIdeal_pre_attnp_finite (hAttnIdeal := hAttnIdeal) (hAttnRefIdeal := hAttnRefIdeal) (hPre_attnp_finite := hPre_attnp_finite)
    ∧ preserves_Sconv_SconvIdeal
    ∧ algebraic_SconvIdeal_SconvRefIdeal (hSconvIdeal := hSconvIdeal) (hSconvRefIdeal := hSconvRefIdeal)
    ∧ preserves_Mlp_MlpIdeal
    ∧ algebraic_MlpIdeal_MlpRefIdeal (hMlpIdeal := hMlpIdeal) (hMlpRefIdeal := hMlpRefIdeal)
    ∧ preserves_Mlps_MlpsIdeal
    ∧ algebraic_MlpsIdeal_MlpsRefIdeal (hMlpsIdeal := hMlpsIdeal) (hMlpsRefIdeal := hMlpsRefIdeal)
    ∧ preserves_Vs_VsIdeal
    ∧ algebraic_VsIdeal_VsRefIdeal (hVsIdeal := hVsIdeal) (hVsRefIdeal := hVsRefIdeal)
    ∧ preserves_Vp_VpIdeal
    ∧ algebraic_VpIdeal_VpRefIdeal (hVpIdeal := hVpIdeal) (hVpRefIdeal := hVpRefIdeal)
    ∧ preserves_Xg_XgIdeal
    ∧ algebraic_XgIdeal_XgRefIdeal (hXgIdeal := hXgIdeal) (hXgRefIdeal := hXgRefIdeal)
    ∧ preserves_Kp_KpIdeal
    ∧ algebraic_KpIdeal_KpRefIdeal (hKpIdeal := hKpIdeal) (hKpRefIdeal := hKpRefIdeal)
    ∧ preserves_Ks_KsIdeal
    ∧ algebraic_KsIdeal_KsRefIdeal (hKsIdeal := hKsIdeal) (hKsRefIdeal := hKsRefIdeal)
    ∧ preserves_Scp_ScpIdeal
    ∧ algebraic_ScpIdeal_ScpRefIdeal (hScpIdeal := hScpIdeal) (hScpRefIdeal := hScpRefIdeal)
-- ==== Pre_attnp_finite.lean ====
abbrev S4x2048x8x2x64 : Shape := ⟨5, ![4, 2048, 8, 2, 64]⟩
abbrev S4x2048x8x128 : Shape := ⟨4, ![4, 2048, 8, 128]⟩
abbrev S1x64 : Shape := ⟨2, ![1, 64]⟩
abbrev S1x128 : Shape := ⟨2, ![1, 128]⟩
abbrev S_ : Shape := ⟨0, ![]⟩

class Facts : Prop where
  bcast_S_S4x2048x8x128 : S_.BroadcastsInDim S4x2048x8x128 (![] : Fin 0 → Fin S4x2048x8x128.rank)
  bcast_S_S1x64 : S_.BroadcastsInDim S1x64 (![] : Fin 0 → Fin S1x64.rank)

variable [Facts]

def fn {F : FTy → Type} [FloatOps F] (main_arg0 : FVec F S4x2048x8x2x64 .f32) (main_arg1 : FVec F S4x2048x8x2x64 .f32) (main_arg2 : FVec F S4x2048x8x128 .f32) (main_arg3 : FVec F S1x64 .f32) (main_arg4 : FVec F S1x64 .f32) (main_arg5 : FVec F S1x64 .f32) (main_arg6 : FVec F S1x64 .f32) (main_arg7 : FVec F S1x128 .f32) : IVec S4x2048x8x128 1 × IVec S1x64 1 × IVec S1x64 1 × IVec S1x64 1 × IVec S1x64 1 :=
  let main_v0 : FVec F S4x2048x8x128 .f32 := Host.absf main_arg2
  let main_cst : FVec F S_ .f32 := constant S_ .f32 0x7F800000#32
  let main_v1 : FVec F S4x2048x8x128 .f32 := broadcastInDim S4x2048x8x128 ![] bcast_S_S4x2048x8x128 main_cst
  let main_v2 : IVec S4x2048x8x128 1 := cmpf .olt main_v0 main_v1
  let main_v3 : FVec F S1x64 .f32 := Host.absf main_arg3
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_v6 : FVec F S1x64 .f32 := Host.absf main_arg4
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S1x64 .f32 := Host.absf main_arg5
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S1x64 .f32 := Host.absf main_arg6
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  (main_v2, main_v5, main_v8, main_v11, main_v14)
-- ==== Attn.lean ====
abbrev S4x2048x8x2x64 : Shape := ⟨5, ![4, 2048, 8, 2, 64]⟩
abbrev S4x2048x8x128 : Shape := ⟨4, ![4, 2048, 8, 128]⟩
abbrev S1x64 : Shape := ⟨2, ![1, 64]⟩
abbrev S1x128 : Shape := ⟨2, ![1, 128]⟩
abbrev S8192x8x128 : Shape := ⟨3, ![8192, 8, 128]⟩
abbrev S_ : Shape := ⟨0, ![]⟩
abbrev S8192x1024 : Shape := ⟨2, ![8192, 1024]⟩
abbrev S512x256 : Shape := ⟨2, ![512, 256]⟩
abbrev S2048x256 : Shape := ⟨2, ![2048, 256]⟩
abbrev S1 : Shape := ⟨1, ![1]⟩
abbrev S1x1 : Shape := ⟨2, ![1, 1]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x128 : Shape := ⟨2, ![1024, 128]⟩
abbrev S512x1024 : Shape := ⟨2, ![512, 1024]⟩
abbrev S1536x128 : Shape := ⟨2, ![1536, 128]⟩
abbrev S512x1536 : Shape := ⟨2, ![512, 1536]⟩

abbrev nBuf : Space → Nat
  | .hbm => 33
  | .vmem => 15
  | .smem => 0
  | _ => 0

abbrev bufTy : (tb : Table) → Fin (tcTables nBuf tb) → BufTy
  | .hbm, ⟨0, _⟩ => ⟨S4x2048x8x2x64, .f32⟩
  | .hbm, ⟨1, _⟩ => ⟨S4x2048x8x2x64, .f32⟩
  | .hbm, ⟨2, _⟩ => ⟨S4x2048x8x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S8192x8x128, .f32⟩
  | .hbm, ⟨9, _⟩ => ⟨S_, .f32⟩
  | .hbm, ⟨10, _⟩ => ⟨S8192x8x128, .f32⟩
  | .hbm, ⟨11, _⟩ => ⟨S8192x8x128, .f32⟩
  | .hbm, ⟨12, _⟩ => ⟨S8192x8x128, .i32⟩
  | .hbm, ⟨13, _⟩ => ⟨S_, .i32⟩
  | .hbm, ⟨14, _⟩ => ⟨S8192x8x128, .i32⟩
  | .hbm, ⟨15, _⟩ => ⟨S8192x8x128, .i1⟩
  | .hbm, ⟨16, _⟩ => ⟨S_, .f32⟩
  | .hbm, ⟨17, _⟩ => ⟨S_, .f32⟩
  | .hbm, ⟨18, _⟩ => ⟨S8192x8x128, .f32⟩
  | .hbm, ⟨19, _⟩ => ⟨S8192x8x128, .f32⟩
  | .hbm, ⟨20, _⟩ => ⟨S8192x1024, .f32⟩
  | .hbm, ⟨21, _⟩ => ⟨S8192x1024, .bf16⟩
  | .hbm, ⟨22, _⟩ => ⟨S_, .f32⟩
  | .hbm, ⟨23, _⟩ => ⟨S_, .f32⟩
  | .hbm, ⟨24, _⟩ => ⟨S8192x8x128, .f32⟩
  | .hbm, ⟨25, _⟩ => ⟨S8192x8x128, .f32⟩
  | .hbm, ⟨26, _⟩ => ⟨S8192x1024, .f32⟩
  | .hbm, ⟨27, _⟩ => ⟨S8192x1024, .bf16⟩
  | .hbm, ⟨28, _⟩ => ⟨S8192x1024, .f32⟩
  | .hbm, ⟨29, _⟩ => ⟨S8192x1024, .bf16⟩
  | .hbm, ⟨30, _⟩ => ⟨S8192x1024, .f32⟩
  | .hbm, ⟨31, _⟩ => ⟨S8192x1024, .bf16⟩
  | .hbm, ⟨32, _⟩ => ⟨S8192x1024, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S512x256, .bf16⟩
  | .local _ .vmem, ⟨14, _⟩ => ⟨S512x256, .bf16⟩
  | _, _ => ⟨S4x2048x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_call1_v0 : Ref sig .tc := ⟨.hbm, 23, rfl⟩
abbrev main_call1_v1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![4, 4, 4], ![false, false, false]⟩

def k0_cond1 (i : grid0.Coords) : BitVec 1 :=
  let arg2 : BitVec 32 := BitVec.ofNat 32 (i 2).val
  let c0_i32 : BitVec 32 := 0#32
  let v18 : BitVec 1 := Scalar.cmpi .eq arg2 c0_i32
  let v19 : BitVec 32 := Scalar.extui v18
  let c0_i32_9 : BitVec 32 := 0#32
  let v20 : BitVec 1 := Scalar.cmpi .ne v19 c0_i32_9
  v20

def k0_cond2 (i : grid0.Coords) : BitVec 1 :=
  let arg2 : BitVec 32 := BitVec.ofNat 32 (i 2).val
  let c1_i32 : BitVec 32 := 1#32
  let v21 : BitVec 1 := Scalar.cmpi .eq arg2 c1_i32
  let v22 : BitVec 32 := Scalar.extui v21
  let c0_i32_10 : BitVec 32 := 0#32
  let v23 : BitVec 1 := Scalar.cmpi .ne v22 c0_i32_10
  v23

def k0_cond3 (i : grid0.Coords) : BitVec 1 :=
  let arg2 : BitVec 32 := BitVec.ofNat 32 (i 2).val
  let c2_i32 : BitVec 32 := 2#32
  let v24 : BitVec 1 := Scalar.cmpi .eq arg2 c2_i32
  let v25 : BitVec 32 := Scalar.extui v24
  let c0_i32_11 : BitVec 32 := 0#32
  let v26 : BitVec 1 := Scalar.cmpi .ne v25 c0_i32_11
  v26

def k0_cond4 (i : grid0.Coords) : BitVec 1 :=
  let arg2 : BitVec 32 := BitVec.ofNat 32 (i 2).val
  let c3_i32 : BitVec 32 := 3#32
  let v27 : BitVec 1 := Scalar.cmpi .eq arg2 c3_i32
  let v28 : BitVec 32 := Scalar.extui v27
  let c0_i32_12 : BitVec 32 := 0#32
  let v29 : BitVec 1 := Scalar.cmpi .ne v28 c0_i32_12
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S4x2048x8x2x64 : Shape := ⟨5, ![4, 2048, 8, 2, 64]⟩
abbrev S4x2048x8x128 : Shape := ⟨4, ![4, 2048, 8, 128]⟩
abbrev S1x64 : Shape := ⟨2, ![1, 64]⟩
abbrev S1x128 : Shape := ⟨2, ![1, 128]⟩
abbrev S64 : Shape := ⟨1, ![64]⟩
abbrev S_ : Shape := ⟨0, ![]⟩
abbrev S4x8x2x2048x2048 : Shape := ⟨5, ![4, 8, 2, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2x2048 : Shape := ⟨4, ![4, 8, 2, 2048]⟩
abbrev S4x8x2x2048x1 : Shape := ⟨5, ![4, 8, 2, 2048, 1]⟩
abbrev S4x8x1x2048x2048 : Shape := ⟨5, ![4, 8, 1, 2048, 2048]⟩
abbrev S4x8x2048x2048 : Shape := ⟨4, ![4, 8, 2048, 2048]⟩
abbrev S4x8x128x2048 : Shape := ⟨4, ![4, 8, 128, 2048]⟩
abbrev S4x2048x8 : Shape := ⟨3, ![4, 2048, 8]⟩
abbrev S4x2048x8x1 : Shape := ⟨4, ![4, 2048, 8, 1]⟩
abbrev S128 : Shape := ⟨1, ![128]⟩
abbrev S1x1x1x128 : Shape := ⟨4, ![1, 1, 1, 128]⟩
abbrev S8192x1024 : Shape := ⟨2, ![8192, 1024]⟩

abbrev nBuf : Space → Nat
  | .hbm => 83
  | .vmem => 0
  | .smem => 0
  | _ => 0

abbrev bufTy : (tb : Table) → Fin (tcTables nBuf tb) → BufTy
  | .hbm, ⟨0, _⟩ => ⟨S4x2048x8x2x64, .f32⟩
  | .hbm, ⟨1, _⟩ => ⟨S4x2048x8x2x64, .f32⟩
  | .hbm, ⟨2, _⟩ => ⟨S4x2048x8x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x8x2x2048x2048, .f32⟩
  | .hbm, ⟨24, _⟩ => ⟨S_, .f32⟩
  | .hbm, ⟨25, _⟩ => ⟨S4x8x2x2048x2048, .f32⟩
  | .hbm, ⟨26, _⟩ => ⟨S4x8x2x2048x2048, .f32⟩
  | .hbm, ⟨27, _⟩ => ⟨S2048, .i32⟩
  | .hbm, ⟨28, _⟩ => ⟨S1x2048, .i32⟩
  | .hbm, ⟨29, _⟩ => ⟨S2048x1, .i32⟩
  | .hbm, ⟨30, _⟩ => ⟨S2048x2048, .i32⟩
  | .hbm, ⟨31, _⟩ => ⟨S2048x2048, .i32⟩
  | .hbm, ⟨32, _⟩ => ⟨S2048x2048, .i1⟩
  | .hbm, ⟨33, _⟩ => ⟨S_, .f32⟩
  | .hbm, ⟨34, _⟩ => ⟨S_, .f32⟩
  | .hbm, ⟨35, _⟩ => ⟨S4x8x2x2048x2048, .i1⟩
  | .hbm, ⟨36, _⟩ => ⟨S4x8x2x2048x2048, .f32⟩
  | .hbm, ⟨37, _⟩ => ⟨S4x8x2x2048x2048, .f32⟩
  | .hbm, ⟨38, _⟩ => ⟨S_, .f32⟩
  | .hbm, ⟨39, _⟩ => ⟨S4x8x2x2048, .f32⟩
  | .hbm, ⟨40, _⟩ => ⟨S_, .f32⟩
  | .hbm, ⟨41, _⟩ => ⟨S4x8x2x2048, .f32⟩
  | .hbm, ⟨42, _⟩ => ⟨S4x8x2x2048, .f32⟩
  | .hbm, ⟨43, _⟩ => ⟨S4x8x2x2048x1, .f32⟩
  | .hbm, ⟨44, _⟩ => ⟨S4x8x2x2048x2048, .f32⟩
  | .hbm, ⟨45, _⟩ => ⟨S4x8x2x2048x2048, .f32⟩
  | .hbm, ⟨46, _⟩ => ⟨S4x8x2x2048x2048, .f32⟩
  | .hbm, ⟨47, _⟩ => ⟨S_, .f32⟩
  | .hbm, ⟨48, _⟩ => ⟨S4x8x2x2048, .f32⟩
  | .hbm, ⟨49, _⟩ => ⟨S4x8x2x2048x1, .f32⟩
  | .hbm, ⟨50, _⟩ => ⟨S4x8x2x2048x2048, .f32⟩
  | .hbm, ⟨51, _⟩ => ⟨S4x8x2x2048x2048, .f32⟩
  | .hbm, ⟨52, _⟩ => ⟨S4x8x1x2048x2048, .f32⟩
  | .hbm, ⟨53, _⟩ => ⟨S4x8x2048x2048, .f32⟩
  | .hbm, ⟨54, _⟩ => ⟨S4x8x1x2048x2048, .f32⟩
  | .hbm, ⟨55, _⟩ => ⟨S4x8x2048x2048, .f32⟩
  | .hbm, ⟨56, _⟩ => ⟨S4x8x2048x2048, .f32⟩
  | .hbm, ⟨57, _⟩ => ⟨S4x8x2048x2048, .f32⟩
  | .hbm, ⟨58, _⟩ => ⟨S4x8x2048x2048, .f32⟩
  | .hbm, ⟨59, _⟩ => ⟨S4x8x128x2048, .f32⟩
  | .hbm, ⟨60, _⟩ => ⟨S4x2048x8x128, .f32⟩
  | .hbm, ⟨61, _⟩ => ⟨S4x2048x8x128, .f32⟩
  | .hbm, ⟨62, _⟩ => ⟨S_, .f32⟩
  | .hbm, ⟨63, _⟩ => ⟨S4x2048x8, .f32⟩
  | .hbm, ⟨64, _⟩ => ⟨S4x2048x8x1, .f32⟩
  | .hbm, ⟨65, _⟩ => ⟨S_, .f32⟩
  | .hbm, ⟨66, _⟩ => ⟨S4x2048x8x1, .f32⟩
  | .hbm, ⟨67, _⟩ => ⟨S4x2048x8x1, .f32⟩
  | .hbm, ⟨68, _⟩ => ⟨S_, .f32⟩
  | .hbm, ⟨69, _⟩ => ⟨S4x2048x8x1, .f32⟩
  | .hbm, ⟨70, _⟩ => ⟨S4x2048x8x1, .f32⟩
  | .hbm, ⟨71, _⟩ => ⟨S4x2048x8x1, .f32⟩
  | .hbm, ⟨72, _⟩ => ⟨S4x2048x8x128, .f32⟩
  | .hbm, ⟨73, _⟩ => ⟨S4x2048x8x128, .f32⟩
  | .hbm, ⟨74, _⟩ => ⟨S128, .f32⟩
  | .hbm, ⟨75, _⟩ => ⟨S1x1x1x128, .f32⟩
  | .hbm, ⟨76, _⟩ => ⟨S4x2048x8x128, .f32⟩
  | .hbm, ⟨77, _⟩ => ⟨S4x2048x8x128, .f32⟩
  | .hbm, ⟨78, _⟩ => ⟨S_, .f32⟩
  | .hbm, ⟨79, _⟩ => ⟨S4x2048x8x128, .f32⟩
  | .hbm, ⟨80, _⟩ => ⟨S4x2048x8x128, .f32⟩
  | .hbm, ⟨81, _⟩ => ⟨S8192x1024, .f32⟩
  | .hbm, ⟨82, _⟩ => ⟨S8192x1024, .bf16⟩
  | _, _ => ⟨S4x2048x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Sconv.lean ====
abbrev S128x8x2048 : Shape := ⟨3, ![128, 8, 2048]⟩
abbrev S1x128x2x2048 : Shape := ⟨4, ![1, 128, 2, 2048]⟩
abbrev S1x2048x6144 : Shape := ⟨3, ![1, 2048, 6144]⟩
abbrev S1x3x2048 : Shape := ⟨3, ![1, 3, 2048]⟩
abbrev S8x128x2048 : Shape := ⟨3, ![8, 128, 2048]⟩
abbrev S1024x2048 : Shape := ⟨2, ![1024, 2048]⟩
abbrev S3x2048 : Shape := ⟨2, ![3, 2048]⟩
abbrev S128x2x2048 : Shape := ⟨3, ![128, 2, 2048]⟩
abbrev S2x128x2048 : Shape := ⟨3, ![2, 128, 2048]⟩
abbrev S256x2048 : Shape := ⟨2, ![256, 2048]⟩
abbrev S2048x2048 : Shape := ⟨2, ![2048, 2048]⟩
abbrev S1x2048x256 : Shape := ⟨3, ![1, 2048, 256]⟩
abbrev S3x256 : Shape := ⟨2, ![3, 256]⟩
abbrev S256x256 : Shape := ⟨2, ![256, 256]⟩
abbrev S1024x256 : Shape := ⟨2, ![1024, 256]⟩
abbrev S2048x256 : Shape := ⟨2, ![2048, 256]⟩
abbrev S128x256 : Shape := ⟨2, ![128, 256]⟩
abbrev S1x256 : Shape := ⟨2, ![1, 256]⟩

abbrev nBuf : Space → Nat
  | .hbm => 16
  | .vmem => 21
  | .smem => 0
  | _ => 0

abbrev bufTy : (tb : Table) → Fin (tcTables nBuf tb) → BufTy
  | .hbm, ⟨0, _⟩ => ⟨S128x8x2048, .f32⟩
  | .hbm, ⟨1, _⟩ => ⟨S1x128x2x2048, .f32⟩
  | .hbm, ⟨2, _⟩ => ⟨S1x2048x6144, .f32⟩
  | .hbm, ⟨3, _⟩ => ⟨S1x3x2048, .f32⟩
  | .hbm, ⟨4, _⟩ => ⟨S8x128x2048, .f32⟩
  | .hbm, ⟨5, _⟩ => ⟨S1024x2048, .f32⟩
  | .hbm, ⟨6, _⟩ => ⟨S1024x2048, .bf16⟩
  | .hbm, ⟨7, _⟩ => ⟨S3x2048, .f32⟩
  | .hbm, ⟨8, _⟩ => ⟨S128x2x2048, .f32⟩
  | .hbm, ⟨9, _⟩ => ⟨S2x128x2048, .f32⟩
  | .hbm, ⟨10, _⟩ => ⟨S256x2048, .f32⟩
  | .hbm, ⟨11, _⟩ => ⟨S1024x2048, .bf16⟩
  | .hbm, ⟨12, _⟩ => ⟨S256x2048, .f32⟩
  | .hbm, ⟨13, _⟩ => ⟨S2048x2048, .bf16⟩
  | .hbm, ⟨14, _⟩ => ⟨S2048x2048, .bf16⟩
  | .hbm, ⟨15, _⟩ => ⟨S2048x2048, .bf16⟩
  | .local _ .vmem, ⟨0, _⟩ => ⟨S1024x2048, .bf16⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S3x256, .f32⟩
  | .local _ .vmem, ⟨8, _⟩ => ⟨S3x256, .f32⟩
  | .local _ .vmem, ⟨9, _⟩ => ⟨S256x256, .f32⟩
  | .local _ .vmem, ⟨10, _⟩ => ⟨S256x256, .f32⟩
  | .local _ .vmem, ⟨11, _⟩ => ⟨S1024x256, .bf16⟩
  | .local _ .vmem, ⟨12, _⟩ => ⟨S1024x256, .bf16⟩
  | .local _ .vmem, ⟨13, _⟩ => ⟨S256x256, .f32⟩
  | .local _ .vmem, ⟨14, _⟩ => ⟨S256x256, .f32⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== SconvRefIdeal.lean ====
abbrev S128x8x2048 : Shape := ⟨3, ![128, 8, 2048]⟩
abbrev S1x128x2x2048 : Shape := ⟨4, ![1, 128, 2, 2048]⟩
abbrev S1x2048x6144 : Shape := ⟨3, ![1, 2048, 6144]⟩
abbrev S1x3x2048 : Shape := ⟨3, ![1, 3, 2048]⟩
abbrev S2048x6144 : Shape := ⟨2, ![2048, 6144]⟩
abbrev S128x8x6144 : Shape := ⟨3, ![128, 8, 6144]⟩
abbrev S128x2x2048 : Shape := ⟨3, ![128, 2, 2048]⟩
abbrev S128x10x2048 : Shape := ⟨3, ![128, 10, 2048]⟩
abbrev S1x1x2048 : Shape := ⟨3, ![1, 1, 2048]⟩
abbrev S2048 : Shape := ⟨1, ![2048]⟩
abbrev S8x128x2048 : Shape := ⟨3, ![8, 128, 2048]⟩
abbrev S1024x2048 : Shape := ⟨2, ![1024, 2048]⟩
abbrev S2x128x2048 : Shape := ⟨3, ![2, 128, 2048]⟩
abbrev S256x2048 : Shape := ⟨2, ![256, 2048]⟩

abbrev nBuf : Space → Nat
  | .hbm => 39
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S1x128x2x2048, .f32⟩
  | .hbm, ⟨2, _⟩ => ⟨S1x2048x6144, .f32⟩
  | .hbm, ⟨3, _⟩ => ⟨S1x3x2048, .f32⟩
  | .hbm, ⟨4, _⟩ => ⟨S2048x6144, .f32⟩
  | .hbm, ⟨5, _⟩ => ⟨S128x8x6144, .f32⟩
  | .hbm, ⟨6, _⟩ => ⟨S128x8x2048, .f32⟩
  | .hbm, ⟨7, _⟩ => ⟨S128x8x2048, .f32⟩
  | .hbm, ⟨8, _⟩ => ⟨S128x8x2048, .f32⟩
  | .hbm, ⟨9, _⟩ => ⟨S128x2x2048, .f32⟩
  | .hbm, ⟨10, _⟩ => ⟨S128x8x2048, .f32⟩
  | .hbm, ⟨11, _⟩ => ⟨S128x10x2048, .f32⟩
  | .hbm, ⟨12, _⟩ => ⟨S128x8x2048, .f32⟩
  | .hbm, ⟨13, _⟩ => ⟨S1x1x2048, .f32⟩
  | .hbm, ⟨14, _⟩ => ⟨S2048, .f32⟩
  | .hbm, ⟨15, _⟩ => ⟨S1x1x2048, .f32⟩
  | .hbm, ⟨16, _⟩ => ⟨S128x8x2048, .f32⟩
  | .hbm, ⟨17, _⟩ => ⟨S128x8x2048, .f32⟩
  | .hbm, ⟨18, _⟩ => ⟨S128x8x2048, .f32⟩
  | .hbm, ⟨19, _⟩ => ⟨S1x1x2048, .f32⟩
  | .hbm, ⟨20, _⟩ => ⟨S2048, .f32⟩
  | .hbm, ⟨21, _⟩ => ⟨S1x1x2048, .f32⟩
  | .hbm, ⟨22, _⟩ => ⟨S128x8x2048, .f32⟩
  | .hbm, ⟨23, _⟩ => ⟨S128x8x2048, .f32⟩
  | .hbm, ⟨24, _⟩ => ⟨S128x8x2048, .f32⟩
  | .hbm, ⟨25, _⟩ => ⟨S128x8x2048, .f32⟩
  | .hbm, ⟨26, _⟩ => ⟨S1x1x2048, .f32⟩
  | .hbm, ⟨27, _⟩ => ⟨S2048, .f32⟩
  | .hbm, ⟨28, _⟩ => ⟨S1x1x2048, .f32⟩
  | .hbm, ⟨29, _⟩ => ⟨S128x8x2048, .f32⟩
  | .hbm, ⟨30, _⟩ => ⟨S128x8x2048, .f32⟩
  | .hbm, ⟨31, _⟩ => ⟨S128x8x2048, .f32⟩
  | .hbm, ⟨32, _⟩ => ⟨S128x8x2048, .f32⟩
  | .hbm, ⟨33, _⟩ => ⟨S128x2x2048, .f32⟩
  | .hbm, ⟨34, _⟩ => ⟨S8x128x2048, .f32⟩
  | .hbm, ⟨35, _⟩ => ⟨S1024x2048, .f32⟩
  | .hbm, ⟨36, _⟩ => ⟨S1024x2048, .bf16⟩
  | .hbm, ⟨37, _⟩ => ⟨S2x128x2048, .f32⟩
  | .hbm, ⟨38, _⟩ => ⟨S256x2048, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩

abbrev nD : Nat := 1
abbrev τ : Topo := Topo.v7x

variable {F : FTy → Type} [FloatOps F]
-- ==== Mlp.lean ====
abbrev S4x2048x2048 : Shape := ⟨3, ![4, 2048, 2048]⟩
abbrev S4x6144 : Shape := ⟨2, ![4, 6144]⟩
abbrev S2x2048x8192 : Shape := ⟨3, ![2, 2048, 8192]⟩
abbrev S2x8192x2048 : Shape := ⟨3, ![2, 8192, 2048]⟩
abbrev S4096x8x1024 : Shape := ⟨3, ![4096, 8, 1024]⟩
abbrev S8x4096x1024 : Shape := ⟨3, ![8, 4096, 1024]⟩
abbrev S16384x2048 : Shape := ⟨2, ![16384, 2048]⟩
abbrev S8192x2048 : Shape := ⟨2, ![8192, 2048]⟩
abbrev S4x1x6144 : Shape := ⟨3, ![4, 1, 6144]⟩
abbrev S512x2048 : Shape := ⟨2, ![512, 2048]⟩
abbrev S1x2048x1024 : Shape := ⟨3, ![1, 2048, 1024]⟩
abbrev S1024x2048 : Shape := ⟨2, ![1024, 2048]⟩
abbrev S1x1x2048 : Shape := ⟨3, ![1, 1, 2048]⟩
abbrev S2048x1024 : Shape := ⟨2, ![2048, 1024]⟩
abbrev S512x1024 : Shape := ⟨2, ![512, 1024]⟩
abbrev S8x2048 : Shape := ⟨2, ![8, 2048]⟩
abbrev S1x2048 : Shape := ⟨2, ![1, 2048]⟩

abbrev nBuf : Space → Nat
  | .hbm => 15
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x6144, .f32⟩
  | .hbm, ⟨3, _⟩ => ⟨S2x2048x8192, .f32⟩
  | .hbm, ⟨4, _⟩ => ⟨S2x8192x2048, .f32⟩
  | .hbm, ⟨5, _⟩ => ⟨S4096x8x1024, .f32⟩
  | .hbm, ⟨6, _⟩ => ⟨S8x4096x1024, .f32⟩
  | .hbm, ⟨7, _⟩ => ⟨S8x4096x1024, .bf16⟩
  | .hbm, ⟨8, _⟩ => ⟨S16384x2048, .f32⟩
  | .hbm, ⟨9, _⟩ => ⟨S16384x2048, .bf16⟩
  | .hbm, ⟨10, _⟩ => ⟨S8192x2048, .f32⟩
  | .hbm, ⟨11, _⟩ => ⟨S8192x2048, .bf16⟩
  | .hbm, ⟨12, _⟩ => ⟨S8192x2048, .f32⟩
  | .hbm, ⟨13, _⟩ => ⟨S4x1x6144, .f32⟩
  | .hbm, ⟨14, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x1x2048, .f32⟩
  | .local _ .vmem, ⟨9, _⟩ => ⟨S1x1x2048, .f32⟩
  | .local _ .vmem, ⟨10, _⟩ => ⟨S512x2048, .f32⟩
  | .local _ .vmem, ⟨11, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S4x2048x2048 : Shape := ⟨3, ![4, 2048, 2048]⟩
abbrev S4x6144 : Shape := ⟨2, ![4, 6144]⟩
abbrev S2x2048x8192 : Shape := ⟨3, ![2, 2048, 8192]⟩
abbrev S2x8192x2048 : Shape := ⟨3, ![2, 8192, 2048]⟩
abbrev S4x1x6144 : Shape := ⟨3, ![4, 1, 6144]⟩
abbrev S4x1x2048 : Shape := ⟨3, ![4, 1, 2048]⟩
abbrev S1x2048x8192 : Shape := ⟨3, ![1, 2048, 8192]⟩
abbrev S2048x8192 : Shape := ⟨2, ![2048, 8192]⟩
abbrev S4x2048x8192 : Shape := ⟨3, ![4, 2048, 8192]⟩
abbrev S_ : Shape := ⟨0, ![]⟩
abbrev S1x8192x2048 : Shape := ⟨3, ![1, 8192, 2048]⟩
abbrev S8192x2048 : Shape := ⟨2, ![8192, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x6144, .f32⟩
  | .hbm, ⟨3, _⟩ => ⟨S2x2048x8192, .f32⟩
  | .hbm, ⟨4, _⟩ => ⟨S2x8192x2048, .f32⟩
  | .hbm, ⟨5, _⟩ => ⟨S4x1x6144, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S1x2048x8192, .f32⟩
  | .hbm, ⟨10, _⟩ => ⟨S2048x8192, .f32⟩
  | .hbm, ⟨11, _⟩ => ⟨S4x2048x8192, .f32⟩
  | .hbm, ⟨12, _⟩ => ⟨S_, .f32⟩
  | .hbm, ⟨13, _⟩ => ⟨S4x2048x8192, .f32⟩
  | .hbm, ⟨14, _⟩ => ⟨S4x2048x8192, .f32⟩
  | .hbm, ⟨15, _⟩ => ⟨S4x2048x8192, .f32⟩
  | .hbm, ⟨16, _⟩ => ⟨S1x8192x2048, .f32⟩
  | .hbm, ⟨17, _⟩ => ⟨S8192x2048, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Mlps.lean ====
abbrev S128x8x2048 : Shape := ⟨3, ![128, 8, 2048]⟩
abbrev S128x6144 : Shape := ⟨2, ![128, 6144]⟩
abbrev S2x2048x8192 : Shape := ⟨3, ![2, 2048, 8192]⟩
abbrev S2x8192x2048 : Shape := ⟨3, ![2, 8192, 2048]⟩
abbrev S4096x8x1024 : Shape := ⟨3, ![4096, 8, 1024]⟩
abbrev S8x4096x1024 : Shape := ⟨3, ![8, 4096, 1024]⟩
abbrev S16384x2048 : Shape := ⟨2, ![16384, 2048]⟩
abbrev S8x128x2048 : Shape := ⟨3, ![8, 128, 2048]⟩
abbrev S1024x2048 : Shape := ⟨2, ![1024, 2048]⟩
abbrev S512x2048 : Shape := ⟨2, ![512, 2048]⟩
abbrev S1x2048x1024 : Shape := ⟨3, ![1, 2048, 1024]⟩
abbrev S128x2048 : Shape := ⟨2, ![128, 2048]⟩
abbrev S2048x1024 : Shape := ⟨2, ![2048, 1024]⟩
abbrev S512x1024 : Shape := ⟨2, ![512, 1024]⟩
abbrev S8x2048 : Shape := ⟨2, ![8, 2048]⟩

abbrev nBuf : Space → Nat
  | .hbm => 16
  | .vmem => 11
  | .smem => 0
  | _ => 0

abbrev bufTy : (tb : Table) → Fin (tcTables nBuf tb) → BufTy
  | .hbm, ⟨0, _⟩ => ⟨S128x8x2048, .f32⟩
  | .hbm, ⟨1, _⟩ => ⟨S128x8x2048, .f32⟩
  | .hbm, ⟨2, _⟩ => ⟨S128x6144, .f32⟩
  | .hbm, ⟨3, _⟩ => ⟨S2x2048x8192, .f32⟩
  | .hbm, ⟨4, _⟩ => ⟨S2x8192x2048, .f32⟩
  | .hbm, ⟨5, _⟩ => ⟨S4096x8x1024, .f32⟩
  | .hbm, ⟨6, _⟩ => ⟨S8x4096x1024, .f32⟩
  | .hbm, ⟨7, _⟩ => ⟨S8x4096x1024, .bf16⟩
  | .hbm, ⟨8, _⟩ => ⟨S16384x2048, .f32⟩
  | .hbm, ⟨9, _⟩ => ⟨S16384x2048, .bf16⟩
  | .hbm, ⟨10, _⟩ => ⟨S8x128x2048, .f32⟩
  | .hbm, ⟨11, _⟩ => ⟨S1024x2048, .f32⟩
  | .hbm, ⟨12, _⟩ => ⟨S1024x2048, .bf16⟩
  | .hbm, ⟨13, _⟩ => ⟨S8x128x2048, .f32⟩
  | .hbm, ⟨14, _⟩ => ⟨S1024x2048, .f32⟩
  | .hbm, ⟨15, _⟩ => ⟨S1024x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S128x2048, .f32⟩
  | .local _ .vmem, ⟨9, _⟩ => ⟨S512x2048, .f32⟩
  | .local _ .vmem, ⟨10, _⟩ => ⟨S512x2048, .f32⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpsRefIdeal.lean ====
abbrev S128x8x2048 : Shape := ⟨3, ![128, 8, 2048]⟩
abbrev S128x6144 : Shape := ⟨2, ![128, 6144]⟩
abbrev S2x2048x8192 : Shape := ⟨3, ![2, 2048, 8192]⟩
abbrev S2x8192x2048 : Shape := ⟨3, ![2, 8192, 2048]⟩
abbrev S128x1x6144 : Shape := ⟨3, ![128, 1, 6144]⟩
abbrev S128x1x2048 : Shape := ⟨3, ![128, 1, 2048]⟩
abbrev S1x2048x8192 : Shape := ⟨3, ![1, 2048, 8192]⟩
abbrev S2048x8192 : Shape := ⟨2, ![2048, 8192]⟩
abbrev S128x8x8192 : Shape := ⟨3, ![128, 8, 8192]⟩
abbrev S_ : Shape := ⟨0, ![]⟩
abbrev S1x8192x2048 : Shape := ⟨3, ![1, 8192, 2048]⟩
abbrev S8192x2048 : Shape := ⟨2, ![8192, 2048]⟩
abbrev S8x128x2048 : Shape := ⟨3, ![8, 128, 2048]⟩
abbrev S1024x2048 : Shape := ⟨2, ![1024, 2048]⟩

abbrev nBuf : Space → Nat
  | .hbm => 24
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S128x8x2048, .f32⟩
  | .hbm, ⟨2, _⟩ => ⟨S128x6144, .f32⟩
  | .hbm, ⟨3, _⟩ => ⟨S2x2048x8192, .f32⟩
  | .hbm, ⟨4, _⟩ => ⟨S2x8192x2048, .f32⟩
  | .hbm, ⟨5, _⟩ => ⟨S128x1x6144, .f32⟩
  | .hbm, ⟨6, _⟩ => ⟨S128x1x2048, .f32⟩
  | .hbm, ⟨7, _⟩ => ⟨S128x1x2048, .f32⟩
  | .hbm, ⟨8, _⟩ => ⟨S128x1x2048, .f32⟩
  | .hbm, ⟨9, _⟩ => ⟨S1x2048x8192, .f32⟩
  | .hbm, ⟨10, _⟩ => ⟨S2048x8192, .f32⟩
  | .hbm, ⟨11, _⟩ => ⟨S128x8x8192, .f32⟩
  | .hbm, ⟨12, _⟩ => ⟨S_, .f32⟩
  | .hbm, ⟨13, _⟩ => ⟨S128x8x8192, .f32⟩
  | .hbm, ⟨14, _⟩ => ⟨S128x8x8192, .f32⟩
  | .hbm, ⟨15, _⟩ => ⟨S128x8x8192, .f32⟩
  | .hbm, ⟨16, _⟩ => ⟨S1x8192x2048, .f32⟩
  | .hbm, ⟨17, _⟩ => ⟨S8192x2048, .f32⟩
  | .hbm, ⟨18, _⟩ => ⟨S128x8x2048, .f32⟩
  | .hbm, ⟨19, _⟩ => ⟨S128x8x2048, .f32⟩
  | .hbm, ⟨20, _⟩ => ⟨S128x8x2048, .f32⟩
  | .hbm, ⟨21, _⟩ => ⟨S128x8x2048, .f32⟩
  | .hbm, ⟨22, _⟩ => ⟨S8x128x2048, .f32⟩
  | .hbm, ⟨23, _⟩ => ⟨S1024x2048, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Vs.lean ====
abbrev S128x8x2048 : Shape := ⟨3, ![128, 8, 2048]⟩
abbrev S1x2048x5120 : Shape := ⟨3, ![1, 2048, 5120]⟩
abbrev S8x128x2048 : Shape := ⟨3, ![8, 128, 2048]⟩
abbrev S1024x2048 : Shape := ⟨2, ![1024, 2048]⟩
abbrev S1024x1024 : Shape := ⟨2, ![1024, 1024]⟩
abbrev S2048x1024 : Shape := ⟨2, ![2048, 1024]⟩
abbrev S1x2048x1024 : Shape := ⟨3, ![1, 2048, 1024]⟩

abbrev nBuf : Space → Nat
  | .hbm => 7
  | .vmem => 4
  | .smem => 0
  | _ => 0

abbrev bufTy : (tb : Table) → Fin (tcTables nBuf tb) → BufTy
  | .hbm, ⟨0, _⟩ => ⟨S128x8x2048, .f32⟩
  | .hbm, ⟨1, _⟩ => ⟨S1x2048x5120, .f32⟩
  | .hbm, ⟨2, _⟩ => ⟨S8x128x2048, .f32⟩
  | .hbm, ⟨3, _⟩ => ⟨S1024x2048, .f32⟩
  | .hbm, ⟨4, _⟩ => ⟨S1024x2048, .bf16⟩
  | .hbm, ⟨5, _⟩ => ⟨S1024x1024, .f32⟩
  | .hbm, ⟨6, _⟩ => ⟨S2048x1024, .bf16⟩
  | .local _ .vmem, ⟨0, _⟩ => ⟨S1024x2048, .bf16⟩
  | .local _ .vmem, ⟨1, _⟩ => ⟨S1x2048x1024, .f32⟩
  | .local _ .vmem, ⟨2, _⟩ => ⟨S1024x1024, .f32⟩
  | .local _ .vmem, ⟨3, _⟩ => ⟨S2048x1024, .bf16⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]
-- ==== VsRefIdeal.lean ====
abbrev S128x8x2048 : Shape := ⟨3, ![128, 8, 2048]⟩
abbrev S1x2048x5120 : Shape := ⟨3, ![1, 2048, 5120]⟩
abbrev S1x2048x1024 : Shape := ⟨3, ![1, 2048, 1024]⟩
abbrev S2048x1024 : Shape := ⟨2, ![2048, 1024]⟩
abbrev S128x8x1024 : Shape := ⟨3, ![128, 8, 1024]⟩
abbrev S8x128x1024 : Shape := ⟨3, ![8, 128, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S1x2048x5120, .f32⟩
  | .hbm, ⟨2, _⟩ => ⟨S1x2048x1024, .f32⟩
  | .hbm, ⟨3, _⟩ => ⟨S2048x1024, .f32⟩
  | .hbm, ⟨4, _⟩ => ⟨S128x8x1024, .f32⟩
  | .hbm, ⟨5, _⟩ => ⟨S8x128x1024, .f32⟩
  | .hbm, ⟨6, _⟩ => ⟨S1024x1024, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Vp.lean ====
abbrev S4x2048x2048 : Shape := ⟨3, ![4, 2048, 2048]⟩
abbrev S1x2048x5120 : Shape := ⟨3, ![1, 2048, 5120]⟩
abbrev S1x2048x1024 : Shape := ⟨3, ![1, 2048, 1024]⟩
abbrev S2048x1024 : Shape := ⟨2, ![2048, 1024]⟩
abbrev S8192x2048 : Shape := ⟨2, ![8192, 2048]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S1x2048x5120, .f32⟩
  | .hbm, ⟨2, _⟩ => ⟨S1x2048x1024, .f32⟩
  | .hbm, ⟨3, _⟩ => ⟨S2048x1024, .f32⟩
  | .hbm, ⟨4, _⟩ => ⟨S2048x1024, .bf16⟩
  | .hbm, ⟨5, _⟩ => ⟨S8192x2048, .f32⟩
  | .hbm, ⟨6, _⟩ => ⟨S8192x2048, .bf16⟩
  | .hbm, ⟨7, _⟩ => ⟨S8192x1024, .f32⟩
  | .hbm, ⟨8, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== VpRefIdeal.lean ====
abbrev S4x2048x2048 : Shape := ⟨3, ![4, 2048, 2048]⟩
abbrev S1x2048x5120 : Shape := ⟨3, ![1, 2048, 5120]⟩
abbrev S1x2048x1024 : Shape := ⟨3, ![1, 2048, 1024]⟩
abbrev S2048x1024 : Shape := ⟨2, ![2048, 1024]⟩
abbrev S4x2048x1024 : Shape := ⟨3, ![4, 2048, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048x5120, .f32⟩
  | .hbm, ⟨2, _⟩ => ⟨S1x2048x1024, .f32⟩
  | .hbm, ⟨3, _⟩ => ⟨S2048x1024, .f32⟩
  | .hbm, ⟨4, _⟩ => ⟨S4x2048x1024, .f32⟩
  | .hbm, ⟨5, _⟩ => ⟨S8192x1024, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Xg.lean ====
abbrev S128x8x2048 : Shape := ⟨3, ![128, 8, 2048]⟩
abbrev S1x2048x5120 : Shape := ⟨3, ![1, 2048, 5120]⟩
abbrev S8x128x2048 : Shape := ⟨3, ![8, 128, 2048]⟩
abbrev S1024x2048 : Shape := ⟨2, ![1024, 2048]⟩
abbrev S2048x2048 : Shape := ⟨2, ![2048, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x8x2048, .f32⟩
  | .hbm, ⟨1, _⟩ => ⟨S1x2048x5120, .f32⟩
  | .hbm, ⟨2, _⟩ => ⟨S8x128x2048, .f32⟩
  | .hbm, ⟨3, _⟩ => ⟨S1024x2048, .f32⟩
  | .hbm, ⟨4, _⟩ => ⟨S1024x2048, .bf16⟩
  | .hbm, ⟨5, _⟩ => ⟨S1024x2048, .f32⟩
  | .hbm, ⟨6, _⟩ => ⟨S2048x2048, .bf16⟩
  | .local _ .vmem, ⟨0, _⟩ => ⟨S1024x2048, .bf16⟩
  | .local _ .vmem, ⟨1, _⟩ => ⟨S1x2048x1024, .f32⟩
  | .local _ .vmem, ⟨2, _⟩ => ⟨S1x2048x1024, .f32⟩
  | .local _ .vmem, ⟨3, _⟩ => ⟨S1024x1024, .f32⟩
  | .local _ .vmem, ⟨4, _⟩ => ⟨S1024x1024, .f32⟩
  | .local _ .vmem, ⟨5, _⟩ => ⟨S2048x1024, .bf16⟩
  | .local _ .vmem, ⟨6, _⟩ => ⟨S2048x1024, .bf16⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== XgRefIdeal.lean ====
abbrev S128x8x2048 : Shape := ⟨3, ![128, 8, 2048]⟩
abbrev S1x2048x5120 : Shape := ⟨3, ![1, 2048, 5120]⟩
abbrev S1x2048x2048 : Shape := ⟨3, ![1, 2048, 2048]⟩
abbrev S2048x2048 : Shape := ⟨2, ![2048, 2048]⟩
abbrev S8x128x2048 : Shape := ⟨3, ![8, 128, 2048]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S1x2048x5120, .f32⟩
  | .hbm, ⟨2, _⟩ => ⟨S1x2048x2048, .f32⟩
  | .hbm, ⟨3, _⟩ => ⟨S2048x2048, .f32⟩
  | .hbm, ⟨4, _⟩ => ⟨S128x8x2048, .f32⟩
  | .hbm, ⟨5, _⟩ => ⟨S8x128x2048, .f32⟩
  | .hbm, ⟨6, _⟩ => ⟨S1024x2048, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kp.lean ====
abbrev S4x2048x2048 : Shape := ⟨3, ![4, 2048, 2048]⟩
abbrev S1x2048x5120 : Shape := ⟨3, ![1, 2048, 5120]⟩
abbrev S1x64 : Shape := ⟨2, ![1, 64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S1x2048x1024 : Shape := ⟨3, ![1, 2048, 1024]⟩
abbrev S2048x1024 : Shape := ⟨2, ![2048, 1024]⟩
abbrev S1x1x1x64 : Shape := ⟨4, ![1, 1, 1, 64]⟩
abbrev S1x1x2x64 : Shape := ⟨4, ![1, 1, 2, 64]⟩
abbrev S1x128 : Shape := ⟨2, ![1, 128]⟩
abbrev S1x1x128 : Shape := ⟨3, ![1, 1, 128]⟩
abbrev S8192x2048 : Shape := ⟨2, ![8192, 2048]⟩
abbrev S8192x1024 : Shape := ⟨2, ![8192, 1024]⟩
abbrev S1024x2048 : Shape := ⟨2, ![1024, 2048]⟩
abbrev S1024x128 : Shape := ⟨2, ![1024, 128]⟩
abbrev S1024x1024 : Shape := ⟨2, ![1024, 1024]⟩
abbrev S2048x256 : Shape := ⟨2, ![2048, 256]⟩
abbrev S1024x256 : Shape := ⟨2, ![1024, 256]⟩
abbrev S1024 : Shape := ⟨1, ![1024]⟩
abbrev S1024x1 : Shape := ⟨2, ![1024, 1]⟩

abbrev nBuf : Space → Nat
  | .hbm => 36
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S1x2048x5120, .f32⟩
  | .hbm, ⟨2, _⟩ => ⟨S1x64, .f32⟩
  | .hbm, ⟨3, _⟩ => ⟨S2048, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S2048, .f32⟩
  | .hbm, ⟨13, _⟩ => ⟨S2048x1, .f32⟩
  | .hbm, ⟨14, _⟩ => ⟨S1x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x128, .f32⟩
  | .hbm, ⟨21, _⟩ => ⟨S2048x32, .f32⟩
  | .hbm, ⟨22, _⟩ => ⟨S2048x32, .f32⟩
  | .hbm, ⟨23, _⟩ => ⟨S2048x128, .f32⟩
  | .hbm, ⟨24, _⟩ => ⟨S1x2048x1024, .f32⟩
  | .hbm, ⟨25, _⟩ => ⟨S2048x1024, .f32⟩
  | .hbm, ⟨26, _⟩ => ⟨S2048x1024, .bf16⟩
  | .hbm, ⟨27, _⟩ => ⟨S1x1x1x64, .f32⟩
  | .hbm, ⟨28, _⟩ => ⟨S1x1x2x64, .f32⟩
  | .hbm, ⟨29, _⟩ => ⟨S1x128, .f32⟩
  | .hbm, ⟨30, _⟩ => ⟨S1x1x128, .f32⟩
  | .hbm, ⟨31, _⟩ => ⟨S1x128, .f32⟩
  | .hbm, ⟨32, _⟩ => ⟨S8192x2048, .f32⟩
  | .hbm, ⟨33, _⟩ => ⟨S8192x2048, .bf16⟩
  | .hbm, ⟨34, _⟩ => ⟨S8192x1024, .f32⟩
  | .hbm, ⟨35, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29_0 : Ref sig .tc := ⟨.hbm, 34, rfl⟩
abbrev main_v29_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KpRefIdeal.lean ====
abbrev S4x2048x2048 : Shape := ⟨3, ![4, 2048, 2048]⟩
abbrev S1x2048x5120 : Shape := ⟨3, ![1, 2048, 5120]⟩
abbrev S1x64 : Shape := ⟨2, ![1, 64]⟩
abbrev S1x2048x1024 : Shape := ⟨3, ![1, 2048, 1024]⟩
abbrev S2048x1024 : Shape := ⟨2, ![2048, 1024]⟩
abbrev S4x2048x1024 : Shape := ⟨3, ![4, 2048, 1024]⟩
abbrev S4x2048x8x2x64 : Shape := ⟨5, ![4, 2048, 8, 2, 64]⟩
abbrev S_ : Shape := ⟨0, ![]⟩
abbrev S4x2048x8x2 : Shape := ⟨4, ![4, 2048, 8, 2]⟩
abbrev S4x2048x8x2x1 : Shape := ⟨5, ![4, 2048, 8, 2, 1]⟩
abbrev S64 : Shape := ⟨1, ![64]⟩
abbrev S1x1x1x1x64 : Shape := ⟨5, ![1, 1, 1, 1, 64]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x1x32 : Shape := ⟨4, ![2048, 1, 1, 32]⟩
abbrev S4x2048x8x2x32 : Shape := ⟨5, ![4, 2048, 8, 2, 32]⟩
abbrev S1x2048x1x1x32 : Shape := ⟨5, ![1, 2048, 1, 1, 32]⟩
abbrev S8192x1024 : Shape := ⟨2, ![8192, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048x5120, .f32⟩
  | .hbm, ⟨2, _⟩ => ⟨S1x64, .f32⟩
  | .hbm, ⟨3, _⟩ => ⟨S1x2048x1024, .f32⟩
  | .hbm, ⟨4, _⟩ => ⟨S2048x1024, .f32⟩
  | .hbm, ⟨5, _⟩ => ⟨S4x2048x1024, .f32⟩
  | .hbm, ⟨6, _⟩ => ⟨S4x2048x8x2x64, .f32⟩
  | .hbm, ⟨7, _⟩ => ⟨S4x2048x8x2x64, .f32⟩
  | .hbm, ⟨8, _⟩ => ⟨S_, .f32⟩
  | .hbm, ⟨9, _⟩ => ⟨S4x2048x8x2, .f32⟩
  | .hbm, ⟨10, _⟩ => ⟨S4x2048x8x2x1, .f32⟩
  | .hbm, ⟨11, _⟩ => ⟨S_, .f32⟩
  | .hbm, ⟨12, _⟩ => ⟨S4x2048x8x2x1, .f32⟩
  | .hbm, ⟨13, _⟩ => ⟨S4x2048x8x2x1, .f32⟩
  | .hbm, ⟨14, _⟩ => ⟨S_, .f32⟩
  | .hbm, ⟨15, _⟩ => ⟨S4x2048x8x2x1, .f32⟩
  | .hbm, ⟨16, _⟩ => ⟨S4x2048x8x2x1, .f32⟩
  | .hbm, ⟨17, _⟩ => ⟨S4x2048x8x2x1, .f32⟩
  | .hbm, ⟨18, _⟩ => ⟨S4x2048x8x2x64, .f32⟩
  | .hbm, ⟨19, _⟩ => ⟨S4x2048x8x2x64, .f32⟩
  | .hbm, ⟨20, _⟩ => ⟨S64, .f32⟩
  | .hbm, ⟨21, _⟩ => ⟨S1x1x1x1x64, .f32⟩
  | .hbm, ⟨22, _⟩ => ⟨S4x2048x8x2x64, .f32⟩
  | .hbm, ⟨23, _⟩ => ⟨S4x2048x8x2x64, .f32⟩
  | .hbm, ⟨24, _⟩ => ⟨S2048, .i32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S2048, .f32⟩
  | .hbm, ⟨34, _⟩ => ⟨S2048x1, .f32⟩
  | .hbm, ⟨35, _⟩ => ⟨S1x32, .f32⟩
  | .hbm, ⟨36, _⟩ => ⟨S2048x32, .f32⟩
  | .hbm, ⟨37, _⟩ => ⟨S2048x32, .f32⟩
  | .hbm, ⟨38, _⟩ => ⟨S2048x32, .f32⟩
  | .hbm, ⟨39, _⟩ => ⟨S2048x32, .f32⟩
  | .hbm, ⟨40, _⟩ => ⟨S2048x1x1x32, .f32⟩
  | .hbm, ⟨41, _⟩ => ⟨S2048x32, .f32⟩
  | .hbm, ⟨42, _⟩ => ⟨S2048x1x1x32, .f32⟩
  | .hbm, ⟨43, _⟩ => ⟨S4x2048x8x2x32, .f32⟩
  | .hbm, ⟨44, _⟩ => ⟨S4x2048x8x2x32, .f32⟩
  | .hbm, ⟨45, _⟩ => ⟨S1x2048x1x1x32, .f32⟩
  | .hbm, ⟨46, _⟩ => ⟨S4x2048x8x2x32, .f32⟩
  | .hbm, ⟨47, _⟩ => ⟨S4x2048x8x2x32, .f32⟩
  | .hbm, ⟨48, _⟩ => ⟨S1x2048x1x1x32, .f32⟩
  | .hbm, ⟨49, _⟩ => ⟨S4x2048x8x2x32, .f32⟩
  | .hbm, ⟨50, _⟩ => ⟨S4x2048x8x2x32, .f32⟩
  | .hbm, ⟨51, _⟩ => ⟨S4x2048x8x2x32, .f32⟩
  | .hbm, ⟨52, _⟩ => ⟨S1x2048x1x1x32, .f32⟩
  | .hbm, ⟨53, _⟩ => ⟨S4x2048x8x2x32, .f32⟩
  | .hbm, ⟨54, _⟩ => ⟨S4x2048x8x2x32, .f32⟩
  | .hbm, ⟨55, _⟩ => ⟨S1x2048x1x1x32, .f32⟩
  | .hbm, ⟨56, _⟩ => ⟨S4x2048x8x2x32, .f32⟩
  | .hbm, ⟨57, _⟩ => ⟨S4x2048x8x2x32, .f32⟩
  | .hbm, ⟨58, _⟩ => ⟨S4x2048x8x2x32, .f32⟩
  | .hbm, ⟨59, _⟩ => ⟨S4x2048x8x2x64, .f32⟩
  | .hbm, ⟨60, _⟩ => ⟨S8192x1024, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩

abbrev nD : Nat := 1
abbrev τ : Topo := Topo.v7x

variable {F : FTy → Type} [FloatOps F]
-- ==== Ks.lean ====
abbrev S128x8x2048 : Shape := ⟨3, ![128, 8, 2048]⟩
abbrev S1x2048x5120 : Shape := ⟨3, ![1, 2048, 5120]⟩
abbrev S1x64 : Shape := ⟨2, ![1, 64]⟩
abbrev S8 : Shape := ⟨1, ![8]⟩
abbrev S_ : Shape := ⟨0, ![]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x128 : Shape := ⟨2, ![8, 128]⟩
abbrev S8x128x128 : Shape := ⟨3, ![8, 128, 128]⟩
abbrev S1024x128 : Shape := ⟨2, ![1024, 128]⟩
abbrev S1x1x1x64 : Shape := ⟨4, ![1, 1, 1, 64]⟩
abbrev S1x1x2x64 : Shape := ⟨4, ![1, 1, 2, 64]⟩
abbrev S1x128 : Shape := ⟨2, ![1, 128]⟩
abbrev S1x1x128 : Shape := ⟨3, ![1, 1, 128]⟩
abbrev S8x128x2048 : Shape := ⟨3, ![8, 128, 2048]⟩
abbrev S1024x2048 : Shape := ⟨2, ![1024, 2048]⟩
abbrev S1024x1024 : Shape := ⟨2, ![1024, 1024]⟩
abbrev S2048x1024 : Shape := ⟨2, ![2048, 1024]⟩
abbrev S1x2048x1024 : Shape := ⟨3, ![1, 2048, 1024]⟩
abbrev S1x2048x256 : Shape := ⟨3, ![1, 2048, 256]⟩
abbrev S2048x256 : Shape := ⟨2, ![2048, 256]⟩
abbrev S1024x256 : Shape := ⟨2, ![1024, 256]⟩
abbrev S1024 : Shape := ⟨1, ![1024]⟩
abbrev S1024x1 : Shape := ⟨2, ![1024, 1]⟩

abbrev nBuf : Space → Nat
  | .hbm => 41
  | .vmem => 7
  | .smem => 0
  | _ => 0

abbrev bufTy : (tb : Table) → Fin (tcTables nBuf tb) → BufTy
  | .hbm, ⟨0, _⟩ => ⟨S128x8x2048, .f32⟩
  | .hbm, ⟨1, _⟩ => ⟨S1x2048x5120, .f32⟩
  | .hbm, ⟨2, _⟩ => ⟨S1x64, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S8, .f32⟩
  | .hbm, ⟨16, _⟩ => ⟨S8x1, .f32⟩
  | .hbm, ⟨17, _⟩ => ⟨S1x32, .f32⟩
  | .hbm, ⟨18, _⟩ => ⟨S8x32, .f32⟩
  | .hbm, ⟨19, _⟩ => ⟨S8x32, .f32⟩
  | .hbm, ⟨20, _⟩ => ⟨S8x32, .f32⟩
  | .hbm, ⟨21, _⟩ => ⟨S8x32, .f32⟩
  | .hbm, ⟨22, _⟩ => ⟨S8x32, .f32⟩
  | .hbm, ⟨23, _⟩ => ⟨S8x128, .f32⟩
  | .hbm, ⟨24, _⟩ => ⟨S8x32, .f32⟩
  | .hbm, ⟨25, _⟩ => ⟨S8x32, .f32⟩
  | .hbm, ⟨26, _⟩ => ⟨S8x128, .f32⟩
  | .hbm, ⟨27, _⟩ => ⟨S8x128x128, .f32⟩
  | .hbm, ⟨28, _⟩ => ⟨S1024x128, .f32⟩
  | .hbm, ⟨29, _⟩ => ⟨S8x128x128, .f32⟩
  | .hbm, ⟨30, _⟩ => ⟨S1024x128, .f32⟩
  | .hbm, ⟨31, _⟩ => ⟨S1x1x1x64, .f32⟩
  | .hbm, ⟨32, _⟩ => ⟨S1x1x2x64, .f32⟩
  | .hbm, ⟨33, _⟩ => ⟨S1x128, .f32⟩
  | .hbm, ⟨34, _⟩ => ⟨S1x1x128, .f32⟩
  | .hbm, ⟨35, _⟩ => ⟨S1x128, .f32⟩
  | .hbm, ⟨36, _⟩ => ⟨S8x128x2048, .f32⟩
  | .hbm, ⟨37, _⟩ => ⟨S1024x2048, .f32⟩
  | .hbm, ⟨38, _⟩ => ⟨S1024x2048, .bf16⟩
  | .hbm, ⟨39, _⟩ => ⟨S1024x1024, .f32⟩
  | .hbm, ⟨40, _⟩ => ⟨S2048x1024, .bf16⟩
  | .local _ .vmem, ⟨0, _⟩ => ⟨S1024x2048, .bf16⟩
  | .local _ .vmem, ⟨1, _⟩ => ⟨S1x2048x1024, .f32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x1024, .f32⟩
  | .local _ .vmem, ⟨6, _⟩ => ⟨S2048x1024, .bf16⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33_0 : Ref sig .tc := ⟨.hbm, 39, rfl⟩
abbrev main_v33_1 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]
-- ==== KsRefIdeal.lean ====
abbrev S128x8x2048 : Shape := ⟨3, ![128, 8, 2048]⟩
abbrev S1x2048x5120 : Shape := ⟨3, ![1, 2048, 5120]⟩
abbrev S1x64 : Shape := ⟨2, ![1, 64]⟩
abbrev S1x2048x1024 : Shape := ⟨3, ![1, 2048, 1024]⟩
abbrev S2048x1024 : Shape := ⟨2, ![2048, 1024]⟩
abbrev S128x8x1024 : Shape := ⟨3, ![128, 8, 1024]⟩
abbrev S128x8x8x2x64 : Shape := ⟨5, ![128, 8, 8, 2, 64]⟩
abbrev S_ : Shape := ⟨0, ![]⟩
abbrev S128x8x8x2 : Shape := ⟨4, ![128, 8, 8, 2]⟩
abbrev S128x8x8x2x1 : Shape := ⟨5, ![128, 8, 8, 2, 1]⟩
abbrev S64 : Shape := ⟨1, ![64]⟩
abbrev S1x1x1x1x64 : Shape := ⟨5, ![1, 1, 1, 1, 64]⟩
abbrev S8 : Shape := ⟨1, ![8]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x1x1x32 : Shape := ⟨4, ![8, 1, 1, 32]⟩
abbrev S128x8x8x2x32 : Shape := ⟨5, ![128, 8, 8, 2, 32]⟩
abbrev S1x8x1x1x32 : Shape := ⟨5, ![1, 8, 1, 1, 32]⟩
abbrev S8x128x8x2x64 : Shape := ⟨5, ![8, 128, 8, 2, 64]⟩
abbrev S1024x1024 : Shape := ⟨2, ![1024, 1024]⟩

abbrev nBuf : Space → Nat
  | .hbm => 65
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S1x2048x5120, .f32⟩
  | .hbm, ⟨2, _⟩ => ⟨S1x64, .f32⟩
  | .hbm, ⟨3, _⟩ => ⟨S1x2048x1024, .f32⟩
  | .hbm, ⟨4, _⟩ => ⟨S2048x1024, .f32⟩
  | .hbm, ⟨5, _⟩ => ⟨S128x8x1024, .f32⟩
  | .hbm, ⟨6, _⟩ => ⟨S128x8x8x2x64, .f32⟩
  | .hbm, ⟨7, _⟩ => ⟨S128x8x8x2x64, .f32⟩
  | .hbm, ⟨8, _⟩ => ⟨S_, .f32⟩
  | .hbm, ⟨9, _⟩ => ⟨S128x8x8x2, .f32⟩
  | .hbm, ⟨10, _⟩ => ⟨S128x8x8x2x1, .f32⟩
  | .hbm, ⟨11, _⟩ => ⟨S_, .f32⟩
  | .hbm, ⟨12, _⟩ => ⟨S128x8x8x2x1, .f32⟩
  | .hbm, ⟨13, _⟩ => ⟨S128x8x8x2x1, .f32⟩
  | .hbm, ⟨14, _⟩ => ⟨S_, .f32⟩
  | .hbm, ⟨15, _⟩ => ⟨S128x8x8x2x1, .f32⟩
  | .hbm, ⟨16, _⟩ => ⟨S128x8x8x2x1, .f32⟩
  | .hbm, ⟨17, _⟩ => ⟨S128x8x8x2x1, .f32⟩
  | .hbm, ⟨18, _⟩ => ⟨S128x8x8x2x64, .f32⟩
  | .hbm, ⟨19, _⟩ => ⟨S128x8x8x2x64, .f32⟩
  | .hbm, ⟨20, _⟩ => ⟨S64, .f32⟩
  | .hbm, ⟨21, _⟩ => ⟨S1x1x1x1x64, .f32⟩
  | .hbm, ⟨22, _⟩ => ⟨S128x8x8x2x64, .f32⟩
  | .hbm, ⟨23, _⟩ => ⟨S128x8x8x2x64, .f32⟩
  | .hbm, ⟨24, _⟩ => ⟨S8, .i32⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S8, .f32⟩
  | .hbm, ⟨37, _⟩ => ⟨S8x1, .f32⟩
  | .hbm, ⟨38, _⟩ => ⟨S1x32, .f32⟩
  | .hbm, ⟨39, _⟩ => ⟨S8x32, .f32⟩
  | .hbm, ⟨40, _⟩ => ⟨S8x32, .f32⟩
  | .hbm, ⟨41, _⟩ => ⟨S8x32, .f32⟩
  | .hbm, ⟨42, _⟩ => ⟨S8x32, .f32⟩
  | .hbm, ⟨43, _⟩ => ⟨S8x1x1x32, .f32⟩
  | .hbm, ⟨44, _⟩ => ⟨S8x32, .f32⟩
  | .hbm, ⟨45, _⟩ => ⟨S8x1x1x32, .f32⟩
  | .hbm, ⟨46, _⟩ => ⟨S128x8x8x2x32, .f32⟩
  | .hbm, ⟨47, _⟩ => ⟨S128x8x8x2x32, .f32⟩
  | .hbm, ⟨48, _⟩ => ⟨S1x8x1x1x32, .f32⟩
  | .hbm, ⟨49, _⟩ => ⟨S128x8x8x2x32, .f32⟩
  | .hbm, ⟨50, _⟩ => ⟨S128x8x8x2x32, .f32⟩
  | .hbm, ⟨51, _⟩ => ⟨S1x8x1x1x32, .f32⟩
  | .hbm, ⟨52, _⟩ => ⟨S128x8x8x2x32, .f32⟩
  | .hbm, ⟨53, _⟩ => ⟨S128x8x8x2x32, .f32⟩
  | .hbm, ⟨54, _⟩ => ⟨S128x8x8x2x32, .f32⟩
  | .hbm, ⟨55, _⟩ => ⟨S1x8x1x1x32, .f32⟩
  | .hbm, ⟨56, _⟩ => ⟨S128x8x8x2x32, .f32⟩
  | .hbm, ⟨57, _⟩ => ⟨S128x8x8x2x32, .f32⟩
  | .hbm, ⟨58, _⟩ => ⟨S1x8x1x1x32, .f32⟩
  | .hbm, ⟨59, _⟩ => ⟨S128x8x8x2x32, .f32⟩
  | .hbm, ⟨60, _⟩ => ⟨S128x8x8x2x32, .f32⟩
  | .hbm, ⟨61, _⟩ => ⟨S128x8x8x2x32, .f32⟩
  | .hbm, ⟨62, _⟩ => ⟨S128x8x8x2x64, .f32⟩
  | .hbm, ⟨63, _⟩ => ⟨S8x128x8x2x64, .f32⟩
  | .hbm, ⟨64, _⟩ => ⟨S1024x1024, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩

abbrev nD : Nat := 1
abbrev τ : Topo := Topo.v7x

variable {F : FTy → Type} [FloatOps F]
-- ==== Scp.lean ====
abbrev S4x2048x2048 : Shape := ⟨3, ![4, 2048, 2048]⟩
abbrev S1x2048x6144 : Shape := ⟨3, ![1, 2048, 6144]⟩
abbrev S1x3x2048 : Shape := ⟨3, ![1, 3, 2048]⟩
abbrev S1x2048x2048 : Shape := ⟨3, ![1, 2048, 2048]⟩
abbrev S2048x2048 : Shape := ⟨2, ![2048, 2048]⟩
abbrev S8192x2048 : Shape := ⟨2, ![8192, 2048]⟩
abbrev S3x2048 : Shape := ⟨2, ![3, 2048]⟩
abbrev S4x8x2048 : Shape := ⟨3, ![4, 8, 2048]⟩
abbrev S1024x2048 : Shape := ⟨2, ![1024, 2048]⟩
abbrev S2048x512 : Shape := ⟨2, ![2048, 512]⟩
abbrev S3x512 : Shape := ⟨2, ![3, 512]⟩
abbrev S1024x512 : Shape := ⟨2, ![1024, 512]⟩
abbrev S1x8x512 : Shape := ⟨3, ![1, 8, 512]⟩
abbrev S1x512 : Shape := ⟨2, ![1, 512]⟩
abbrev S8x512 : Shape := ⟨2, ![8, 512]⟩

abbrev nBuf : Space → Nat
  | .hbm => 17
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S1x2048x6144, .f32⟩
  | .hbm, ⟨2, _⟩ => ⟨S1x3x2048, .f32⟩
  | .hbm, ⟨3, _⟩ => ⟨S1x2048x2048, .f32⟩
  | .hbm, ⟨4, _⟩ => ⟨S2048x2048, .f32⟩
  | .hbm, ⟨5, _⟩ => ⟨S2048x2048, .bf16⟩
  | .hbm, ⟨6, _⟩ => ⟨S1x2048x2048, .f32⟩
  | .hbm, ⟨7, _⟩ => ⟨S2048x2048, .f32⟩
  | .hbm, ⟨8, _⟩ => ⟨S2048x2048, .bf16⟩
  | .hbm, ⟨9, _⟩ => ⟨S1x2048x2048, .f32⟩
  | .hbm, ⟨10, _⟩ => ⟨S2048x2048, .f32⟩
  | .hbm, ⟨11, _⟩ => ⟨S2048x2048, .bf16⟩
  | .hbm, ⟨12, _⟩ => ⟨S8192x2048, .f32⟩
  | .hbm, ⟨13, _⟩ => ⟨S8192x2048, .bf16⟩
  | .hbm, ⟨14, _⟩ => ⟨S3x2048, .f32⟩
  | .hbm, ⟨15, _⟩ => ⟨S8192x2048, .bf16⟩
  | .hbm, ⟨16, _⟩ => ⟨S4x8x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S3x512, .f32⟩
  | .local _ .vmem, ⟨9, _⟩ => ⟨S3x512, .f32⟩
  | .local _ .vmem, ⟨10, _⟩ => ⟨S1024x512, .bf16⟩
  | .local _ .vmem, ⟨11, _⟩ => ⟨S1024x512, .bf16⟩
  | .local _ .vmem, ⟨12, _⟩ => ⟨S1x8x512, .f32⟩
  | .local _ .vmem, ⟨13, _⟩ => ⟨S1x8x512, .f32⟩
  | .local _ .vmem, ⟨14, _⟩ => ⟨S1024x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12_0 : Ref sig .tc := ⟨.hbm, 15, rfl⟩
abbrev main_v12_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ScpRefIdeal.lean ====
abbrev S4x2048x2048 : Shape := ⟨3, ![4, 2048, 2048]⟩
abbrev S1x2048x6144 : Shape := ⟨3, ![1, 2048, 6144]⟩
abbrev S1x3x2048 : Shape := ⟨3, ![1, 3, 2048]⟩
abbrev S2048x6144 : Shape := ⟨2, ![2048, 6144]⟩
abbrev S4x2048x6144 : Shape := ⟨3, ![4, 2048, 6144]⟩
abbrev S_ : Shape := ⟨0, ![]⟩
abbrev S4x2x2048 : Shape := ⟨3, ![4, 2, 2048]⟩
abbrev S4x2050x2048 : Shape := ⟨3, ![4, 2050, 2048]⟩
abbrev S1x1x2048 : Shape := ⟨3, ![1, 1, 2048]⟩
abbrev S2048 : Shape := ⟨1, ![2048]⟩
abbrev S8192x2048 : Shape := ⟨2, ![8192, 2048]⟩
abbrev S4x8x2048 : Shape := ⟨3, ![4, 8, 2048]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048x6144, .f32⟩
  | .hbm, ⟨2, _⟩ => ⟨S1x3x2048, .f32⟩
  | .hbm, ⟨3, _⟩ => ⟨S2048x6144, .f32⟩
  | .hbm, ⟨4, _⟩ => ⟨S4x2048x6144, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S_, .f32⟩
  | .hbm, ⟨9, _⟩ => ⟨S4x2x2048, .f32⟩
  | .hbm, ⟨10, _⟩ => ⟨S4x2048x2048, .f32⟩
  | .hbm, ⟨11, _⟩ => ⟨S4x2050x2048, .f32⟩
  | .hbm, ⟨12, _⟩ => ⟨S4x2048x2048, .f32⟩
  | .hbm, ⟨13, _⟩ => ⟨S1x1x2048, .f32⟩
  | .hbm, ⟨14, _⟩ => ⟨S2048, .f32⟩
  | .hbm, ⟨15, _⟩ => ⟨S1x1x2048, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S1x1x2048, .f32⟩
  | .hbm, ⟨20, _⟩ => ⟨S2048, .f32⟩
  | .hbm, ⟨21, _⟩ => ⟨S1x1x2048, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S1x1x2048, .f32⟩
  | .hbm, ⟨27, _⟩ => ⟨S2048, .f32⟩
  | .hbm, ⟨28, _⟩ => ⟨S1x1x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S8192x2048, .f32⟩
  | .hbm, ⟨34, _⟩ => ⟨S8192x2048, .bf16⟩
  | .hbm, ⟨35, _⟩ => ⟨S4x8x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]
-- ==== Proof.AttnMath.lean ====
/- Softmax rows and their normalised difference, on the extended reals. -/
module

public import Idealize.ShloMosaic.PureOps.Ideal

@[expose] public section

noncomputable section

namespace Cert.AttnMath

open Idealize.ShloMosaic

/-- The largest of a row of scores. -/
def top {n : ℕ} (s : Fin n → EReal) : EReal := Finset.univ.fold max ⊥ s

/-- The row's sum of weights, `M` being taken off the scores. -/
def den {n : ℕ} (s : Fin n → EReal) (M : EReal) : EReal := ∑ k, Ideal.exp (s k - M)

/-- The row's weighted sum of values. -/
def num {n : ℕ} (s : Fin n → EReal) (M : EReal) (v : Fin n → EReal) : EReal := ∑ k, Ideal.exp (s k - M) * v k

/-- The softmax of a row applied to the values: one division at the end. -/
def soft {n : ℕ} (s v : Fin n → EReal) : EReal := Ideal.div (num s (top s) v) (den s (top s))

/-- The same over two stretches of keys. -/
def soft2 {a b : ℕ} (s v : Fin a → EReal) (s' v' : Fin b → EReal) : EReal :=
  Ideal.div (num s (max (top s) (top s')) v + num s' (max (top s) (top s')) v')
    (den s (max (top s) (top s')) + den s' (max (top s) (top s')))

/-- The weight of one key: its exponential over the row's sum. -/
def weight {n : ℕ} (s : Fin n → EReal) (k : Fin n) : EReal := Ideal.div (Ideal.exp (s k - top s)) (den s (top s))

theorem le_top {n : ℕ} (s : Fin n → EReal) (k : Fin n) : s k ≤ top s :=
  Finset.le_fold_max _ |>.mpr (Or.inr ⟨k, Finset.mem_univ k, le_rfl⟩)

theorem top_le {n : ℕ} {s : Fin n → EReal} {M : EReal} (h : ∀ k, s k ≤ M) : top s ≤ M :=
  Finset.fold_max_le _ |>.mpr ⟨bot_le, fun k _ => h k⟩

/-- A sum whose terms end at `b + a`, cut at `b`. -/
theorem sum_cut {a b N : ℕ} (hN : b + a ≤ N) (F : Fin N → EReal) (hz : ∀ k : Fin N, b + a ≤ k.val → F k = 0) :
    ∑ k, F k = ∑ j : Fin a, F ⟨b + j.val, by omega⟩ + ∑ j : Fin b, F ⟨j.val, by omega⟩ := by
  obtain ⟨d, rfl⟩ := Nat.exists_eq_add_of_le hN
  rw [Fin.sum_univ_add, Fin.sum_univ_add, Finset.sum_eq_zero (s := Finset.univ) (f := fun i : Fin d => F (Fin.natAdd (b + a) i))
    (fun i _ => hz _ (Nat.le_add_right _ _)), add_zero, add_comm]
  rfl

/-- Two stretches of keys are one row whose later keys are masked. -/
theorem soft2_eq {a b N : ℕ} (hN : b + a ≤ N) (s v : Fin N → EReal) (hz : ∀ k : Fin N, b + a ≤ k.val → s k = ⊥) :
    soft2 (fun j : Fin a => s ⟨b + j.val, by omega⟩) (fun j => v ⟨b + j.val, by omega⟩)
      (fun j : Fin b => s ⟨j.val, by omega⟩) (fun j => v ⟨j.val, by omega⟩) = soft s v := by
  have ht : max (top fun j : Fin a => s ⟨b + j.val, by omega⟩) (top fun j : Fin b => s ⟨j.val, by omega⟩) = top s := by
    refine le_antisymm (max_le (top_le fun j => le_top s _) (top_le fun j => le_top s _)) (top_le fun k => ?_)
    by_cases h1 : k.val < b
    · exact le_max_of_le_right (le_top (fun j : Fin b => s ⟨j.val, by omega⟩) ⟨k.val, h1⟩)
    by_cases h2 : k.val < b + a
    · refine le_max_of_le_left ((le_of_eq (congrArg s (Fin.ext ?_))).trans
        (le_top (fun j : Fin a => s ⟨b + j.val, by omega⟩) ⟨k.val - b, by omega⟩))
      show k.val = b + (k.val - b)
      omega
    · rw [hz k (by omega)]
      exact bot_le
  have he : ∀ k : Fin N, b + a ≤ k.val → Ideal.exp (s k - top s) = 0 := fun k hk => by
    rw [hz k hk, EReal.bot_sub, Ideal.exp_bot]
  simp only [soft2, soft, ht]
  refine congrArg₂ Ideal.div ?_ ?_
  · exact (sum_cut hN (fun k => Ideal.exp (s k - top s) * v k) fun k hk => by rw [he k hk, zero_mul]).symm
  · exact (sum_cut hN (fun k => Ideal.exp (s k - top s)) he).symm

/-- The exponential of a score less a bound of it is a real number, and not negative. -/
theorem exp_sub {s M : EReal} (h : s ≤ M) : ∃ e : ℝ, 0 ≤ e ∧ Ideal.exp (s - M) = (e : EReal) := by
  induction M with
  | bot => exact ⟨0, le_rfl, by rw [le_bot_iff.mp h, EReal.bot_sub, Ideal.exp_bot, EReal.coe_zero]⟩
  | top => exact ⟨0, le_rfl, by rw [EReal.sub_top, Ideal.exp_bot, EReal.coe_zero]⟩
  | coe M =>
    induction s with
    | bot => exact ⟨0, le_rfl, by rw [EReal.bot_sub, Ideal.exp_bot, EReal.coe_zero]⟩
    | top => exact absurd (top_le_iff.mp h) (EReal.coe_ne_top M)
    | coe s => exact ⟨Real.exp (s - M), (Real.exp_pos _).le, by rw [← EReal.coe_sub, Ideal.exp_coe]⟩

theorem coe_sum {ι : Type*} (s : Finset ι) (f : ι → ℝ) : ((∑ k ∈ s, f k : ℝ) : EReal) = ∑ k ∈ s, (f k : EReal) := by
  classical
  induction s using Finset.induction_on with
  | empty => simp
  | insert a s h ih => rw [Finset.sum_insert h, Finset.sum_insert h, EReal.coe_add, ih]

/-- A value that is zero or infinite. -/
def Odd (x : EReal) : Prop := x = ⊥ ∨ x = 0 ∨ x = ⊤

theorem Odd.add {x y : EReal} (hx : Odd x) (hy : Odd y) : Odd (x + y) := by
  rcases hx with rfl | rfl | rfl <;> rcases hy with rfl | rfl | rfl <;> simp [Odd]

theorem Odd.sum {ι : Type*} (s : Finset ι) (f : ι → EReal) (h : ∀ k, Odd (f k)) : Odd (∑ k ∈ s, f k) := by
  classical
  induction s using Finset.induction_on with
  | empty => simp [Odd]
  | insert a s ha ih => rw [Finset.sum_insert ha]; exact (h a).add ih

theorem Odd.mul {x : EReal} (hx : x = ⊥ ∨ x = ⊤) (y : EReal) : Odd (x * y) := by
  rcases lt_trichotomy y 0 with h | rfl | h <;> rcases hx with rfl | rfl
  · simp [Odd, EReal.bot_mul_of_neg h]
  · simp [Odd, EReal.top_mul_of_neg h]
  · simp [Odd]
  · simp [Odd]
  · simp [Odd, EReal.bot_mul_of_pos h]
  · simp [Odd, EReal.top_mul_of_pos h]

/-- The row's difference of the two softmaxes, weights first, values after. -/
def mix {n : ℕ} (s0 s1 : Fin n → EReal) (lam : EReal) (v : Fin n → EReal) : EReal :=
  ∑ k, v k * (weight s0 k - lam * weight s1 k)

theorem div_zero_zero : Ideal.div 0 0 = ⊥ := by simp [Ideal.div]

/-- The difference of the two applied softmaxes is the applied difference of the weights, unless a row has no weight at all:
    then both are zero or infinite in every lane. -/
theorem row {n D : ℕ} (s0 s1 : Fin n → EReal) (lam : ℝ) (v : Fin n → Fin D → ℝ) (hn : 0 < n) :
    (∀ d, soft s0 (fun k => v k d) - lam * soft s1 (fun k => v k d) = mix s0 s1 lam fun k => v k d)
    ∨ ((∀ d, Odd (soft s0 (fun k => v k d) - lam * soft s1 (fun k => v k d))) ∧ ∀ d, Odd (mix s0 s1 lam fun k => v k d)) := by
  choose e0 h0 he0 using fun k => exp_sub (le_top s0 k)
  choose e1 h1 he1 using fun k => exp_sub (le_top s1 k)
  have hd0 : den s0 (top s0) = ((∑ k, e0 k : ℝ) : EReal) := by simp only [den, he0, coe_sum]
  have hd1 : den s1 (top s1) = ((∑ k, e1 k : ℝ) : EReal) := by simp only [den, he1, coe_sum]
  have hm0 : ∀ d, num s0 (top s0) (fun k => v k d) = ((∑ k, e0 k * v k d : ℝ) : EReal) := fun d => by
    simp only [num, he0, coe_sum, EReal.coe_mul]
  have hm1 : ∀ d, num s1 (top s1) (fun k => v k d) = ((∑ k, e1 k * v k d : ℝ) : EReal) := fun d => by
    simp only [num, he1, coe_sum, EReal.coe_mul]
  simp only [soft, mix, weight, hd0, hd1, hm0, hm1, he0, he1]
  have hzero : ∀ e : Fin n → ℝ, (∀ k, 0 ≤ e k) → ∑ k, e k = 0 → ∀ k, e k = 0 := fun e he hs k =>
    (Finset.sum_eq_zero_iff_of_nonneg fun k _ => he k).mp hs k (Finset.mem_univ k)
  by_cases z0 : ∑ k, e0 k = 0
  · right
    have hb : ∀ x : EReal, (⊥ : EReal) - x = ⊥ := EReal.bot_sub
    have e0z := hzero e0 h0 z0
    refine ⟨fun d => ?_, fun d => Odd.sum _ _ fun k => ?_⟩
    · simp only [e0z, zero_mul, Finset.sum_const_zero, EReal.coe_zero, div_zero_zero, hb]
      exact Or.inl rfl
    · simp only [e0z, Finset.sum_const_zero, EReal.coe_zero, div_zero_zero, hb]
      rw [mul_comm]
      exact Odd.mul (Or.inl rfl) _
  by_cases z1 : ∑ k, e1 k = 0
  · have e1z := hzero e1 h1 z1
    simp only [e1z, zero_mul, Finset.sum_const_zero, EReal.coe_zero, div_zero_zero, Ideal.div_coe z0, ← EReal.coe_mul]
    by_cases hl : lam = 0
    · left
      intro d
      simp only [hl, EReal.coe_zero, zero_mul, sub_zero, ← EReal.coe_mul, ← coe_sum]
      rw [Finset.sum_mul]
      exact congrArg _ (Finset.sum_congr rfl fun k _ => by ring)
    · right
      have hx : (∀ x : ℝ, (x : EReal) - lam * ⊥ = ⊥) ∨ (∀ x : ℝ, (x : EReal) - lam * ⊥ = ⊤) := by
        rcases lt_or_gt_of_ne hl with h | h
        · left; intro x; rw [EReal.coe_mul_bot_of_neg h, EReal.sub_top]
        · right; intro x; rw [EReal.coe_mul_bot_of_pos h, EReal.coe_sub_bot]
      have hy : ∀ x : ℝ, (x : EReal) - lam * ⊥ = ⊥ ∨ (x : EReal) - lam * ⊥ = ⊤ := fun x =>
        hx.elim (fun h => Or.inl (h x)) fun h => Or.inr (h x)
      refine ⟨fun d => (hy _).elim Or.inl fun h => Or.inr (Or.inr h), fun d => Odd.sum _ _ fun k => ?_⟩
      rw [mul_comm]
      exact Odd.mul (hy _) _
  · left
    intro d
    simp only [Ideal.div_coe z0, Ideal.div_coe z1, ← EReal.coe_mul, ← EReal.coe_sub, ← coe_sum]
    refine congrArg _ ?_
    rw [Finset.sum_mul, Finset.sum_mul, Finset.mul_sum, ← Finset.sum_sub_distrib]
    exact Finset.sum_congr rfl fun k _ => by ring

/-- The row scaled to unit mean square, times the scale vector and a constant. -/
def unitRow {D : ℕ} (cnt eps gain : EReal) (g o : Fin D → EReal) (d : Fin D) : EReal :=
  o d * Ideal.rsqrt (Ideal.div (∑ e, o e * o e) cnt + eps) * g d * gain

/-- A row of zeros and infinities is scaled to zero. -/
theorem unitRow_odd {D : ℕ} (cnt : ℝ) (hc : 0 < cnt) (eps : ℝ) (gain : EReal) (g o : Fin D → EReal) (ho : ∀ d, Odd (o d)) (d : Fin D) :
    unitRow cnt eps gain g o d = 0 := by
  have hsq : ∀ x : EReal, Odd x → 0 ≤ x * x := by
    rintro x (rfl | rfl | rfl) <;> simp
  unfold unitRow
  by_cases h : o d = 0
  · rw [h, zero_mul, zero_mul, zero_mul]
  · have ht : o d * o d = ⊤ := by
      rcases ho d with h' | h' | h'
      · rw [h']; rfl
      · exact absurd h' h
      · rw [h']; rfl
    have hs : ∑ e, o e * o e = ⊤ := top_le_iff.mp (ht ▸ Finset.single_le_sum (f := fun e => o e * o e)
      (fun e _ => hsq _ (ho e)) (Finset.mem_univ d))
    rw [hs, Ideal.div_coe hc.ne', EReal.top_mul_coe_of_pos (by positivity), EReal.top_add_coe, Ideal.rsqrt_top, mul_zero,
      zero_mul, zero_mul]

/-- So the normalised rows agree. -/
theorem unitRow_row {n D : ℕ} (cnt : ℝ) (hc : 0 < cnt) (eps : ℝ) (gain : EReal) (g : Fin D → EReal) (s0 s1 : Fin n → EReal)
    (lam : ℝ) (v : Fin n → Fin D → ℝ) (hn : 0 < n) (d : Fin D) :
    unitRow cnt eps gain g (fun d => soft s0 (fun k => v k d) - lam * soft s1 (fun k => v k d)) d
      = unitRow cnt eps gain g (fun d => mix s0 s1 lam fun k => v k d) d := by
  rcases row s0 s1 lam v hn with h | ⟨h, h'⟩
  · exact congrArg (fun o => unitRow cnt eps gain g o d) (funext h)
  · rw [unitRow_odd cnt hc eps gain g _ h, unitRow_odd cnt hc eps gain g _ h']

/-- A positive real factor may be taken out of a sum. -/
theorem sum_mul_coe {ι : Type*} (s : Finset ι) (f : ι → EReal) (c : ℝ) (hc : 0 ≤ c) :
    ∑ k ∈ s, f k * (c : EReal) = (∑ k ∈ s, f k) * (c : EReal) := by
  classical
  induction s using Finset.induction_on with
  | empty => simp
  | insert a s h ih =>
    rw [Finset.sum_insert h, Finset.sum_insert h, ih,
      EReal.right_distrib_of_nonneg_of_ne_top (by exact_mod_cast hc) (EReal.coe_ne_top c)]

end Cert.AttnMath

end
-- ==== Proof.AttnPoint.lean ====
/- The stored values of one grid point of the prompt's attention, read at an index. -/
module

public import proofs.«01_k».proof.Proof.AttnMath
public import proofs.«01_k».proof.Proof.Gen.AttnIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AttnIdeal.Step

open Cert.AttnIdeal Cert.AttnIdeal.Gen Cert.AttnMath Idealize.ShloMosaic Idealize.ShloMosaic.TcCoe Idealize.SL.Sem

/-- The pattern a maximum starts from is `−∞`. -/
theorem ninf : Ideal.ofBits FTy.f32 0xFF800000#32 = ⊥ := by simp [Ideal.ofBits, Ideal.ieee]

/-- The mask is `−∞`. -/
theorem mask_eq : (Named.named κ "mask" 0xF149F2CA#32 : Ideal .f32) = ⊥ := rfl

/-- The lane count the sum of squares is divided by. -/
theorem cnt_eq : Ideal.ofBits FTy.f32 0x43000000#32 = ((128 : ℝ) : EReal) := by
  simp [Ideal.ofBits, Ideal.ieee, -EReal.coe_mul]; norm_num

/-- The small number added to the mean square is a real one. -/
theorem eps_eq : ∃ e : ℝ, Ideal.ofBits FTy.f32 0x358637BD#32 = (e : EReal) := by
  simp [Ideal.ofBits, Ideal.ieee, -EReal.coe_mul]

/-- The number lambda starts from is a real one. -/
theorem lam0_eq : ∃ e : ℝ, Ideal.ofBits FTy.f32 0x3E4CCCCD#32 = (e : EReal) := by
  simp [Ideal.ofBits, Ideal.ieee, -EReal.coe_mul]

/-- The row's scale to unit mean square over the 128 lanes, with the call's constants. -/
def nrm (g o : Fin 128 → EReal) (d : Fin 128) : EReal :=
  unitRow (Ideal.ofBits FTy.f32 0x43000000#32) (Ideal.ofBits FTy.f32 0x358637BD#32) (Ideal.ofBits FTy.f32 0x3F4CCCCD#32) g o d

/-- Row `r`'s scores against a block of 512 keys, masked. -/
def sd (mask : IVec S512x512 1) (q k : Vec Ideal S512x128 .bf16) (r j : Fin 512) : EReal :=
  Scalar.select (mask (ix2 r j)) (∑ x : Fin 128, q (ix2 r x) * k (ix2 j x)) ⊥

/-- Row `r`'s scores against `n` keys, none masked. -/
def sp {n : ℕ} (q : Vec Ideal S512x128 .bf16) (k : Vec Ideal ⟨2, ![n, 128]⟩ .bf16) (r : Fin 512) (j : Fin n) : EReal :=
  ∑ x : Fin 128, q (ix2 r x) * k (ix2 j x)

/-- The difference of the two maps' softmaxes over the block of keys on the diagonal alone. -/
def dif0 (mask : IVec S512x512 1) (lam : EReal) (q1 q2 k v : Vec Ideal S512x128 .bf16) (r : Fin 512) (d : Fin 128) : EReal :=
  soft (sd mask q1 k r) (fun j => v (ix2 j d)) - lam * soft (sd mask q2 k r) (fun j => v (ix2 j d))

/-- The same over that block and the `n` keys before it. -/
def dif {n : ℕ} (mask : IVec S512x512 1) (lam : EReal) (q1 q2 k v : Vec Ideal S512x128 .bf16) (kp vp : Vec Ideal ⟨2, ![n, 128]⟩ .bf16)
    (r : Fin 512) (d : Fin 128) : EReal :=
  soft2 (sd mask q1 k r) (fun j => v (ix2 j d)) (sp q1 kp r) (fun j => vp (ix2 j d))
    - lam * soft2 (sd mask q2 k r) (fun j => v (ix2 j d)) (sp q2 kp r) (fun j => vp (ix2 j d))

/-- Lambda, of its four vectors. -/
def lamb (a b c d : Vec Ideal S1x64 .f32) : EReal :=
  Ideal.exp (∑ x : Fin 64, a (ix2 0 x) * b (ix2 0 x)) - Ideal.exp (∑ x : Fin 64, c (ix2 0 x) * d (ix2 0 x))
    + Ideal.ofBits FTy.f32 0x3E4CCCCD#32

theorem pay1_apply (a b c d : Vec Ideal S1x64 .f32) : k0_pay1 (F := Ideal) a b c d (ix2 0 0) = lamb a b c d := by
  unfold_payloads
  pointwise [lamb]

/-- The first quarter's rows, first head. -/
theorem payA0 (lam : FVec Ideal S1x1 .f32) (mask : IVec S512x512 1) (k v q1 q2 : Vec Ideal S512x128 .bf16) (g : Vec Ideal S1x128 .f32)
    (r : Fin 512) (d : Fin 128) : k0_pay8 (F := Ideal) (k0_pay7 (F := Ideal) lam mask k v q1 q2) g (ix2 r d)
      = nrm (fun d => g (ix2 0 d)) (dif0 mask (lam (ix2 0 0)) q1 q2 k v r) d := by
  unfold_payloads
  pointwise [nrm, unitRow, dif0, soft, num, den, top, sd, ninf, mask_eq]

/-- The first quarter's rows, second head. -/
theorem payA1 (a b c e : Vec Ideal S1x64 .f32) (k v q1 q2 : Vec Ideal S512x128 .bf16) (g : Vec Ideal S1x128 .f32)
    (r : Fin 512) (d : Fin 128) : k0_pay3 (F := Ideal) a b c e (k0_pay10 (F := Ideal) v) (k0_pay11 (F := Ideal) k0_pay2 k v q1)
      (k0_pay12 (F := Ideal) k q2) g (ix2 r d) = nrm (fun d => g (ix2 0 d)) (dif0 k0_pay2 (lamb a b c e) q1 q2 k v r) d := by
  unfold_payloads
  pointwise [nrm, unitRow, dif0, lamb, soft, num, den, top, sd, ninf, mask_eq]

/-- The second quarter's rows, first head. -/
theorem payB0 (lam : FVec Ideal S1x1 .f32) (mask : IVec S512x512 1) (k v q1 q2 kp vp : Vec Ideal S512x128 .bf16)
    (g : Vec Ideal S1x128 .f32) (r : Fin 512) (d : Fin 128) :
    k0_pay19 (F := Ideal) (k0_pay17 (F := Ideal) lam mask (k0_pay13 (F := Ideal) k) (k0_pay14 (F := Ideal) v)
        (k0_pay15 (F := Ideal) mask k v q1 kp vp) (k0_pay16 (F := Ideal) q2) kp vp) g
      (k0_pay18 (F := Ideal) lam mask (k0_pay13 (F := Ideal) k) (k0_pay14 (F := Ideal) v)
        (k0_pay15 (F := Ideal) mask k v q1 kp vp) (k0_pay16 (F := Ideal) q2) kp vp) (ix2 r d)
      = nrm (fun d => g (ix2 0 d)) (dif mask (lam (ix2 0 0)) q1 q2 k v kp vp r) d := by
  unfold_payloads
  pointwise [nrm, unitRow, dif, soft2, num, den, top, sd, sp, ninf, mask_eq]

/-- The second quarter's rows, second head. -/
theorem payB1 (lam : FVec Ideal S1x1 .f32) (mask : IVec S512x512 1) (k v q1 q2 kp vp : Vec Ideal S512x128 .bf16)
    (g : Vec Ideal S1x128 .f32) (r : Fin 512) (d : Fin 128) :
    k0_pay4 (F := Ideal) (k0_pay31 (F := Ideal) lam mask (k0_pay20 (F := Ideal) k) (k0_pay21 (F := Ideal) v)
        (k0_pay27 (F := Ideal) mask k v q1 kp) (k0_pay29 (F := Ideal) mask k q1 kp) (k0_pay30 (F := Ideal) mask k q1 kp) vp q2 kp vp) g
      (ix2 r d) = nrm (fun d => g (ix2 0 d)) (dif mask (lam (ix2 0 0)) q1 q2 k v kp vp r) d := by
  unfold_payloads
  pointwise [nrm, unitRow, dif, soft2, num, den, top, sd, sp, ninf, mask_eq]

end Cert.AttnIdeal.Step

end
-- ==== Proof.AttnLater.lean ====
/- The stored values of the prompt's attention for the third and fourth quarter of a sequence, read at an index. -/
module

public import proofs.«01_k».proof.Proof.AttnPoint

@[expose] public section

set_option maxRecDepth 16384

noncomputable section

namespace Cert.AttnIdeal.Step

open Cert.AttnIdeal Cert.AttnIdeal.Gen Cert.AttnMath Idealize.ShloMosaic Idealize.ShloMosaic.TcCoe Idealize.SL.Sem

/-- The third quarter's rows, first head. -/
theorem payC0 (lam : FVec Ideal S1x1 .f32) (mask : IVec S512x512 1) (k v q1 q2 : Vec Ideal S512x128 .bf16)
    (kp vp : Vec Ideal S1024x128 .bf16) (g : Vec Ideal S1x128 .f32) (r : Fin 512) (d : Fin 128) :
    k0_pay38 (F := Ideal) (k0_pay36 (F := Ideal) lam mask (k0_pay32 (F := Ideal) k) (k0_pay33 (F := Ideal) v)
        (k0_pay34 (F := Ideal) mask k v q1 kp vp) (k0_pay35 (F := Ideal) q2) kp vp) g
      (k0_pay37 (F := Ideal) lam mask (k0_pay32 (F := Ideal) k) (k0_pay33 (F := Ideal) v)
        (k0_pay34 (F := Ideal) mask k v q1 kp vp) (k0_pay35 (F := Ideal) q2) kp vp) (ix2 r d)
      = nrm (fun d => g (ix2 0 d)) (dif mask (lam (ix2 0 0)) q1 q2 k v kp vp r) d := by
  unfold_payloads
  pointwise [nrm, unitRow, dif, soft2, num, den, top, sd, sp, ninf, mask_eq]

/-- The third quarter's rows, second head. -/
theorem payC1 (lam : FVec Ideal S1x1 .f32) (mask : IVec S512x512 1) (k v q1 q2 : Vec Ideal S512x128 .bf16)
    (kp vp : Vec Ideal S1024x128 .bf16) (g : Vec Ideal S1x128 .f32) (r : Fin 512) (d : Fin 128) :
    k0_pay5 (F := Ideal) (k0_pay50 (F := Ideal) lam mask (k0_pay39 (F := Ideal) k) (k0_pay40 (F := Ideal) v)
        (k0_pay46 (F := Ideal) mask k v q1 kp) (k0_pay48 (F := Ideal) mask k q1 kp) (k0_pay49 (F := Ideal) mask k q1 kp) vp q2 kp vp) g
      (ix2 r d) = nrm (fun d => g (ix2 0 d)) (dif mask (lam (ix2 0 0)) q1 q2 k v kp vp r) d := by
  unfold_payloads
  pointwise [nrm, unitRow, dif, soft2, num, den, top, sd, sp, ninf, mask_eq]

/-- The fourth quarter's rows, first head. -/
theorem payD0 (lam : FVec Ideal S1x1 .f32) (mask : IVec S512x512 1) (k v q1 q2 : Vec Ideal S512x128 .bf16)
    (kp vp : Vec Ideal S1536x128 .bf16) (g : Vec Ideal S1x128 .f32) (r : Fin 512) (d : Fin 128) :
    k0_pay57 (F := Ideal) (k0_pay55 (F := Ideal) lam mask (k0_pay51 (F := Ideal) k) (k0_pay52 (F := Ideal) v)
        (k0_pay53 (F := Ideal) mask k v q1 kp vp) (k0_pay54 (F := Ideal) q2) kp vp) g
      (k0_pay56 (F := Ideal) lam mask (k0_pay51 (F := Ideal) k) (k0_pay52 (F := Ideal) v)
        (k0_pay53 (F := Ideal) mask k v q1 kp vp) (k0_pay54 (F := Ideal) q2) kp vp) (ix2 r d)
      = nrm (fun d => g (ix2 0 d)) (dif mask (lam (ix2 0 0)) q1 q2 k v kp vp r) d := by
  unfold_payloads
  pointwise [nrm, unitRow, dif, soft2, num, den, top, sd, sp, ninf, mask_eq]

/-- The fourth quarter's rows, second head. -/
theorem payD1 (lam : FVec Ideal S1x1 .f32) (mask : IVec S512x512 1) (k v q1 q2 : Vec Ideal S512x128 .bf16)
    (kp vp : Vec Ideal S1536x128 .bf16) (g : Vec Ideal S1x128 .f32) (r : Fin 512) (d : Fin 128) :
    k0_pay6 (F := Ideal) (k0_pay69 (F := Ideal) lam mask (k0_pay58 (F := Ideal) k) (k0_pay59 (F := Ideal) v)
        (k0_pay65 (F := Ideal) mask k v q1 kp) (k0_pay67 (F := Ideal) mask k q1 kp) (k0_pay68 (F := Ideal) mask k q1 kp) vp q2 kp vp) g
      (ix2 r d) = nrm (fun d => g (ix2 0 d)) (dif mask (lam (ix2 0 0)) q1 q2 k v kp vp r) d := by
  unfold_payloads
  pointwise [nrm, unitRow, dif, soft2, num, den, top, sd, sp, ninf, mask_eq]

end Cert.AttnIdeal.Step

end
-- ==== Proof.AttnBlock.lean ====
/- The blocks the prompt's attention is given at each grid point, in the arguments of the call. -/
module

public import proofs.«01_k».proof.Proof.AttnPoint

@[expose] public section

set_option maxRecDepth 16384

noncomputable section

namespace Cert.AttnIdeal.Step

open Cert.AttnIdeal Cert.AttnIdeal.Gen Cert.AttnMath Idealize.ShloMosaic Idealize.ShloMosaic.TcCoe Idealize.SL.Sem

variable (m : (ℓ : Loc nD τ sig) → Buf (Elt Ideal) ℓ)

/-- The block every window holds at point `t`: sequence `t / 16`, pair of heads `t / 4 % 4`, quarter of the sequence `t % 4`. -/
theorem idx : ∀ t : Fin grid0.N, win0_0.index t = ![0, 0] ∧ win0_1.index t = ![0, 0] ∧ win0_2.index t = ![0, 0]
    ∧ win0_3.index t = ![0, 0] ∧ win0_4.index t = ![0, 0] ∧ win0_5.index t = ![4 * (t.val / 16) + t.val % 4, t.val / 4 % 4]
    ∧ win0_6.index t = ![4 * (t.val / 16) + t.val % 4, t.val / 4 % 4] ∧ win0_7.index t = ![t.val / 16, t.val / 4 % 4]
    ∧ win0_8.index t = ![t.val / 16, t.val / 4 % 4] ∧ win0_9.index t = ![4 * (t.val / 16) + t.val % 4, t.val / 4 % 4] := by
  decide +kernel

theorem blk0 (c : Dev nD) (t : Fin grid0.N) (x : Fin 64) :
    iblk m c 0 t (ix2 0 x) = m ((c : Thread nD τ).loc main_arg3) (ix2 0 x) := by
  blk_ext! [iblk, V, idx t]

theorem blk1 (c : Dev nD) (t : Fin grid0.N) (x : Fin 64) :
    iblk m c 1 t (ix2 0 x) = m ((c : Thread nD τ).loc main_arg4) (ix2 0 x) := by
  blk_ext! [iblk, V, idx t]

theorem blk2 (c : Dev nD) (t : Fin grid0.N) (x : Fin 64) :
    iblk m c 2 t (ix2 0 x) = m ((c : Thread nD τ).loc main_arg5) (ix2 0 x) := by
  blk_ext! [iblk, V, idx t]

theorem blk3 (c : Dev nD) (t : Fin grid0.N) (x : Fin 64) :
    iblk m c 3 t (ix2 0 x) = m ((c : Thread nD τ).loc main_arg6) (ix2 0 x) := by
  blk_ext! [iblk, V, idx t]

theorem blk4 (c : Dev nD) (t : Fin grid0.N) (d : Fin 128) :
    iblk m c 4 t (ix2 0 d) = m ((c : Thread nD τ).loc main_arg7) (ix2 0 d) := by
  blk_ext! [iblk, V, idx t]

/-- The call's queries, keys and values. -/
abbrev qs (c : Dev nD) : S4x2048x8x2x64.Idx → EReal := m ((c : Thread nD τ).loc main_arg0)
abbrev ks (c : Dev nD) : S4x2048x8x2x64.Idx → EReal := m ((c : Thread nD τ).loc main_arg1)
abbrev vs (c : Dev nD) : S4x2048x8x128.Idx → EReal := m ((c : Thread nD τ).loc main_arg2)

/-- A row's scores against the keys of its sequence, the later keys masked. -/
def score (q k : S4x2048x8x2x64.Idx → EReal) (b : Fin 4) (H : Fin 8) (i : Fin 2) (p j : Fin 2048) : EReal :=
  if j.val ≤ p.val then (∑ e : Fin 64, q (ix5 b p H i e) * k (ix5 b j H i e)) * Ideal.ofBits .f32 0x3E000000#32 else ⊥

/-- The keys as the tiles take them: sequences one under another, heads and maps side by side. -/
theorem V13 (c : Dev nD) (r : Fin 8192) (n : Fin 1024) (b : Fin 4) (j : Fin 2048) (H : Fin 8) (i : Fin 2) (x : Fin 64)
    (hr : r.val = 2048 * b.val + j.val) (hn : n.val = 128 * H.val + 64 * i.val + x.val) :
    V m c main_v13 (ix2 r n) = ks m c (ix5 b j H i x) := by
  simp only [V, hostOps0, hostOps0_1, hostOps0_2, hostOps0_3, hostOps0_4, List.flatten_cons, List.flatten_nil, List.append_nil,
    List.cons_append, List.nil_append]
  entry_read
  pointwise
  show ks m c _ = _
  blk_ext

/-- The values likewise. -/
theorem V15 (c : Dev nD) (r : Fin 8192) (n : Fin 1024) (b : Fin 4) (j : Fin 2048) (H : Fin 8) (d : Fin 128)
    (hr : r.val = 2048 * b.val + j.val) (hn : n.val = 128 * H.val + d.val) :
    V m c main_v15 (ix2 r n) = vs m c (ix4 b j H d) := by
  simp only [V, hostOps0, hostOps0_1, hostOps0_2, hostOps0_3, hostOps0_4, List.flatten_cons, List.flatten_nil, List.append_nil,
    List.cons_append, List.nil_append]
  entry_read
  pointwise
  show vs m c _ = _
  blk_ext

/-- The queries of the first map, scaled. -/
theorem V8 (c : Dev nD) (r : Fin 8192) (n : Fin 1024) (b : Fin 4) (j : Fin 2048) (H : Fin 8) (i : Fin 2) (x : Fin 64)
    (hr : r.val = 2048 * b.val + j.val) (hn : n.val = 128 * H.val + 64 * i.val + x.val) (hi : i.val = 0) :
    V m c main_v8 (ix2 r n) = (qs m c (ix5 b j H i x) * Ideal.ofBits .f32 0x3E000000#32 : EReal) := by
  simp only [V, hostOps0, hostOps0_1, hostOps0_2, hostOps0_3, hostOps0_4, List.flatten_cons, List.flatten_nil, List.append_nil,
    List.cons_append, List.nil_append]
  entry_read
  simp only [StableHlo.TRef.toBuf, StableHlo.TRef.ofBuf, cast_eq]
  pointwise
  have hj : n.val % 128 = 64 * i.val + x.val := by omega
  have hx := x.isLt
  word_cmp
  refine (if_pos (by omega)).trans ?_
  show qs m c _ * _ = _
  refine congrArg (· * _) (congrArg (qs m c) ?_)
  blk_ext

/-- Among them the second map's lanes are zero. -/
theorem V8z (c : Dev nD) (r : Fin 8192) (n : Fin 1024) (b : Fin 4) (j : Fin 2048) (H : Fin 8) (i : Fin 2) (x : Fin 64)
    (hr : r.val = 2048 * b.val + j.val) (hn : n.val = 128 * H.val + 64 * i.val + x.val) (hi : i.val = 1) : V m c main_v8 (ix2 r n) = (0 : EReal) := by
  simp only [V, hostOps0, hostOps0_1, hostOps0_2, hostOps0_3, hostOps0_4, List.flatten_cons, List.flatten_nil, List.append_nil,
    List.cons_append, List.nil_append]
  entry_read
  simp only [StableHlo.TRef.toBuf, StableHlo.TRef.ofBuf, cast_eq]
  pointwise
  have hj : n.val % 128 = 64 * i.val + x.val := by omega
  have hx := x.isLt
  word_cmp
  refine (if_neg (by omega)).trans ?_
  rfl

/-- The queries of the second map, scaled. -/
theorem V11 (c : Dev nD) (r : Fin 8192) (n : Fin 1024) (b : Fin 4) (j : Fin 2048) (H : Fin 8) (i : Fin 2) (x : Fin 64)
    (hr : r.val = 2048 * b.val + j.val) (hn : n.val = 128 * H.val + 64 * i.val + x.val) (hi : i.val = 1) :
    V m c main_v11 (ix2 r n) = (qs m c (ix5 b j H i x) * Ideal.ofBits .f32 0x3E000000#32 : EReal) := by
  simp only [V, hostOps0, hostOps0_1, hostOps0_2, hostOps0_3, hostOps0_4, List.flatten_cons, List.flatten_nil, List.append_nil,
    List.cons_append, List.nil_append]
  entry_read
  simp only [StableHlo.TRef.toBuf, StableHlo.TRef.ofBuf, cast_eq]
  pointwise
  have hj : n.val % 128 = 64 * i.val + x.val := by omega
  have hx := x.isLt
  word_cmp
  refine (if_neg (by omega)).trans ?_
  show qs m c _ * _ = _
  refine congrArg (· * _) (congrArg (qs m c) ?_)
  blk_ext

/-- Among them the first map's lanes are zero. -/
theorem V11z (c : Dev nD) (r : Fin 8192) (n : Fin 1024) (b : Fin 4) (j : Fin 2048) (H : Fin 8) (i : Fin 2) (x : Fin 64)
    (hr : r.val = 2048 * b.val + j.val) (hn : n.val = 128 * H.val + 64 * i.val + x.val) (hi : i.val = 0) : V m c main_v11 (ix2 r n) = (0 : EReal) := by
  simp only [V, hostOps0, hostOps0_1, hostOps0_2, hostOps0_3, hostOps0_4, List.flatten_cons, List.flatten_nil, List.append_nil,
    List.cons_append, List.nil_append]
  entry_read
  simp only [StableHlo.TRef.toBuf, StableHlo.TRef.ofBuf, cast_eq]
  pointwise
  have hj : n.val % 128 = 64 * i.val + x.val := by omega
  have hx := x.isLt
  word_cmp
  refine (if_pos (by omega)).trans ?_
  rfl

theorem at5 (c : Dev nD) (t : Fin grid0.N) (R : Fin 512) (l : Fin 256) (r : Fin 8192) (n : Fin 1024)
    (hr : r.val = 2048 * (t.val / 16) + 512 * (t.val % 4) + R.val) (hn : n.val = 256 * (t.val / 4 % 4) + l.val) :
    iblk m c 5 t (ix2 R l) = V m c main_v8 (ix2 r n) := by
  blk_ext [iblk, idx t]

theorem at6 (c : Dev nD) (t : Fin grid0.N) (R : Fin 512) (l : Fin 256) (r : Fin 8192) (n : Fin 1024)
    (hr : r.val = 2048 * (t.val / 16) + 512 * (t.val % 4) + R.val) (hn : n.val = 256 * (t.val / 4 % 4) + l.val) :
    iblk m c 6 t (ix2 R l) = V m c main_v11 (ix2 r n) := by
  blk_ext [iblk, idx t]

theorem at7 (c : Dev nD) (t : Fin grid0.N) (j : Fin 2048) (l : Fin 256) (r : Fin 8192) (n : Fin 1024)
    (hr : r.val = 2048 * (t.val / 16) + j.val) (hn : n.val = 256 * (t.val / 4 % 4) + l.val) :
    iblk m c 7 t (ix2 j l) = V m c main_v13 (ix2 r n) := by
  blk_ext [iblk, idx t]

theorem at8 (c : Dev nD) (t : Fin grid0.N) (j : Fin 2048) (l : Fin 256) (r : Fin 8192) (n : Fin 1024)
    (hr : r.val = 2048 * (t.val / 16) + j.val) (hn : n.val = 256 * (t.val / 4 % 4) + l.val) :
    iblk m c 8 t (ix2 j l) = V m c main_v15 (ix2 r n) := by
  blk_ext [iblk, idx t]

end Cert.AttnIdeal.Step

end
-- ==== Proof.AttnValue.lean ====
/- What the prompt's attention leaves at each grid point, and the result array. -/
module

public import proofs.«01_k».proof.Proof.AttnLater
public import proofs.«01_k».proof.Proof.AttnBlock

@[expose] public section

set_option maxRecDepth 16384

noncomputable section

namespace Cert.AttnIdeal.Step

open Cert.AttnIdeal Cert.AttnIdeal.Gen Cert.AttnMath Idealize.ShloMosaic Idealize.ShloMosaic.TcCoe Idealize.SL.Sem

variable (m : (ℓ : Loc nD τ sig) → Buf (Elt Ideal) ℓ)

/-- The scale of the scores. -/
theorem scale_eq : Ideal.ofBits FTy.f32 0x3E000000#32 = ((1 / 8 : ℝ) : EReal) := by
  simp [Ideal.ofBits, Ideal.ieee, -EReal.coe_mul]; norm_num

/-- A product over 128 lanes of which the first 64 carry the scaled query and the others zero. -/
theorem lanes0 (f k : Fin 128 → EReal) (q κ : Fin 64 → EReal)
    (hf : ∀ e : Fin 64, f ⟨e.val, by omega⟩ = q e * Ideal.ofBits .f32 0x3E000000#32) (hz : ∀ e : Fin 64, f ⟨64 + e.val, by omega⟩ = 0)
    (hk : ∀ e : Fin 64, k ⟨e.val, by omega⟩ = κ e) : ∑ x, f x * k x = (∑ e, q e * κ e) * Ideal.ofBits .f32 0x3E000000#32 := by
  refine (Fin.sum_univ_add (a := 64) (b := 64) fun x => f x * k x).trans ?_
  rw [Finset.sum_eq_zero (s := Finset.univ) (f := fun i : Fin 64 => f (Fin.natAdd 64 i) * k (Fin.natAdd 64 i))
    (fun i _ => (congrArg (· * _) (hz i)).trans (zero_mul _)), add_zero, scale_eq, ← sum_mul_coe _ _ _ (by norm_num)]
  refine Finset.sum_congr rfl fun e _ => ?_
  rw [← scale_eq, mul_right_comm, ← hf e, ← hk e]
  rfl

/-- The same with the query in the last 64 lanes. -/
theorem lanes1 (f k : Fin 128 → EReal) (q κ : Fin 64 → EReal)
    (hf : ∀ e : Fin 64, f ⟨64 + e.val, by omega⟩ = q e * Ideal.ofBits .f32 0x3E000000#32) (hz : ∀ e : Fin 64, f ⟨e.val, by omega⟩ = 0)
    (hk : ∀ e : Fin 64, k ⟨64 + e.val, by omega⟩ = κ e) : ∑ x, f x * k x = (∑ e, q e * κ e) * Ideal.ofBits .f32 0x3E000000#32 := by
  refine (Fin.sum_univ_add (a := 64) (b := 64) fun x => f x * k x).trans ?_
  rw [Finset.sum_eq_zero (s := Finset.univ) (f := fun i : Fin 64 => f (Fin.castAdd 64 i) * k (Fin.castAdd 64 i))
    (fun i _ => (congrArg (· * _) (hz i)).trans (zero_mul _)), zero_add, scale_eq, ← sum_mul_coe _ _ _ (by norm_num)]
  refine Finset.sum_congr rfl fun e _ => ?_
  rw [← scale_eq, mul_right_comm, ← hf e, ← hk e]
  rfl

/-- The mask of the block on the diagonal keeps the keys up to the row. -/
theorem mask_at (r j : Fin 512) (a : EReal) :
    Scalar.select (k0_pay2 (ix2 r j)) a ⊥ = if j.val ≤ r.val then a else ⊥ := by
  unfold_payloads
  pointwise
  word_cmp

/-- A loaded piece of a block, read at an index. -/
theorem ld_at {a b n : ℕ} (X : Vec Ideal ⟨2, ![a, b]⟩ .bf16) (o0 o1 : ℕ)
    (inb : ∀ i : Fin (Shape.rank ⟨2, ![a, b]⟩), (![o0, o1] : Fin 2 → ℕ) i + (![n, 128] : Fin 2 → ℕ) i ≤ Shape.size ⟨2, ![a, b]⟩ i) (j : Fin n) (x : Fin 128) (J : Fin a) (L : Fin b)
    (hJ : J.val = o0 + j.val) (hL : L.val = o1 + x.val) :
    View.ld X (Rect.unit (s := ⟨2, ![a, b]⟩) ![o0, o1] ![n, 128] inb) (ix2 j x) = X (ix2 J L) :=
  View.ld_unit_apply_of X _ _ inb _ _ fun i => by
    fin_cases i
    · exact hJ
    · exact hL

/-- Scores of one map at a point: a product over the lanes of a head. -/
theorem dot0 (c : Dev nD) (t : Fin grid0.N) (h : Fin 2) (b : Fin 4) (H : Fin 8) (p : Fin 2048) (R : Fin 512)
    (hb : b.val = t.val / 16) (hH : H.val = 2 * (t.val / 4 % 4) + h.val) (hp : p.val = 512 * (t.val % 4) + R.val) (j : Fin 2048)
    (f k : Fin 128 → EReal) (hf : ∀ x : Fin 128, f x = iblk m c 5 t (ix2 R ⟨128 * h.val + x.val, by omega⟩))
    (hk : ∀ x : Fin 128, k x = iblk m c 7 t (ix2 j ⟨128 * h.val + x.val, by omega⟩)) :
    ∑ x, f x * k x = (∑ e : Fin 64, qs m c (ix5 b p H 0 e) * ks m c (ix5 b j H 0 e)) * Ideal.ofBits .f32 0x3E000000#32 := by
  have ht := t.isLt.trans_eq N_0
  refine lanes0 f k _ _ (fun e => (hf _).trans ((at5 m c t R _ ⟨2048 * b.val + p.val, by omega⟩ ⟨128 * H.val + e.val, by omega⟩
      ?_ ?_).trans (V8 m c _ _ b p H 0 e rfl ?_ rfl)))
    (fun e => (hf _).trans ((at5 m c t R _ ⟨2048 * b.val + p.val, by omega⟩ ⟨128 * H.val + (64 + e.val), by omega⟩ ?_ ?_).trans
      (V8z m c _ _ b p H 1 e rfl ?_ rfl)))
    (fun e => (hk _).trans ((at7 m c t j _ ⟨2048 * b.val + j.val, by omega⟩ ⟨128 * H.val + e.val, by omega⟩ ?_ ?_).trans
      (V13 m c _ _ b j H 0 e rfl ?_)))
  all_goals (simp only [Fin.val_zero, Fin.val_one]; omega)

theorem dot1 (c : Dev nD) (t : Fin grid0.N) (h : Fin 2) (b : Fin 4) (H : Fin 8) (p : Fin 2048) (R : Fin 512)
    (hb : b.val = t.val / 16) (hH : H.val = 2 * (t.val / 4 % 4) + h.val) (hp : p.val = 512 * (t.val % 4) + R.val) (j : Fin 2048)
    (f k : Fin 128 → EReal) (hf : ∀ x : Fin 128, f x = iblk m c 6 t (ix2 R ⟨128 * h.val + x.val, by omega⟩))
    (hk : ∀ x : Fin 128, k x = iblk m c 7 t (ix2 j ⟨128 * h.val + x.val, by omega⟩)) :
    ∑ x, f x * k x = (∑ e : Fin 64, qs m c (ix5 b p H 1 e) * ks m c (ix5 b j H 1 e)) * Ideal.ofBits .f32 0x3E000000#32 := by
  have ht := t.isLt.trans_eq N_0
  refine lanes1 f k _ _ (fun e => (hf _).trans ((at6 m c t R _ ⟨2048 * b.val + p.val, by omega⟩ ⟨128 * H.val + (64 + e.val), by omega⟩
      ?_ ?_).trans (V11 m c _ _ b p H 1 e rfl ?_ rfl)))
    (fun e => (hf _).trans ((at6 m c t R _ ⟨2048 * b.val + p.val, by omega⟩ ⟨128 * H.val + e.val, by omega⟩ ?_ ?_).trans
      (V11z m c _ _ b p H 0 e rfl ?_ rfl)))
    (fun e => (hk _).trans ((at7 m c t j _ ⟨2048 * b.val + j.val, by omega⟩ ⟨128 * H.val + (64 + e.val), by omega⟩ ?_ ?_).trans
      (V13 m c _ _ b j H 1 e rfl ?_)))
  all_goals (simp only [Fin.val_zero, Fin.val_one]; omega)

/-- The values of a head at a point. -/
theorem val_at (c : Dev nD) (t : Fin grid0.N) (h : Fin 2) (b : Fin 4) (H : Fin 8)
    (hb : b.val = t.val / 16) (hH : H.val = 2 * (t.val / 4 % 4) + h.val) (j : Fin 2048) (d : Fin 128) :
    iblk m c 8 t (ix2 j ⟨128 * h.val + d.val, by omega⟩) = vs m c (ix4 b j H d) := by
  have ht := t.isLt.trans_eq N_0
  exact (at8 m c t j _ ⟨2048 * b.val + j.val, by omega⟩ ⟨128 * H.val + d.val, by omega⟩ (by simp only; omega) (by simp only; omega)).trans
    (V15 m c _ _ b j H d rfl rfl)

/-- One map's softmax over the block on the diagonal and the `n` keys before it is the softmax over all keys, the later ones masked. -/
theorem soft2_at {n : ℕ} (s v : Fin 2048 → EReal) (dot : Fin 2048 → EReal) (p : Fin 2048) (R : Fin 512) (hn : n + 512 ≤ 2048)
    (hp : p.val = n + R.val) (hs : ∀ j, s j = if j.val ≤ p.val then dot j else ⊥)
    (q k : Vec Ideal S512x128 .bf16) (kp : Vec Ideal ⟨2, ![n, 128]⟩ .bf16) (v0 : Fin 512 → EReal) (v1 : Fin n → EReal)
    (hd : ∀ j : Fin 512, (∑ x : Fin 128, q (ix2 R x) * k (ix2 j x) : EReal) = dot ⟨n + j.val, by omega⟩)
    (he : ∀ j : Fin n, (∑ x : Fin 128, q (ix2 R x) * kp (ix2 j x) : EReal) = dot ⟨j.val, by omega⟩)
    (hv0 : ∀ j : Fin 512, v0 j = v ⟨n + j.val, by omega⟩) (hv1 : ∀ j : Fin n, v1 j = v ⟨j.val, by omega⟩) :
    soft2 (sd k0_pay2 q k R) v0 (sp q kp R) v1 = soft s v := by
  have e0 : sd k0_pay2 q k R = fun j : Fin 512 => s ⟨n + j.val, by omega⟩ := funext fun j => by
    refine (mask_at R j _).trans ?_
    rw [hs, hd j]
    have e : j.val ≤ R.val ↔ n + j.val ≤ p.val := by omega
    simp only [e]
  have e1 : sp q kp R = fun j : Fin n => s ⟨j.val, by omega⟩ := funext fun j => by
    refine (he j).trans ?_
    rw [hs]
    exact (if_pos (by show j.val ≤ p.val; omega)).symm
  rw [e0, e1, funext hv0, funext hv1]
  exact soft2_eq hn s v fun k hk => (hs k).trans (if_neg (by omega))

/-- The second stretch may be empty. -/
theorem soft2_nil {n : ℕ} (s v : Fin n → EReal) (s' v' : Fin 0 → EReal) : soft2 s v s' v' = soft s v := by
  have h : top s' = ⊥ := rfl
  simp only [soft2, soft, h, num, den, Finset.univ_eq_empty, Finset.sum_empty, add_zero]
  rw [show max (top s) ⊥ = top s from sup_bot_eq _]

/-- The kernel's result at a sequence, head, row and lane. -/
def kern (c : Dev nD) (b : Fin 4) (H : Fin 8) (p : Fin 2048) (d : Fin 128) : EReal :=
  nrm (fun d => m ((c : Thread nD τ).loc main_arg7) (ix2 0 d))
    (fun d => soft (score (qs m c) (ks m c) b H 0 p) (fun j => vs m c (ix4 b j H d))
      - lamb (m ((c : Thread nD τ).loc main_arg3)) (m ((c : Thread nD τ).loc main_arg4)) (m ((c : Thread nD τ).loc main_arg5))
          (m ((c : Thread nD τ).loc main_arg6)) * soft (score (qs m c) (ks m c) b H 1 p) (fun j => vs m c (ix4 b j H d))) d

/-- Lambda and the scale at a point are those of the call. -/
theorem lam_at (c : Dev nD) (t : Fin grid0.N) : lamb (iblk m c 0 t) (iblk m c 1 t) (iblk m c 2 t) (iblk m c 3 t)
    = lamb (m ((c : Thread nD τ).loc main_arg3)) (m ((c : Thread nD τ).loc main_arg4)) (m ((c : Thread nD τ).loc main_arg5))
          (m ((c : Thread nD τ).loc main_arg6)) := by
  simp only [lamb, blk0 m c t, blk1 m c t, blk2 m c t, blk3 m c t]

/-- A row of a head at a point. -/
theorem point {n : ℕ} (c : Dev nD) (t : Fin grid0.N) (h : Fin 2) (b : Fin 4) (H : Fin 8) (p : Fin 2048) (R : Fin 512) (d : Fin 128)
    (hb : b.val = t.val / 16) (hH : H.val = 2 * (t.val / 4 % 4) + h.val) (hp : p.val = 512 * (t.val % 4) + R.val)
    (hn : n = 512 * (t.val % 4)) (q1 q2 k v : Vec Ideal S512x128 .bf16) (kp vp : Vec Ideal ⟨2, ![n, 128]⟩ .bf16)
    (h1 : ∀ x : Fin 128, q1 (ix2 R x) = iblk m c 5 t (ix2 R ⟨128 * h.val + x.val, by omega⟩))
    (h2 : ∀ x : Fin 128, q2 (ix2 R x) = iblk m c 6 t (ix2 R ⟨128 * h.val + x.val, by omega⟩))
    (hk : ∀ (j : Fin 512) (x : Fin 128), k (ix2 j x) = iblk m c 7 t (ix2 ⟨n + j.val, by omega⟩ ⟨128 * h.val + x.val, by omega⟩))
    (hv : ∀ (j : Fin 512) (x : Fin 128), v (ix2 j x) = iblk m c 8 t (ix2 ⟨n + j.val, by omega⟩ ⟨128 * h.val + x.val, by omega⟩))
    (hkp : ∀ (j : Fin n) (x : Fin 128), kp (ix2 j x) = iblk m c 7 t (ix2 ⟨j.val, by omega⟩ ⟨128 * h.val + x.val, by omega⟩))
    (hvp : ∀ (j : Fin n) (x : Fin 128), vp (ix2 j x) = iblk m c 8 t (ix2 ⟨j.val, by omega⟩ ⟨128 * h.val + x.val, by omega⟩)) :
    nrm (fun d => iblk m c 4 t (ix2 0 d)) (dif k0_pay2 (lamb (iblk m c 0 t) (iblk m c 1 t) (iblk m c 2 t) (iblk m c 3 t))
      q1 q2 k v kp vp R) d = kern m c b H p d := by
  have e0 : ∀ d, soft2 (sd k0_pay2 q1 k R) (fun j => v (ix2 j d)) (sp q1 kp R) (fun j => vp (ix2 j d))
      = soft (score (qs m c) (ks m c) b H 0 p) (fun j => vs m c (ix4 b j H d)) := fun d =>
    soft2_at _ _ (fun j => (∑ e : Fin 64, qs m c (ix5 b p H 0 e) * ks m c (ix5 b j H 0 e)) * Ideal.ofBits .f32 0x3E000000#32) p R
      (by omega) (by omega) (fun j => rfl) q1 k kp _ _
      (fun j => dot0 m c t h b H p R hb hH hp _ _ _ h1 (hk j)) (fun j => dot0 m c t h b H p R hb hH hp _ _ _ h1 (hkp j))
      (fun j => (hv j d).trans (val_at m c t h b H hb hH _ d)) (fun j => (hvp j d).trans (val_at m c t h b H hb hH _ d))
  have e1 : ∀ d, soft2 (sd k0_pay2 q2 k R) (fun j => v (ix2 j d)) (sp q2 kp R) (fun j => vp (ix2 j d))
      = soft (score (qs m c) (ks m c) b H 1 p) (fun j => vs m c (ix4 b j H d)) := fun d =>
    soft2_at _ _ (fun j => (∑ e : Fin 64, qs m c (ix5 b p H 1 e) * ks m c (ix5 b j H 1 e)) * Ideal.ofBits .f32 0x3E000000#32) p R
      (by omega) (by omega) (fun j => rfl) q2 k kp _ _
      (fun j => dot1 m c t h b H p R hb hH hp _ _ _ h2 (hk j)) (fun j => dot1 m c t h b H p R hb hH hp _ _ _ h2 (hkp j))
      (fun j => (hv j d).trans (val_at m c t h b H hb hH _ d)) (fun j => (hvp j d).trans (val_at m c t h b H hb hH _ d))
  have eg : (fun d => iblk m c 4 t (ix2 0 d)) = fun d => m ((c : Thread nD τ).loc main_arg7) (ix2 0 d) := funext (blk4 m c t)
  have ed : dif k0_pay2 (lamb (iblk m c 0 t) (iblk m c 1 t) (iblk m c 2 t) (iblk m c 3 t)) q1 q2 k v kp vp R = fun d =>
      soft (score (qs m c) (ks m c) b H 0 p) (fun j => vs m c (ix4 b j H d))
      - lamb (m ((c : Thread nD τ).loc main_arg3)) (m ((c : Thread nD τ).loc main_arg4)) (m ((c : Thread nD τ).loc main_arg5))
          (m ((c : Thread nD τ).loc main_arg6)) * soft (score (qs m c) (ks m c) b H 1 p) (fun j => vs m c (ix4 b j H d)) := by
    funext d
    show soft2 _ _ _ _ - _ * soft2 _ _ _ _ = _
    rw [e0, e1, lam_at]
  rw [ed]
  exact congrArg (fun g => nrm g _ d) eg

/-- The same at a first quarter, which has no keys before it. -/
theorem point0 (c : Dev nD) (t : Fin grid0.N) (h : Fin 2) (b : Fin 4) (H : Fin 8) (p : Fin 2048) (R : Fin 512) (d : Fin 128)
    (hb : b.val = t.val / 16) (hH : H.val = 2 * (t.val / 4 % 4) + h.val) (hp : p.val = 512 * (t.val % 4) + R.val)
    (hn : t.val % 4 = 0) (q1 q2 k v : Vec Ideal S512x128 .bf16)
    (h1 : ∀ x : Fin 128, q1 (ix2 R x) = iblk m c 5 t (ix2 R ⟨128 * h.val + x.val, by omega⟩))
    (h2 : ∀ x : Fin 128, q2 (ix2 R x) = iblk m c 6 t (ix2 R ⟨128 * h.val + x.val, by omega⟩))
    (hk : ∀ (j : Fin 512) (x : Fin 128), k (ix2 j x) = iblk m c 7 t (ix2 ⟨0 + j.val, by omega⟩ ⟨128 * h.val + x.val, by omega⟩))
    (hv : ∀ (j : Fin 512) (x : Fin 128), v (ix2 j x) = iblk m c 8 t (ix2 ⟨0 + j.val, by omega⟩ ⟨128 * h.val + x.val, by omega⟩)) :
    nrm (fun d => iblk m c 4 t (ix2 0 d)) (dif0 k0_pay2 (lamb (iblk m c 0 t) (iblk m c 1 t) (iblk m c 2 t) (iblk m c 3 t))
      q1 q2 k v R) d = kern m c b H p d := by
  refine (congrArg (fun o => nrm _ o d) (funext fun d => ?_)).trans (point (n := 0) m c t h b H p R d hb hH hp (by omega) q1 q2 k v
    (fun _ => (0 : EReal)) (fun _ => (0 : EReal)) h1 h2 hk hv (fun j => j.elim0) (fun j => j.elim0))
  simp only [dif, dif0, soft2_nil]

/-- What a point leaves in its tile. -/
def tile (c : Dev nD) (t : Fin grid0.N) (y : S512x256.Idx) : EReal :=
  have ht := t.isLt.trans_eq N_0
  have h0 : (y 0).val < 512 := (y 0).isLt
  have h1 : (y 1).val < 256 := (y 1).isLt
  kern m c ⟨t.val / 16, by omega⟩ ⟨2 * (t.val / 4 % 4) + (y 1).val / 128, by omega⟩ ⟨512 * (t.val % 4) + (y 0).val, by omega⟩
    ⟨(y 1).val % 128, by omega⟩

theorem tile_eq (c : Dev nD) (t : Fin grid0.N) (y : S512x256.Idx) (h : Fin 2) (b : Fin 4) (H : Fin 8) (p : Fin 2048) (R : Fin 512)
    (d : Fin 128) (hb : b.val = t.val / 16) (hH : H.val = 2 * (t.val / 4 % 4) + h.val) (hp : p.val = 512 * (t.val % 4) + R.val)
    (h0 : (y 0).val = R.val) (h1 : (y 1).val = 128 * h.val + d.val) : kern m c b H p d = tile m c t y := by
  have kc : ∀ b' H' p' d', b'.val = b.val → H'.val = H.val → p'.val = p.val → d'.val = d.val → kern m c b H p d = kern m c b' H' p' d' :=
    fun b' H' p' d' e1 e2 e3 e4 => by rw [Fin.ext e1, Fin.ext e2, Fin.ext e3, Fin.ext e4]
  exact kc _ _ _ _ (by simp only; omega) (by simp only; omega) (by simp only; omega) (by simp only; omega)

end Cert.AttnIdeal.Step

end
-- ==== Proof.AttnTile.lean ====
/- The four kinds of grid points of the prompt's attention, by quarter of the sequence, and the result array. -/
module

public import proofs.«01_k».proof.Proof.AttnValue

@[expose] public section

set_option maxRecDepth 16384

noncomputable section

namespace Cert.AttnIdeal.Step

open Cert.AttnIdeal Cert.AttnIdeal.Gen Cert.AttnMath Idealize.ShloMosaic Idealize.ShloMosaic.TcCoe Idealize.SL.Sem

variable (m : (ℓ : Loc nD τ sig) → Buf (Elt Ideal) ℓ)

/-- A row of a head at a point, in the point's tile. -/
theorem piece {n : ℕ} (c : Dev nD) (t : Fin grid0.N) (z : S512x256.Idx) (h : Fin 2) (R : Fin 512) (d : Fin 128)
    (h0 : (z 0).val = R.val) (h1 : (z 1).val = 128 * h.val + d.val) (hn : n = 512 * (t.val % 4))
    (q1 q2 k v : Vec Ideal S512x128 .bf16) (kp vp : Vec Ideal ⟨2, ![n, 128]⟩ .bf16)
    (e1 : ∀ x : Fin 128, q1 (ix2 R x) = iblk m c 5 t (ix2 R ⟨128 * h.val + x.val, by omega⟩))
    (e2 : ∀ x : Fin 128, q2 (ix2 R x) = iblk m c 6 t (ix2 R ⟨128 * h.val + x.val, by omega⟩))
    (hk : ∀ (j : Fin 512) (x : Fin 128), k (ix2 j x) = iblk m c 7 t (ix2 ⟨n + j.val, by omega⟩ ⟨128 * h.val + x.val, by omega⟩))
    (hv : ∀ (j : Fin 512) (x : Fin 128), v (ix2 j x) = iblk m c 8 t (ix2 ⟨n + j.val, by omega⟩ ⟨128 * h.val + x.val, by omega⟩))
    (hkp : ∀ (j : Fin n) (x : Fin 128), kp (ix2 j x) = iblk m c 7 t (ix2 ⟨j.val, by omega⟩ ⟨128 * h.val + x.val, by omega⟩))
    (hvp : ∀ (j : Fin n) (x : Fin 128), vp (ix2 j x) = iblk m c 8 t (ix2 ⟨j.val, by omega⟩ ⟨128 * h.val + x.val, by omega⟩)) :
    nrm (fun d => iblk m c 4 t (ix2 0 d)) (dif k0_pay2 (lamb (iblk m c 0 t) (iblk m c 1 t) (iblk m c 2 t) (iblk m c 3 t))
      q1 q2 k v kp vp R) d = tile m c t z := by
  have ht := t.isLt.trans_eq N_0
  exact (point m c t h ⟨t.val / 16, by omega⟩ ⟨2 * (t.val / 4 % 4) + h.val, by omega⟩ ⟨512 * (t.val % 4) + R.val, by omega⟩ R d
    rfl rfl rfl hn q1 q2 k v kp vp e1 e2 hk hv hkp hvp).trans (tile_eq m c t z h _ _ _ R d rfl rfl rfl h0 h1)

/-- The same at a first quarter. -/
theorem piece0 (c : Dev nD) (t : Fin grid0.N) (z : S512x256.Idx) (h : Fin 2) (R : Fin 512) (d : Fin 128)
    (h0 : (z 0).val = R.val) (h1 : (z 1).val = 128 * h.val + d.val) (hn : t.val % 4 = 0)
    (q1 q2 k v : Vec Ideal S512x128 .bf16)
    (e1 : ∀ x : Fin 128, q1 (ix2 R x) = iblk m c 5 t (ix2 R ⟨128 * h.val + x.val, by omega⟩))
    (e2 : ∀ x : Fin 128, q2 (ix2 R x) = iblk m c 6 t (ix2 R ⟨128 * h.val + x.val, by omega⟩))
    (hk : ∀ (j : Fin 512) (x : Fin 128), k (ix2 j x) = iblk m c 7 t (ix2 ⟨0 + j.val, by omega⟩ ⟨128 * h.val + x.val, by omega⟩))
    (hv : ∀ (j : Fin 512) (x : Fin 128), v (ix2 j x) = iblk m c 8 t (ix2 ⟨0 + j.val, by omega⟩ ⟨128 * h.val + x.val, by omega⟩)) :
    nrm (fun d => iblk m c 4 t (ix2 0 d)) (dif0 k0_pay2 (lamb (iblk m c 0 t) (iblk m c 1 t) (iblk m c 2 t) (iblk m c 3 t))
      q1 q2 k v R) d = tile m c t z := by
  have ht := t.isLt.trans_eq N_0
  exact (point0 m c t h ⟨t.val / 16, by omega⟩ ⟨2 * (t.val / 4 % 4) + h.val, by omega⟩ ⟨512 * (t.val % 4) + R.val, by omega⟩ R d
    rfl rfl rfl hn q1 q2 k v e1 e2 hk hv).trans (tile_eq m c t z h _ _ _ R d rfl rfl rfl h0 h1)

/-- A point of the first quarter leaves its tile of the result. -/
theorem outA (c : Dev nD) (t : Fin cfg0.N) (q0 : t.val % 4 = 0) (q1 : ¬t.val % 4 = 1) (q2 : ¬t.val % 4 = 2) (q3 : ¬t.val % 4 = 3) (z : S512x256.Idx) : outsAt0 m c t.val t.isLt z = tile m c t z := by
  rw [outsAt0_A m c t q0 q1 q2 q3]
  frame_open
  simp (disch := decide) only [↓ View.readCov_skip, ↓ View.readCov_cons_toLoadRect, ↓ View.readCov_fill]
  frame_out
  canon_tiles y h
  case piece0 =>
    obtain ⟨R, d, rfl⟩ : ∃ (R : Fin 512) (d : Fin 128), y = ix2 R d := ⟨y 0, y 1, eq_ix2 y⟩
    refine (payA1 _ _ _ _ _ _ _ _ _ R d).trans ?_
    exact piece0 m c t z 1 R d h0 h1 q0 _ _ _ _
      (fun x => ld_at _ 0 128 _ R x R _ (Nat.zero_add _).symm rfl)
      (fun x => ld_at _ 0 128 _ R x R _ (Nat.zero_add _).symm rfl)
      (fun j x => ld_at _ 0 128 _ j x _ _ rfl rfl)
      (fun j x => ld_at _ 0 128 _ j x _ _ rfl rfl)
  case piece1 =>
    obtain ⟨R, d, rfl⟩ : ∃ (R : Fin 512) (d : Fin 128), y = ix2 R d := ⟨y 0, y 1, eq_ix2 y⟩
    refine (payA0 _ _ _ _ _ _ _ R d).trans ?_
    rw [pay1_apply]
    exact piece0 m c t z 0 R d h0 (h1.trans (Nat.zero_add _).symm) q0 _ _ _ _
      (fun x => ld_at _ 0 0 _ R x R _ (Nat.zero_add _).symm rfl)
      (fun x => ld_at _ 0 0 _ R x R _ (Nat.zero_add _).symm rfl)
      (fun j x => ld_at _ 0 0 _ j x _ _ rfl rfl)
      (fun j x => ld_at _ 0 0 _ j x _ _ rfl rfl)

/-- A point of the second quarter leaves its tile of the result. -/
theorem outB (c : Dev nD) (t : Fin cfg0.N) (q0 : ¬t.val % 4 = 0) (q1 : t.val % 4 = 1) (q2 : ¬t.val % 4 = 2) (q3 : ¬t.val % 4 = 3) (z : S512x256.Idx) : outsAt0 m c t.val t.isLt z = tile m c t z := by
  rw [outsAt0_B m c t q0 q1 q2 q3]
  frame_open
  simp (disch := decide) only [↓ View.readCov_skip, ↓ View.readCov_cons_toLoadRect, ↓ View.readCov_fill]
  frame_out
  canon_tiles y h
  case piece0 =>
    obtain ⟨R, d, rfl⟩ : ∃ (R : Fin 512) (d : Fin 128), y = ix2 R d := ⟨y 0, y 1, eq_ix2 y⟩
    refine (payB1 _ _ _ _ _ _ _ _ _ R d).trans ?_
    rw [pay1_apply]
    exact piece (n := 512) m c t z 1 R d h0 h1 (by omega) _ _ _ _ _ _
      (fun x => ld_at _ 0 128 _ R x R _ (Nat.zero_add _).symm rfl)
      (fun x => ld_at _ 0 128 _ R x R _ (Nat.zero_add _).symm rfl)
      (fun j x => ld_at _ 512 128 _ j x _ _ rfl rfl)
      (fun j x => ld_at _ 512 128 _ j x _ _ rfl rfl)
      (fun j x => ld_at _ 0 128 _ j x _ _ (Nat.zero_add _).symm rfl)
      (fun j x => ld_at _ 0 128 _ j x _ _ (Nat.zero_add _).symm rfl)
  case piece1 =>
    obtain ⟨R, d, rfl⟩ : ∃ (R : Fin 512) (d : Fin 128), y = ix2 R d := ⟨y 0, y 1, eq_ix2 y⟩
    refine (payB0 _ _ _ _ _ _ _ _ _ R d).trans ?_
    rw [pay1_apply]
    exact piece (n := 512) m c t z 0 R d h0 (h1.trans (Nat.zero_add _).symm) (by omega) _ _ _ _ _ _
      (fun x => ld_at _ 0 0 _ R x R _ (Nat.zero_add _).symm rfl)
      (fun x => ld_at _ 0 0 _ R x R _ (Nat.zero_add _).symm rfl)
      (fun j x => ld_at _ 512 0 _ j x _ _ rfl rfl)
      (fun j x => ld_at _ 512 0 _ j x _ _ rfl rfl)
      (fun j x => ld_at _ 0 0 _ j x _ _ (Nat.zero_add _).symm rfl)
      (fun j x => ld_at _ 0 0 _ j x _ _ (Nat.zero_add _).symm rfl)

/-- A point of the third quarter leaves its tile of the result. -/
theorem outC (c : Dev nD) (t : Fin cfg0.N) (q0 : ¬t.val % 4 = 0) (q1 : ¬t.val % 4 = 1) (q2 : t.val % 4 = 2) (q3 : ¬t.val % 4 = 3) (z : S512x256.Idx) : outsAt0 m c t.val t.isLt z = tile m c t z := by
  rw [outsAt0_C m c t q0 q1 q2 q3]
  frame_open
  simp (disch := decide) only [↓ View.readCov_skip, ↓ View.readCov_cons_toLoadRect, ↓ View.readCov_fill]
  frame_out
  canon_tiles y h
  case piece0 =>
    obtain ⟨R, d, rfl⟩ : ∃ (R : Fin 512) (d : Fin 128), y = ix2 R d := ⟨y 0, y 1, eq_ix2 y⟩
    refine (payC1 _ _ _ _ _ _ _ _ _ R d).trans ?_
    rw [pay1_apply]
    exact piece (n := 1024) m c t z 1 R d h0 h1 (by omega) _ _ _ _ _ _
      (fun x => ld_at _ 0 128 _ R x R _ (Nat.zero_add _).symm rfl)
      (fun x => ld_at _ 0 128 _ R x R _ (Nat.zero_add _).symm rfl)
      (fun j x => ld_at _ 1024 128 _ j x _ _ rfl rfl)
      (fun j x => ld_at _ 1024 128 _ j x _ _ rfl rfl)
      (fun j x => ld_at _ 0 128 _ j x _ _ (Nat.zero_add _).symm rfl)
      (fun j x => ld_at _ 0 128 _ j x _ _ (Nat.zero_add _).symm rfl)
  case piece1 =>
    obtain ⟨R, d, rfl⟩ : ∃ (R : Fin 512) (d : Fin 128), y = ix2 R d := ⟨y 0, y 1, eq_ix2 y⟩
    refine (payC0 _ _ _ _ _ _ _ _ _ R d).trans ?_
    rw [pay1_apply]
    exact piece (n := 1024) m c t z 0 R d h0 (h1.trans (Nat.zero_add _).symm) (by omega) _ _ _ _ _ _
      (fun x => ld_at _ 0 0 _ R x R _ (Nat.zero_add _).symm rfl)
      (fun x => ld_at _ 0 0 _ R x R _ (Nat.zero_add _).symm rfl)
      (fun j x => ld_at _ 1024 0 _ j x _ _ rfl rfl)
      (fun j x => ld_at _ 1024 0 _ j x _ _ rfl rfl)
      (fun j x => ld_at _ 0 0 _ j x _ _ (Nat.zero_add _).symm rfl)
      (fun j x => ld_at _ 0 0 _ j x _ _ (Nat.zero_add _).symm rfl)

/-- A point of the fourth quarter leaves its tile of the result. -/
theorem outD (c : Dev nD) (t : Fin cfg0.N) (q0 : ¬t.val % 4 = 0) (q1 : ¬t.val % 4 = 1) (q2 : ¬t.val % 4 = 2) (q3 : t.val % 4 = 3) (z : S512x256.Idx) : outsAt0 m c t.val t.isLt z = tile m c t z := by
  rw [outsAt0_D m c t q0 q1 q2 q3]
  frame_open
  simp (disch := decide) only [↓ View.readCov_skip, ↓ View.readCov_cons_toLoadRect, ↓ View.readCov_fill]
  frame_out
  canon_tiles y h
  case piece0 =>
    obtain ⟨R, d, rfl⟩ : ∃ (R : Fin 512) (d : Fin 128), y = ix2 R d := ⟨y 0, y 1, eq_ix2 y⟩
    refine (payD1 _ _ _ _ _ _ _ _ _ R d).trans ?_
    rw [pay1_apply]
    exact piece (n := 1536) m c t z 1 R d h0 h1 (by omega) _ _ _ _ _ _
      (fun x => ld_at _ 0 128 _ R x R _ (Nat.zero_add _).symm rfl)
      (fun x => ld_at _ 0 128 _ R x R _ (Nat.zero_add _).symm rfl)
      (fun j x => ld_at _ 1536 128 _ j x _ _ rfl rfl)
      (fun j x => ld_at _ 1536 128 _ j x _ _ rfl rfl)
      (fun j x => ld_at _ 0 128 _ j x _ _ (Nat.zero_add _).symm rfl)
      (fun j x => ld_at _ 0 128 _ j x _ _ (Nat.zero_add _).symm rfl)
  case piece1 =>
    obtain ⟨R, d, rfl⟩ : ∃ (R : Fin 512) (d : Fin 128), y = ix2 R d := ⟨y 0, y 1, eq_ix2 y⟩
    refine (payD0 _ _ _ _ _ _ _ _ _ R d).trans ?_
    rw [pay1_apply]
    exact piece (n := 1536) m c t z 0 R d h0 (h1.trans (Nat.zero_add _).symm) (by omega) _ _ _ _ _ _
      (fun x => ld_at _ 0 0 _ R x R _ (Nat.zero_add _).symm rfl)
      (fun x => ld_at _ 0 0 _ R x R _ (Nat.zero_add _).symm rfl)
      (fun j x => ld_at _ 1536 0 _ j x _ _ rfl rfl)
      (fun j x => ld_at _ 1536 0 _ j x _ _ rfl rfl)
      (fun j x => ld_at _ 0 0 _ j x _ _ (Nat.zero_add _).symm rfl)
      (fun j x => ld_at _ 0 0 _ j x _ _ (Nat.zero_add _).symm rfl)

/-- Every point leaves its tile of the result. -/
theorem out (c : Dev nD) (t : Fin cfg0.N) (z : S512x256.Idx) : outsAt0 m c t.val t.isLt z = tile m c t z := by
  by_cases q0 : t.val % 4 = 0
  · exact outA m c t q0 (by omega) (by omega) (by omega) z
  by_cases q1 : t.val % 4 = 1
  · exact outB m c t q0 q1 (by omega) (by omega) z
  by_cases q2 : t.val % 4 = 2
  · exact outC m c t q0 q1 q2 (by omega) z
  · exact outD m c t q0 q1 q2 (by omega) z

/-- The result array, as the kernel writes it. -/
def arr (c : Dev nD) (i : S8192x1024.Idx) : EReal :=
  have h0 : (i 0).val < 8192 := (i 0).isLt
  have h1 : (i 1).val < 1024 := (i 1).isLt
  kern m c ⟨(i 0).val / 2048, by omega⟩ ⟨(i 1).val / 128, by omega⟩ ⟨(i 0).val % 2048, by omega⟩ ⟨(i 1).val % 128, by omega⟩

theorem kern_congr (c : Dev nD) (b b' : Fin 4) (H H' : Fin 8) (p p' : Fin 2048) (d d' : Fin 128) (e1 : b.val = b'.val)
    (e2 : H.val = H'.val) (e3 : p.val = p'.val) (e4 : d.val = d'.val) : kern m c b H p d = kern m c b' H' p' d' := by
  rw [Fin.ext e1, Fin.ext e2, Fin.ext e3, Fin.ext e4]

/-- The result array after the run. -/
theorem arr9 (c : Dev nD) : (dats m 0 c).arrAt 9 cfg0.N = (arr m c : Vec Ideal S8192x1024 .bf16) := by
  refine (dats m 0 c).arrAt_eq_of_covers 9 _ (by decide +kernel) fun t _ y => ?_
  have ht := t.isLt.trans_eq N_0
  have h0 : ((win0_9.blk t).view.emb y 0).val = 512 * (4 * (t.val / 16) + t.val % 4) + (y 0).val := by blk_simp [idx t]; omega
  have h1 : ((win0_9.blk t).view.emb y 1).val = 256 * (t.val / 4 % 4) + (y 1).val := by blk_simp [idx t]; omega
  have y0 : (y 0).val < 512 := (y 0).isLt
  have y1 : (y 1).val < 256 := (y 1).isLt
  blk_simp
  rw [after0_9]
  refine (out m c t y).trans (kern_congr m c _ _ _ _ _ _ _ _ ?_ ?_ ?_ ?_)
  · show t.val / 16 = ((win0_9.blk t).view.emb y 0).val / 2048
    omega
  · show 2 * (t.val / 4 % 4) + (y 1).val / 128 = ((win0_9.blk t).view.emb y 1).val / 128
    omega
  · show 512 * (t.val % 4) + (y 0).val = ((win0_9.blk t).view.emb y 0).val % 2048
    omega
  · show (y 1).val % 128 = ((win0_9.blk t).view.emb y 1).val % 128
    omega

end Cert.AttnIdeal.Step

end
-- ==== Proof.AttnRefRead.lean ====
/- The reference of the prompt's attention, read at an index. -/
module

public import proofs.«01_k».proof.Proof.AttnBlock
public import proofs.«01_k».proof.Proof.Gen.AttnRefIdeal.Read

@[expose] public section

set_option maxRecDepth 16384

noncomputable section

namespace Cert.AttnRefIdeal.Step

open Cert.AttnRefIdeal Cert.AttnRefIdeal.Gen Cert.AttnRefIdeal.Read Cert.AttnMath Idealize.ShloMosaic Idealize.ShloMosaic.TcCoe Idealize.SL.Sem
open Cert.AttnIdeal.Step (nrm lamb ninf score)

/-- The masked scores. -/
theorem v21_at (q k : Vec Ideal S4x2048x8x2x64 .f32) (b : Fin 4) (H : Fin 8) (i : Fin 2) (p j : Fin 2048) :
    val_main_v21 (F := Ideal) q k (ix5 b H i p j) = score q k b H i p j := by
  pointwise [val_main_v21, val_main_call0_v1, val_main_v20, val_main_v18, val_main_v16, val_main_v15, val_main_v19, val_main_v17, val_main_v14, val_main_v12,
    val_main_v13, val_main_cst_2, val_main_call0_v2, val_main_call0_v0, val_main_cst_3, score]
  word_cmp
  rw [show id (constant (F := Ideal) S_ FTy.f32 0xFF800000#32) ix0 = (⊥ : EReal) from ninf]

/-- The largest score of a row. -/
theorem v22_at (q k : Vec Ideal S4x2048x8x2x64 .f32) (b : Fin 4) (H : Fin 8) (i : Fin 2) (p : Fin 2048) (s : Fin 2048 → EReal)
    (hs : ∀ j, val_main_v21 (F := Ideal) q k (ix5 b H i p j) = s j) :
    val_main_v22 (F := Ideal) q k (ix4 b H i p) = top s := by
  unfold val_main_v22 top
  generalize val_main_v21 (F := Ideal) q k = w at hs
  pointwise [val_main_cst_4, hs, ninf]

/-- The softmax weights of a row. -/
theorem v32_at (q k : Vec Ideal S4x2048x8x2x64 .f32) (b : Fin 4) (H : Fin 8) (i : Fin 2) (p j : Fin 2048) (s : Fin 2048 → EReal)
    (hs : ∀ j, val_main_v21 (F := Ideal) q k (ix5 b H i p j) = s j) (ht : val_main_v22 (F := Ideal) q k (ix4 b H i p) = top s) :
    val_main_v32 (F := Ideal) q k (ix5 b H i p j) = weight s j := by
  have h24 : val_main_v24 (F := Ideal) q k (ix4 b H i p) = top s := by
    rw [val_main_v24_apply, ht, val_main_v23_apply, val_main_cst_5_apply]
    show max (Ideal.ofBits .f32 0xFF800000#32) (top s) = top s
    rw [ninf]; exact bot_sup_eq _
  have e26 : ∀ j, idx_main_v25 (idx_main_v26 (ix5 b H i p j)) = ix4 b H i p := fun j => by funext a; fin_cases a <;> rfl
  have e28 : ∀ j, val_main_v28 (F := Ideal) q k (ix5 b H i p j) = Ideal.exp (s j - top s) := fun j => by
    rw [val_main_v28_apply, val_main_v27_apply, val_main_v26_apply, val_main_v25_apply, e26, h24, hs]
    rfl
  have e31 : idx_main_v30 (idx_main_v31 (ix5 b H i p j)) = ix4 b H i p := by funext a; fin_cases a <;> rfl
  have e29 : ∀ j, idx_main_v29 (ix4 b H i p) j = ix5 b H i p j := fun j => by funext a; fin_cases a <;> rfl
  rw [val_main_v32_apply, val_main_v31_apply, val_main_v30_apply, e31, val_main_v29_apply, e28]
  simp only [e29, e28]
  rw [show (val_main_cst_6 (F := Ideal)) (Shape.Idx.first h_S_) = (0 : EReal) from ?_, zero_add]
  · rfl
  · exact Ideal.ofBits_zero .f32

/-- Lambda. -/
theorem v11_at (a b c d : Vec Ideal S1x64 .f32) (i : S_.Idx) : val_main_v11 (F := Ideal) a b c d i = lamb a b c d := by
  pointwise [val_main_v11, val_main_v10, val_main_v9, val_main_v8, val_main_v7, val_main_v6, val_main_v5, val_main_v4, val_main_v3, val_main_v2, val_main_v1, val_main_v0, lamb, val_main_cst, val_main_cst_0, val_main_cst_1]

/-- The difference of the two maps, applied to the values. -/
theorem v41_at (q k : Vec Ideal S4x2048x8x2x64 .f32) (v : Vec Ideal S4x2048x8x128 .f32) (x3 x4 x5 x6 : Vec Ideal S1x64 .f32)
    (b : Fin 4) (H : Fin 8) (p : Fin 2048) (d : Fin 128) (s : Fin 2 → Fin 2048 → EReal) (lam : EReal)
    (hw : ∀ i j, val_main_v32 (F := Ideal) q k (ix5 b H i p j) = weight (s i) j)
    (hl : ∀ i, val_main_v11 (F := Ideal) x3 x4 x5 x6 i = lam) :
    val_main_v41 (F := Ideal) q k v x3 x4 x5 x6 (ix4 b p H d) = mix (s 0) (s 1) lam (fun j => v (ix4 b j H d)) := by
  have e41 : idx_main_v41 (ix4 b p H d) = ix4 b H d p := by funext a; fin_cases a <;> rfl
  have el : ∀ j, lidx_main_v40 (ix4 b H d p) j = ix4 b j H d := fun j => by funext a; fin_cases a <;> rfl
  have er : ∀ j, ridx_main_v40 (ix4 b H d p) j = ix4 b H p j := fun j => by funext a; fin_cases a <;> rfl
  have e34 : ∀ j, idx_main_v33 (idx_main_v34 (ix4 b H p j)) = ix5 b H 0 p j := fun j => by
    idx_bounds
    ext a; fin_cases a <;> simp [idx_main_v33, idx_main_v34] <;> omega
  have e36 : ∀ j, idx_main_v35 (idx_main_v36 (ix4 b H p j)) = ix5 b H 1 p j := fun j => by
    idx_bounds
    ext a; fin_cases a <;> simp [idx_main_v35, idx_main_v36] <;> omega
  rw [val_main_v41_apply, e41, val_main_v40_apply]
  unfold mix
  refine Finset.sum_congr rfl fun j _ => ?_
  rw [el, er, val_main_v39_apply, val_main_v34_apply, val_main_v33_apply, e34, hw, val_main_v38_apply, val_main_v37_apply, hl,
    val_main_v36_apply, val_main_v35_apply, e36, hw]
  rfl

/-- The result, of the rows before their scaling. -/
theorem v59_at (q k : Vec Ideal S4x2048x8x2x64 .f32) (v : Vec Ideal S4x2048x8x128 .f32) (x3 x4 x5 x6 : Vec Ideal S1x64 .f32)
    (g : Vec Ideal S1x128 .f32) (r : Fin 8192) (n : Fin 1024) (b : Fin 4) (H : Fin 8) (p : Fin 2048) (d : Fin 128)
    (hr : r.val = 2048 * b.val + p.val) (hn : n.val = 128 * H.val + d.val) (o : Fin 128 → EReal)
    (ho : ∀ d, val_main_v41 (F := Ideal) q k v x3 x4 x5 x6 (ix4 b p H d) = o d) :
    val_main_v59 (F := Ideal) q k v x3 x4 x5 x6 g (ix2 r n) = nrm (fun d => g (ix2 0 d)) o d := by
  have h : (⟨r.val / 2048, by omega⟩ : Fin 4) = b ∧ (⟨r.val % 2048, by omega⟩ : Fin 2048) = p ∧ (⟨n.val / 128, by omega⟩ : Fin 8) = H
      ∧ (⟨n.val % 128, by omega⟩ : Fin 128) = d := by
    refine ⟨Fin.ext ?_, Fin.ext ?_, Fin.ext ?_, Fin.ext ?_⟩ <;> simp only <;> omega
  pointwise [val_main_v59, val_main_v58, val_main_v57, val_main_v56, val_main_v55, val_main_v54, val_main_v53, val_main_v52, val_main_v51,
    val_main_v50, val_main_v49, val_main_v48, val_main_v47, val_main_v46, val_main_v45, val_main_v44, val_main_v43, val_main_v42,
    val_main_cst_7, val_main_cst_8, val_main_cst_9, val_main_cst_10]
  rw [h.1, h.2.1, h.2.2.1, h.2.2.2]
  simp only [ho]
  rfl

/-- The reference's result at an index. -/
theorem result_at (q k : Vec Ideal S4x2048x8x2x64 .f32) (v : Vec Ideal S4x2048x8x128 .f32) (x3 x4 x5 x6 : Vec Ideal S1x64 .f32)
    (g : Vec Ideal S1x128 .f32) (r : Fin 8192) (n : Fin 1024) (b : Fin 4) (H : Fin 8) (p : Fin 2048) (d : Fin 128)
    (hr : r.val = 2048 * b.val + p.val) (hn : n.val = 128 * H.val + d.val) :
    val_main_v59 (F := Ideal) q k v x3 x4 x5 x6 g (ix2 r n) = nrm (fun d => g (ix2 0 d))
      (fun d => mix (score q k b H 0 p) (score q k b H 1 p) (lamb x3 x4 x5 x6) fun j => v (ix4 b j H d)) d :=
  v59_at q k v x3 x4 x5 x6 g r n b H p d hr hn _ fun d => v41_at q k v x3 x4 x5 x6 b H p d (fun i => score q k b H i p) _
    (fun i j => v32_at q k b H i p j _ (fun j => v21_at q k b H i p j) (v22_at q k b H i p _ fun j => v21_at q k b H i p j))
    (v11_at x3 x4 x5 x6)

end Cert.AttnRefIdeal.Step

end
-- ==== Proof.AttnFinite.lean ====
/- What the precondition of the attention's claim says of its arrays: every entry is a real number. -/
module

public import proofs.«01_k».proof.Proof.Gen.Pre_attnp_finite
public import Idealize.ShloMosaic.PureOps.Ideal
public import Idealize.ShloMosaic.Lib.Pointwise

@[expose] public section

noncomputable section

namespace Cert.AttnMath

open Idealize.ShloMosaic

theorem pinf : Ideal.ofBits FTy.f32 0x7F800000#32 = ⊤ := by simp [Ideal.ofBits, Ideal.ieee]

/-- A value of absolute value below infinity is real. -/
theorem real_of_lt (x : EReal) (h : Ideal.cmp .olt (max x (-x)) (Ideal.ofBits FTy.f32 0x7F800000#32) = 1#1) : ∃ r : ℝ, x = (r : EReal) := by
  rw [pinf] at h
  induction x using EReal.rec with
  | bot => simp [Ideal.cmp] at h
  | coe r => exact ⟨r, rfl⟩
  | top => simp [Ideal.cmp] at h

open Cert.Pre_attnp_finite in
/-- The five arrays' entries, of the five tests. -/
theorem finite (q k : FVec Ideal S4x2048x8x2x64 .f32) (v : FVec Ideal S4x2048x8x128 .f32) (a b c d : FVec Ideal S1x64 .f32)
    (g : FVec Ideal S1x128 .f32) (hv : (fn (F := Ideal) q k v a b c d g).1 = fun _ => 1#1)
    (ha : (fn (F := Ideal) q k v a b c d g).2.1 = fun _ => 1#1) (hb : (fn (F := Ideal) q k v a b c d g).2.2.1 = fun _ => 1#1)
    (hc : (fn (F := Ideal) q k v a b c d g).2.2.2.1 = fun _ => 1#1) (hd : (fn (F := Ideal) q k v a b c d g).2.2.2.2 = fun _ => 1#1) :
    (∀ i, ∃ r : ℝ, v i = (r : EReal)) ∧ (∀ i, ∃ r : ℝ, a i = (r : EReal)) ∧ (∀ i, ∃ r : ℝ, b i = (r : EReal))
      ∧ (∀ i, ∃ r : ℝ, c i = (r : EReal)) ∧ (∀ i, ∃ r : ℝ, d i = (r : EReal)) :=
  ⟨fun i => real_of_lt _ (congrFun hv i), fun i => real_of_lt _ (congrFun ha i), fun i => real_of_lt _ (congrFun hb i),
    fun i => real_of_lt _ (congrFun hc i), fun i => real_of_lt _ (congrFun hd i)⟩

end Cert.AttnMath

end
-- ==== Proof.AttnRef.lean ====
/- The prompt's attention: the kernel's result is the reference's, and the frames of the reference. -/
module

public import proofs.«01_k».proof.Proof.AttnTile
public import proofs.«01_k».proof.Proof.AttnRefRead
public import proofs.«01_k».proof.Proof.AttnFinite
public import proofs.«01_k».proof.Defs

@[expose] public section

set_option maxRecDepth 16384

noncomputable section

namespace Cert.AttnRefIdeal.Step

open Cert.AttnRefIdeal Cert.AttnRefIdeal.Gen Cert.AttnRefIdeal.Read Cert.AttnMath Idealize.ShloMosaic Idealize.ShloMosaic.TcCoe Idealize.SL.Sem
open Cert.AttnIdeal.Step (nrm lamb score kern arr qs ks vs cnt_eq eps_eq lam0_eq)

/-- The exponential of a sum of products of reals is real. -/
theorem exp_dot (a b : Vec Ideal S1x64 .f32) (ha : ∀ i, ∃ r : ℝ, a i = (r : EReal)) (hb : ∀ i, ∃ r : ℝ, b i = (r : EReal)) :
    ∃ r : ℝ, Ideal.exp (∑ x : Fin 64, a (ix2 0 x) * b (ix2 0 x)) = (r : EReal) := by
  choose f hf using ha
  choose g hg using hb
  refine ⟨Real.exp (∑ x : Fin 64, f (ix2 0 x) * g (ix2 0 x)), ?_⟩
  rw [show (∑ x : Fin 64, a (ix2 0 x) * b (ix2 0 x)) = ((∑ x : Fin 64, f (ix2 0 x) * g (ix2 0 x) : ℝ) : EReal) from ?_]
  · rfl
  · rw [coe_sum]
    exact Finset.sum_congr rfl fun x _ => by rw [hf, hg, EReal.coe_mul]

/-- So lambda is real. -/
theorem lamb_real (a b c d : Vec Ideal S1x64 .f32) (ha : ∀ i, ∃ r : ℝ, a i = (r : EReal)) (hb : ∀ i, ∃ r : ℝ, b i = (r : EReal))
    (hc : ∀ i, ∃ r : ℝ, c i = (r : EReal)) (hd : ∀ i, ∃ r : ℝ, d i = (r : EReal)) : ∃ r : ℝ, lamb a b c d = (r : EReal) := by
  obtain ⟨x, hx⟩ := exp_dot a b ha hb
  obtain ⟨y, hy⟩ := exp_dot c d hc hd
  obtain ⟨z, hz⟩ := lam0_eq
  exact ⟨x - y + z, by unfold lamb; rw [hx, hy, hz, EReal.coe_add, EReal.coe_sub]⟩

/-- The kernel's row, which subtracts the two quotients, and the reference's, which applies the difference of the two maps, agree. -/
theorem row_eq (s0 s1 : Fin 2048 → EReal) (lam : EReal) (v : Fin 2048 → Fin 128 → EReal) (g : Fin 128 → EReal)
    (hl : ∃ r : ℝ, lam = (r : EReal)) (hv : ∀ j d, ∃ r : ℝ, v j d = (r : EReal)) (d : Fin 128) :
    nrm g (fun d => mix s0 s1 lam fun j => v j d) d = nrm g (fun d => soft s0 (fun j => v j d) - lam * soft s1 (fun j => v j d)) d := by
  obtain ⟨l, rfl⟩ := hl
  choose f hf using hv
  obtain ⟨e, he⟩ := eps_eq
  obtain rfl : v = fun j d => (f j d : EReal) := funext fun j => funext fun d => hf j d
  unfold nrm
  rw [cnt_eq, he]
  exact (unitRow_row 128 (by norm_num) e _ g s0 s1 l f (by norm_num) d).symm

/-- The reference's result is the kernel's. -/
theorem result_eq (m : (ℓ : Loc Cert.AttnIdeal.nD Cert.AttnIdeal.τ Cert.AttnIdeal.sig) → Buf (Elt Ideal) ℓ)
    (hpre : Cert.Pre_AttnIdeal_attnp_finite m) (c : Dev Cert.AttnIdeal.nD) :
    val_main_v59 (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))
      (m ((c.tc : Thread Cert.AttnIdeal.nD Cert.AttnIdeal.τ).loc Cert.AttnIdeal.main_arg2)) (m ((c.tc : Thread Cert.AttnIdeal.nD Cert.AttnIdeal.τ).loc Cert.AttnIdeal.main_arg3))
      (m ((c.tc : Thread Cert.AttnIdeal.nD Cert.AttnIdeal.τ).loc Cert.AttnIdeal.main_arg4)) (m ((c.tc : Thread Cert.AttnIdeal.nD Cert.AttnIdeal.τ).loc Cert.AttnIdeal.main_arg5))
      (m ((c.tc : Thread Cert.AttnIdeal.nD Cert.AttnIdeal.τ).loc Cert.AttnIdeal.main_arg6)) (m ((c.tc : Thread Cert.AttnIdeal.nD Cert.AttnIdeal.τ).loc Cert.AttnIdeal.main_arg7)) = arr m c := by
  obtain ⟨p0, p1, p2, p3, p4⟩ := hpre c
  obtain ⟨hv, h3, h4, h5, h6⟩ := finite _ _ _ _ _ _ _ _ p0 p1 p2 p3 p4
  funext i
  obtain ⟨r, n, rfl⟩ : ∃ (r : Fin 8192) (n : Fin 1024), i = ix2 r n := ⟨i 0, i 1, eq_ix2 i⟩
  refine (result_at _ _ _ _ _ _ _ _ r n ⟨r.val / 2048, by omega⟩ ⟨n.val / 128, by omega⟩ ⟨r.val % 2048, by omega⟩
    ⟨n.val % 128, by omega⟩ (by simp only; omega) (by simp only; omega)).trans ?_
  exact row_eq _ _ _ (fun j d => vs m c (ix4 _ j _ d)) _ (lamb_real _ _ _ _ h3 h4 h5 h6) (fun j d => hv _) _

/-- The kernel's result is the reference's: equal on every pair of memories that agree on the arguments, the values and the vectors
    of lambda finite. -/
theorem algebraic : Cert.algebraic_AttnIdeal_AttnRefIdeal_pre_attnp_finite (hAttnIdeal := Cert.AttnIdeal.Gen.facts)
    (hAttnRefIdeal := Cert.AttnRefIdeal.Gen.facts) (hPre_attnp_finite := Cert.Pre_attnp_finite.Gen.facts) := by
  intro m ρ m' ρ' hpre hagree
  refine ⟨_, (θ_run Cert.AttnIdeal.defs _ _).mono (fun _ h c => ⟨(h c).1, (h c).2⟩)
    (Cert.AttnIdeal.Value.run_blocks (F := Ideal) m ρ), ?_⟩
  refine (θ_run Cert.AttnRefIdeal.defs _ _).mono (fun _ h c => ⟨(h c).1.trans ?_, (h c).2⟩)
    (Cert.AttnRefIdeal.Value.run (F := Ideal) m' ρ')
  refine (val_main_v59_eq _ _).trans ?_
  rw [Cert.AttnIdeal.Step.arr9 m c, (hagree c).1, (hagree c).2.1, (hagree c).2.2.1, (hagree c).2.2.2.1, (hagree c).2.2.2.2.1,
    (hagree c).2.2.2.2.2.1, (hagree c).2.2.2.2.2.2.1, (hagree c).2.2.2.2.2.2.2]
  exact result_eq m hpre c

/-- The reference runs, keeps its arguments and has no semaphore. -/
theorem frame : Cert.quiescent_AttnRefIdeal (hAttnRefIdeal := Cert.AttnRefIdeal.Gen.facts) := fun m ρ _ =>
  (θ_run Cert.AttnRefIdeal.defs _ _).mono (fun r h => ⟨fun c => (h c).2, sem_eq_zero_of_no_sems (by decide) r.2⟩)
    (Cert.AttnRefIdeal.Value.run (F := Ideal) m ρ)

end Cert.AttnRefIdeal.Step

end
-- ==== Proof.SconvBlock.lean ====
/- One grid point of the short convolution's decode step, read at an index.

   The point holds 256 of the 2048 channels of all 8 · 128 rows (row 128·t + b is time step t of sequence b). The theorems
   here say what it leaves in its two result blocks, from arbitrary input blocks. -/
module

public import proofs.«01_k».proof.Proof.Gen.SconvIdeal.Value
public import Idealize.ShloMosaic.Lib.Pipeline.ValueKit
public import Idealize.ShloMosaic.Lib.Pointwise

@[expose] public section

set_option maxRecDepth 16384

noncomputable section

namespace Cert.SconvIdeal.Step

open Cert.SconvIdeal Cert.SconvIdeal.Gen Idealize.ShloMosaic Idealize.ShloMosaic.TcCoe Idealize.SL.Sem

/-- The rows the convolution runs over, in time order: the 2 · 128 rows carried in, then the 8 · 128 rows `u` of this call. -/
def seq (x5 : Vec Ideal S256x256 .f32) (u : Vec Ideal S1024x256 .f32) (i : ℕ) (l : Fin 256) : EReal :=
  if h : i < 256 then x5 (ix2 ⟨i, h⟩ l) else if h' : i - 256 < 1024 then u (ix2 ⟨i - 256, h'⟩ l) else 0

/-- A carried row of the sequence. -/
theorem seq_state (x5 : Vec Ideal S256x256 .f32) (u : Vec Ideal S1024x256 .f32) {i : ℕ} {l l' : Fin 256} (r : Fin 256)
    (hr : r.val = i) (hl : l' = l) : x5 (ix2 r l') = seq x5 u i l := by
  subst hl hr
  unfold seq
  rw [dif_pos r.isLt]

/-- A row of the sequence made in this call. -/
theorem seq_new (x5 : Vec Ideal S256x256 .f32) (u : Vec Ideal S1024x256 .f32) {i : ℕ} {l l' : Fin 256} (r : Fin 1024)
    (hr : r.val + 256 = i) (hl : l' = l) : u (ix2 r l') = seq x5 u i l := by
  subst hl hr
  unfold seq
  rw [dif_neg (by omega), dif_pos (by omega)]
  congr 2

/-- The gated rows `u` of a point: the product of the two projections. -/
theorem pay4_apply (x0 : Vec Ideal S1024x2048 .bf16) (x2 x3 : Vec Ideal S1x2048x256 .f32) (R : Fin 1024) (l : Fin 256) :
    k0_pay4 (F := Ideal) x0 x2 x3 (ix2 R l)
      = (∑ d : Fin 2048, x0 (ix2 R d) * x2 (ix3 0 d l)) * (∑ d : Fin 2048, x0 (ix2 R d) * x3 (ix3 0 d l)) := by
  unfold_payloads
  pointwise

/-- The convolution's gate of a point. -/
theorem pay6_apply (x0 : Vec Ideal S1024x2048 .bf16) (x1 : Vec Ideal S1x2048x256 .f32) (R : Fin 1024) (l : Fin 256) :
    k0_pay6 (F := Ideal) x0 x1 (ix2 R l) = ∑ d : Fin 2048, x0 (ix2 R d) * x1 (ix3 0 d l) := by
  unfold_payloads
  pointwise

/-- The gated convolution a point leaves at row `R`, lane `l`, from its gated rows `u`, its gate `b`, the filter's taps
    `x4` and the carried rows `x5`. -/
def conv (u b : Vec Ideal S1024x256 .f32) (x4 : Vec Ideal S3x256 .f32) (x5 : Vec Ideal S256x256 .f32) (R : Fin 1024)
    (l : Fin 256) : EReal :=
  b (ix2 R l) * (seq x5 u (R.val + 256) l * x4 (ix2 2 l) + seq x5 u (R.val + 128) l * x4 (ix2 1 l)
    + seq x5 u R.val l * x4 (ix2 0 l))

/-- The gated convolution, from its three reads of the sequence. -/
theorem conv_of {u b : Vec Ideal S1024x256 .f32} {x4 : Vec Ideal S3x256 .f32} {x5 : Vec Ideal S256x256 .f32}
    {R Rb : Fin 1024} {l : Fin 256} {y2 y1 y0 : EReal} (hb : Rb = R) (h2 : y2 = seq x5 u (R.val + 256) l)
    (h1 : y1 = seq x5 u (R.val + 128) l) (h0 : y0 = seq x5 u R.val l) :
    b (ix2 Rb l) * (y2 * x4 (ix2 2 l) + y1 * x4 (ix2 1 l) + y0 * x4 (ix2 0 l)) = conv u b x4 x5 R l := by
  subst hb h2 h1 h0
  rfl

/-- The point's first result block is the gated convolution of the rows the point made. -/
theorem out6_apply (x0 : Vec Ideal S1024x2048 .bf16) (x1 x2 x3 : Vec Ideal S1x2048x256 .f32) (x4 : Vec Ideal S3x256 .f32)
    (x5 : Vec Ideal S256x256 .f32) (R : Fin 1024) (l : Fin 256) :
    out0_6 (F := Ideal) x0 x1 x2 x3 x4 x5 (ix2 R l)
      = conv (k0_pay4 (F := Ideal) x0 x2 x3) (k0_pay6 (F := Ideal) x0 x1) x4 x5 R l := by
  have e4 : View.ld x0 r0_0 = x0 := View.ld_unit_lit (S := S1024x2048) _ _ (by decide)
  have e1 : ∀ x : Vec Ideal S1x2048x256 .f32, View.ld x r0_1 = x :=
    fun x => View.ld_unit_lit (S := S1x2048x256) _ _ (by decide)
  unfold out0_6 k0_pay23 k0_pay24 k0_pay7
  rw [e4, e1, e1, e1]
  generalize k0_pay6 (F := Ideal) x0 x1 = b
  generalize k0_pay4 (F := Ideal) x0 x2 x3 = u
  canon_tiles x h
  all_goals idx_vars x
  all_goals unfold_payloads
  all_goals pointwise
  all_goals
    obtain rfl : l = x1 := Fin.ext h1
    refine conv_of (Fin.ext (by simp only []; omega)) ?_ ?_ ?_
    all_goals first
      | exact seq_new _ _ _ (by simp only []; omega) rfl
      | exact seq_state _ _ _ (by simp only []; omega) rfl

/-- The point's second result block is the gated rows of the last two time steps. -/
theorem out7_apply (x0 : Vec Ideal S1024x2048 .bf16) (x1 x2 x3 : Vec Ideal S1x2048x256 .f32) (x4 : Vec Ideal S3x256 .f32)
    (x5 : Vec Ideal S256x256 .f32) (R : Fin 256) (l : Fin 256) :
    out0_7 (F := Ideal) x0 x1 x2 x3 x4 x5 (ix2 R l)
      = k0_pay4 (F := Ideal) x0 x2 x3 (ix2 ⟨768 + R.val, by omega⟩ l) := by
  have e4 : View.ld x0 r0_0 = x0 := View.ld_unit_lit (S := S1024x2048) _ _ (by decide)
  have e1 : ∀ x : Vec Ideal S1x2048x256 .f32, View.ld x r0_1 = x :=
    fun x => View.ld_unit_lit (S := S1x2048x256) _ _ (by decide)
  unfold out0_7 k0_pay23
  rw [e4, e1, e1]
  generalize k0_pay4 (F := Ideal) x0 x2 x3 = u
  canon_tiles x h
  all_goals idx_vars x
  all_goals unfold_payloads
  all_goals pointwise
  obtain rfl : l = x1 := Fin.ext h1
  congr 2
  exact Fin.ext (by simp only []; omega)

end Cert.SconvIdeal.Step

end
-- ==== Proof.SconvValue.lean ====
/- The two results of the short convolution's decode step, as functions of the arguments of the call. -/
module

public import proofs.«01_k».proof.Proof.SconvBlock

@[expose] public section

set_option maxRecDepth 16384

noncomputable section

namespace Cert.SconvIdeal.Step

open Cert.SconvIdeal Cert.SconvIdeal.Gen Idealize.ShloMosaic Idealize.ShloMosaic.TcCoe Idealize.SL.Sem

/-- Column `n` of the projection of sequence `b` at time step `t`. -/
def proj (h : Vec Ideal S128x8x2048 .f32) (w : Vec Ideal S1x2048x6144 .f32) (b : Fin 128) (t : Fin 8) (n : Fin 6144) : EReal :=
  ∑ d : Fin 2048, h (ix3 b t d) * w (ix3 0 d n)

/-- The gated input of sequence `b` at time step `t`, channel `d`. -/
def gated (h : Vec Ideal S128x8x2048 .f32) (w : Vec Ideal S1x2048x6144 .f32) (b : Fin 128) (t : Fin 8) (d : Fin 2048) : EReal :=
  proj h w b t ⟨2048 + d.val, by omega⟩ * proj h w b t ⟨4096 + d.val, by omega⟩

/-- The gated inputs with the two carried ones in front: place `i` of ten. -/
def padded (h : Vec Ideal S128x8x2048 .f32) (s : Vec Ideal S1x128x2x2048 .f32) (w : Vec Ideal S1x2048x6144 .f32)
    (b : Fin 128) (i : Fin 10) (d : Fin 2048) : EReal :=
  if hi : i.val < 2 then s (ix4 0 b ⟨i.val, hi⟩ d) else gated h w b ⟨i.val - 2, by omega⟩ d

/-- The first result: three taps of the padded sequence, gated. -/
def result (h : Vec Ideal S128x8x2048 .f32) (s : Vec Ideal S1x128x2x2048 .f32) (w : Vec Ideal S1x2048x6144 .f32)
    (k : Vec Ideal S1x3x2048 .f32) (b : Fin 128) (t : Fin 8) (d : Fin 2048) : EReal :=
  proj h w b t ⟨d.val, by omega⟩ *
    (padded h s w b ⟨t.val + 2, by omega⟩ d * k (ix3 0 2 d) + padded h s w b ⟨t.val + 1, by omega⟩ d * k (ix3 0 1 d)
      + padded h s w b ⟨t.val, by omega⟩ d * k (ix3 0 0 d))

variable (m : (ℓ : Loc nD τ sig) → Buf (Elt Ideal) ℓ)

/-- The block every window holds at point `t`. -/
theorem idx : ∀ t : Fin grid0.N, win0_0.index t = ![0, 0] ∧ win0_1.index t = ![0, 0, t.val] ∧ win0_2.index t = ![0, 0, 8 + t.val]
    ∧ win0_3.index t = ![0, 0, 16 + t.val] ∧ win0_4.index t = ![0, t.val] ∧ win0_5.index t = ![0, t.val]
    ∧ win0_6.index t = ![0, t.val] ∧ win0_7.index t = ![0, t.val] := by decide +kernel

theorem blk0 (c : Dev nD) (t : Fin grid0.N) (R : Fin 1024) (d : Fin 2048) :
    iblk m c 0 t (ix2 R d) = m ((c : Thread nD τ).loc main_arg0) (ix3 ⟨R.val % 128, by omega⟩ ⟨R.val / 128, by omega⟩ d) := by
  blk_ext! [iblk, V, idx t]

theorem blk1 (c : Dev nD) (t : Fin grid0.N) (d : Fin 2048) (l : Fin 256) (n : Fin 6144) (hn : n.val = 256 * t.val + l.val) :
    iblk m c 1 t (ix3 0 d l) = m ((c : Thread nD τ).loc main_arg2) (ix3 0 d n) := by
  blk_ext! [iblk, V, idx t]

theorem blk2 (c : Dev nD) (t : Fin grid0.N) (d : Fin 2048) (l : Fin 256) (n : Fin 6144)
    (hn : n.val = 2048 + 256 * t.val + l.val) :
    iblk m c 2 t (ix3 0 d l) = m ((c : Thread nD τ).loc main_arg2) (ix3 0 d n) := by
  blk_ext! [iblk, V, idx t]

theorem blk3 (c : Dev nD) (t : Fin grid0.N) (d : Fin 2048) (l : Fin 256) (n : Fin 6144)
    (hn : n.val = 4096 + 256 * t.val + l.val) :
    iblk m c 3 t (ix3 0 d l) = m ((c : Thread nD τ).loc main_arg2) (ix3 0 d n) := by
  blk_ext! [iblk, V, idx t]

theorem blk4 (c : Dev nD) (t : Fin grid0.N) (j : Fin 3) (l : Fin 256) (n : Fin 2048) (hn : n.val = 256 * t.val + l.val) :
    iblk m c 4 t (ix2 j l) = m ((c : Thread nD τ).loc main_arg3) (ix3 0 j n) := by
  blk_ext! [iblk, V, idx t]

theorem blk5 (c : Dev nD) (t : Fin grid0.N) (r : Fin 256) (l : Fin 256) (n : Fin 2048) (hn : n.val = 256 * t.val + l.val) :
    iblk m c 5 t (ix2 r l)
      = m ((c : Thread nD τ).loc main_arg1) (ix4 0 ⟨r.val % 128, by omega⟩ ⟨r.val / 128, by omega⟩ n) := by
  blk_ext! [iblk, V, idx t]

/-- A point's projection block is the projection's columns the point holds. -/
theorem proj_blk (c : Dev nD) (t : Fin grid0.N) (x : Vec Ideal S1x2048x256 .f32) (R : Fin 1024) (l : Fin 256) (n : Fin 6144)
    (hx : ∀ d, x (ix3 0 d l) = m ((c : Thread nD τ).loc main_arg2) (ix3 0 d n)) :
    (∑ d : Fin 2048, (show Vec Ideal S1024x2048 .bf16 from iblk m c 0 t) (ix2 R d) * x (ix3 0 d l))
      = proj (m ((c : Thread nD τ).loc main_arg0)) (m ((c : Thread nD τ).loc main_arg2)) ⟨R.val % 128, by omega⟩
          ⟨R.val / 128, by omega⟩ n :=
  Finset.sum_congr rfl fun d _ => congrArg₂ (· * ·) (blk0 m c t R d) (hx d)

/-- The gated rows a point makes. -/
theorem gated_blk (c : Dev nD) (t : Fin grid0.N) (R : Fin 1024) (l : Fin 256) (n : Fin 2048)
    (hn : n.val = 256 * t.val + l.val) :
    k0_pay4 (F := Ideal) (iblk m c 0 t) (iblk m c 2 t) (iblk m c 3 t) (ix2 R l)
      = gated (m ((c : Thread nD τ).loc main_arg0)) (m ((c : Thread nD τ).loc main_arg2)) ⟨R.val % 128, by omega⟩
          ⟨R.val / 128, by omega⟩ n := by
  refine (pay4_apply _ _ _ R l).trans ?_
  exact congrArg₂ (· * ·)
    (proj_blk m c t _ R l ⟨2048 + n.val, by omega⟩ fun d => blk2 m c t d l _ (by simp only []; omega))
    (proj_blk m c t _ R l ⟨4096 + n.val, by omega⟩ fun d => blk3 m c t d l _ (by simp only []; omega))

/-- Row `128·i + b` of the sequence a point convolves is place `i` of sequence `b`'s padded inputs. -/
theorem seq_blk (c : Dev nD) (t : Fin grid0.N) (b : Fin 128) (i : Fin 10) (l : Fin 256) (n : Fin 2048)
    (hn : n.val = 256 * t.val + l.val) (r : ℕ) (hr : r = 128 * i.val + b.val) :
    seq (iblk m c 5 t) (k0_pay4 (F := Ideal) (iblk m c 0 t) (iblk m c 2 t) (iblk m c 3 t)) r l
      = padded (m ((c : Thread nD τ).loc main_arg0)) (m ((c : Thread nD τ).loc main_arg1))
          (m ((c : Thread nD τ).loc main_arg2)) b i n := by
  subst hr
  unfold seq padded
  by_cases hi : i.val < 2
  · rw [dif_pos (by omega), dif_pos hi]
    refine (blk5 m c t _ l n hn).trans ?_
    congr 2 <;> exact Fin.ext (by simp only []; omega)
  · rw [dif_neg (by omega), dif_pos (by omega), dif_neg hi]
    refine (gated_blk m c t _ l n hn).trans ?_
    congr 1 <;> exact Fin.ext (by simp only []; omega)

/-- What a point leaves at row `R`, lane `l` of its first result block. -/
theorem point6 (c : Dev nD) (t : Fin grid0.N) (R : Fin 1024) (l : Fin 256) (n : Fin 2048) (hn : n.val = 256 * t.val + l.val) :
    out0_6 (F := Ideal) (iblk m c 0 t) (iblk m c 1 t) (iblk m c 2 t) (iblk m c 3 t) (iblk m c 4 t) (iblk m c 5 t) (ix2 R l)
      = result (m ((c : Thread nD τ).loc main_arg0)) (m ((c : Thread nD τ).loc main_arg1)) (m ((c : Thread nD τ).loc main_arg2))
          (m ((c : Thread nD τ).loc main_arg3)) ⟨R.val % 128, by omega⟩ ⟨R.val / 128, by omega⟩ n := by
  refine (out6_apply _ _ _ _ _ _ R l).trans ?_
  unfold conv result
  refine congrArg₂ (· * ·) ?_ (congrArg₂ (· + ·) (congrArg₂ (· + ·) (congrArg₂ (· * ·) ?_ ?_) (congrArg₂ (· * ·) ?_ ?_))
    (congrArg₂ (· * ·) ?_ ?_))
  · exact (pay6_apply _ _ R l).trans (proj_blk m c t _ R l _ fun d => blk1 m c t d l _ (by simp only []; omega))
  · exact seq_blk m c t _ _ l n hn _ (by simp only []; omega)
  · exact blk4 m c t 2 l n hn
  · exact seq_blk m c t _ _ l n hn _ (by simp only []; omega)
  · exact blk4 m c t 1 l n hn
  · exact seq_blk m c t _ _ l n hn _ (by simp only []; omega)
  · exact blk4 m c t 0 l n hn

/-- The first result as an array: row `128·t + b` is time step `t` of sequence `b`. -/
def resultArr (h : Vec Ideal S128x8x2048 .f32) (s : Vec Ideal S1x128x2x2048 .f32) (w : Vec Ideal S1x2048x6144 .f32)
    (k : Vec Ideal S1x3x2048 .f32) : Vec Ideal S1024x2048 .bf16 := fun i =>
  result h s w k ⟨(i 0).val % 128, by omega⟩ ⟨(i 0).val / 128, by have h0 : (i 0).val < 1024 := (i 0).isLt; omega⟩ (i 1)

/-- The second result as an array: row `128·j + b` is the gated input of sequence `b` at time step `6 + j`. -/
def tailArr (h : Vec Ideal S128x8x2048 .f32) (w : Vec Ideal S1x2048x6144 .f32) : Vec Ideal S256x2048 .f32 := fun i =>
  gated h w ⟨(i 0).val % 128, by omega⟩ ⟨6 + (i 0).val / 128, by have h0 : (i 0).val < 256 := (i 0).isLt; omega⟩ (i 1)

end Cert.SconvIdeal.Step

end
-- ==== Proof.SconvArr.lean ====
/- The two result arrays of the short convolution's decode step after the run. -/
module

public import proofs.«01_k».proof.Proof.SconvValue

@[expose] public section

set_option maxRecDepth 16384

noncomputable section

namespace Cert.SconvIdeal.Step

open Cert.SconvIdeal Cert.SconvIdeal.Gen Idealize.ShloMosaic Idealize.ShloMosaic.TcCoe Idealize.SL.Sem

variable (m : (ℓ : Loc nD τ sig) → Buf (Elt Ideal) ℓ)

/-- The first result array after the run is `G`, once every point's block is `G`'s columns of the point. -/
theorem arr6_of (c : Dev nD) (G : Vec Ideal S1024x2048 .bf16)
    (hG : ∀ (t : Fin grid0.N) (R : Fin 1024) (l : Fin 256) (n : Fin 2048), n.val = 256 * t.val + l.val →
      out0_6 (F := Ideal) (iblk m c 0 t) (iblk m c 1 t) (iblk m c 2 t) (iblk m c 3 t) (iblk m c 4 t) (iblk m c 5 t) (ix2 R l)
        = G (ix2 R n)) : (dats m 0 c).arrAt 6 cfg0.N = G := by
  refine (dats m 0 c).arrAt_eq_of_covers 6 _ (by decide +kernel) fun t hf y => ?_
  have h0 : ((win0_6.blk t).view.emb y 0).val = (y 0).val := by blk_simp [idx t]
  have h1 : ((win0_6.blk t).view.emb y 1).val = 256 * t.val + (y 1).val := by blk_simp [idx t]; omega
  blk_simp
  rw [after0_6]
  have hy : ∀ x : S1024x256.Idx, x = ix2 (x 0) (x 1) := eq_ix2
  have hz : ∀ (z : S1024x2048.Idx) (a : Fin 1024), (z 0).val = a.val → ix2 a (z 1) = z := fun z a h =>
    (congrArg (fun a => ix2 a (z 1)) (Fin.ext h.symm)).trans (eq_ix2 z).symm
  exact (congrArg _ (hy y)).trans ((hG t (y 0) (y 1) _ h1).trans (congrArg G (hz _ _ h0)))

/-- The second result array after the run is `G`, once every point's block is `G`'s columns of the point. -/
theorem arr7_of (c : Dev nD) (G : Vec Ideal S256x2048 .f32)
    (hG : ∀ (t : Fin grid0.N) (R : Fin 256) (l : Fin 256) (n : Fin 2048), n.val = 256 * t.val + l.val →
      out0_7 (F := Ideal) (iblk m c 0 t) (iblk m c 1 t) (iblk m c 2 t) (iblk m c 3 t) (iblk m c 4 t) (iblk m c 5 t) (ix2 R l)
        = G (ix2 R n)) : (dats m 0 c).arrAt 7 cfg0.N = G := by
  refine (dats m 0 c).arrAt_eq_of_covers 7 _ (by decide +kernel) fun t hf y => ?_
  have h0 : ((win0_7.blk t).view.emb y 0).val = (y 0).val := by blk_simp [idx t]
  have h1 : ((win0_7.blk t).view.emb y 1).val = 256 * t.val + (y 1).val := by blk_simp [idx t]; omega
  blk_simp
  rw [after0_7]
  have hy : ∀ x : S256x256.Idx, x = ix2 (x 0) (x 1) := eq_ix2
  have hz : ∀ (z : S256x2048.Idx) (a : Fin 256), (z 0).val = a.val → ix2 a (z 1) = z := fun z a h =>
    (congrArg (fun a => ix2 a (z 1)) (Fin.ext h.symm)).trans (eq_ix2 z).symm
  exact (congrArg _ (hy y)).trans ((hG t (y 0) (y 1) _ h1).trans (congrArg G (hz _ _ h0)))

/-- The first result array after the run. -/
theorem arr6 (c : Dev nD) : (dats m 0 c).arrAt 6 cfg0.N = resultArr (m ((c : Thread nD τ).loc main_arg0))
    (m ((c : Thread nD τ).loc main_arg1)) (m ((c : Thread nD τ).loc main_arg2)) (m ((c : Thread nD τ).loc main_arg3)) :=
  arr6_of m c _ fun t R l n hn => point6 m c t R l n hn

/-- The second result array after the run. -/
theorem arr7 (c : Dev nD) : (dats m 0 c).arrAt 7 cfg0.N = tailArr (m ((c : Thread nD τ).loc main_arg0))
    (m ((c : Thread nD τ).loc main_arg2)) :=
  arr7_of m c _ fun t R l n hn => by
    refine (out7_apply _ _ _ _ _ _ R l).trans ((gated_blk m c t _ l n hn).trans ?_)
    have hb : (768 + R.val) % 128 = R.val % 128 := by omega
    have ht : (768 + R.val) / 128 = 6 + R.val / 128 := by omega
    simp only [hb, ht]
    rfl

end Cert.SconvIdeal.Step

end
-- ==== Proof.SconvRef.lean ====
/- The reference of the short convolution's decode step, read at an index. -/
module

public import proofs.«01_k».proof.Proof.SconvArr
public import proofs.«01_k».proof.Proof.Gen.SconvRefIdeal.Read
public import proofs.«01_k».proof.Defs

@[expose] public section

set_option maxRecDepth 16384

noncomputable section

namespace Cert.SconvRefIdeal.Step

open Cert.SconvRefIdeal Cert.SconvRefIdeal.Gen Cert.SconvRefIdeal.Read Idealize.ShloMosaic Idealize.ShloMosaic.TcCoe Idealize.SL.Sem
open Cert.SconvIdeal.Step (proj gated padded result resultArr tailArr)

/-- The reference's padded sequence. -/
theorem padded_apply (h : Vec Ideal S128x8x2048 .f32) (s : Vec Ideal S1x128x2x2048 .f32) (w : Vec Ideal S1x2048x6144 .f32)
    (b : Fin 128) (i : Fin 10) (d : Fin 2048) : val_main_v7 (F := Ideal) h s w (ix3 b i d) = padded h s w b i d := by
  pointwise [val_main_v7, val_main_v6, val_main_v5, val_main_v4, val_main_v3, val_main_v2, val_main_v1, val_main_v0]
  rfl

/-- The reference's first result. -/
theorem result_eq (h : Vec Ideal S128x8x2048 .f32) (s : Vec Ideal S1x128x2x2048 .f32) (w : Vec Ideal S1x2048x6144 .f32)
    (k : Vec Ideal S1x3x2048 .f32) : val_main_v32 (F := Ideal) h s w k = resultArr h s w k := by
  funext i
  idx_vars i
  pointwise [val_main_v32, val_main_v31, val_main_v30, val_main_v28, val_main_v27, val_main_v26, val_main_v25, val_main_v24,
    val_main_v23, val_main_v22, val_main_v21, val_main_v20, val_main_v19, val_main_v18, val_main_v17, val_main_v16,
    val_main_v15, val_main_v14, val_main_v13, val_main_v12, val_main_v11, val_main_v10, val_main_v9, val_main_v8,
    val_main_v2, val_main_v1, val_main_v0]
  rw [padded_apply, padded_apply, padded_apply]
  refine congrArg₂ (· * ·) rfl ?_
  have e1 : (⟨1 + i0.val / 128, by omega⟩ : Fin 10) = ⟨i0.val / 128 + 1, by omega⟩ := Fin.ext (Nat.add_comm _ _)
  have e2 : (⟨2 + i0.val / 128, by omega⟩ : Fin 10) = ⟨i0.val / 128 + 2, by omega⟩ := Fin.ext (Nat.add_comm _ _)
  rw [e1, e2]
  refine (add_comm _ _).trans ?_
  rw [add_comm (padded _ _ _ _ ⟨i0.val / 128, _⟩ _ * _), ← add_assoc]
  rfl

/-- The reference's second result. -/
theorem tail_eq (h : Vec Ideal S128x8x2048 .f32) (s : Vec Ideal S1x128x2x2048 .f32) (w : Vec Ideal S1x2048x6144 .f32) :
    val_main_v34 (F := Ideal) h s w = tailArr h w := by
  funext i
  idx_vars i
  pointwise [val_main_v34, val_main_v33, val_main_v29]
  rw [padded_apply]
  unfold padded tailArr
  rw [dif_neg (by simp only []; omega)]
  refine congrArg (fun t => gated h w _ t i1) (Fin.ext ?_)
  show 8 + i0.val / 128 - 2 = 6 + i0.val / 128
  omega

/-- The kernel's two results are the reference's: equal on every pair of memories that agree on the arguments. -/
theorem algebraic : Cert.algebraic_SconvIdeal_SconvRefIdeal (hSconvIdeal := Cert.SconvIdeal.Gen.facts)
    (hSconvRefIdeal := Cert.SconvRefIdeal.Gen.facts) := by
  intro m ρ m' ρ' _ hagree
  refine ⟨_, _, (θ_run Cert.SconvIdeal.defs _ _).mono (fun _ h c => ⟨(h c).1, (h c).2.1, (h c).2.2.2.2.2⟩)
    (Cert.SconvIdeal.Value.run_blocks (F := Ideal) m ρ), ?_⟩
  refine (θ_run Cert.SconvRefIdeal.defs _ _).mono (fun _ h c => ⟨(h c).1.trans ?_, (h c).2.1.trans ?_, (h c).2.2⟩)
    (Cert.SconvRefIdeal.Value.run (F := Ideal) m' ρ')
  · refine (val_main_v32_eq _ _ _ _).trans ((result_eq _ _ _ _).trans ?_)
    rw [Cert.SconvIdeal.Step.arr6 m c, (hagree c).1, (hagree c).2.1, (hagree c).2.2.1, (hagree c).2.2.2]
  · refine (val_main_v34_eq _ _ _).trans ((tail_eq _ _ _).trans ?_)
    rw [Cert.SconvIdeal.Step.arr7 m c, (hagree c).1, (hagree c).2.2.1]

/-- The reference runs, keeps its arguments and has no semaphore. -/
theorem frame : Cert.quiescent_SconvRefIdeal (hSconvRefIdeal := Cert.SconvRefIdeal.Gen.facts) := fun m ρ _ =>
  (θ_run Cert.SconvRefIdeal.defs _ _).mono (fun r h => ⟨fun c => (h c).2.2, sem_eq_zero_of_no_sems (by decide) r.2⟩)
    (Cert.SconvRefIdeal.Value.run (F := Ideal) m ρ)

end Cert.SconvRefIdeal.Step

end
-- ==== Proof.MlpPoint.lean ====
/- One grid point of the feed-forward block, read at an index. -/
module

public import proofs.«01_k».proof.Proof.Gen.MlpIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MlpIdeal.Step

open Cert.MlpIdeal Cert.MlpIdeal.Gen Idealize.ShloMosaic Idealize.ShloMosaic.TcCoe Idealize.SL.Sem

variable (m : (ℓ : Loc nD τ sig) → Buf (Elt Ideal) ℓ)

/-- The hidden unit `f` of row `R` of a point: the squared positive part of the first product. -/
def hid (x0 : Vec Ideal S512x2048 .bf16) (x1 : Vec Ideal S1x2048x1024 .bf16) (R : Fin 512) (f : Fin 1024) : EReal :=
  max (∑ d : Fin 2048, x0 (ix2 R d) * x1 (ix3 0 d f)) 0 * max (∑ d : Fin 2048, x0 (ix2 R d) * x1 (ix3 0 d f)) 0

/-- One accumulation step: the accumulator plus the hidden block's product. -/
theorem pay2_apply (x0 : Vec Ideal S512x2048 .bf16) (x1 : Vec Ideal S1x2048x1024 .bf16) (a : Vec Ideal S512x2048 .f32)
    (x2 : Vec Ideal S1024x2048 .bf16) (R : Fin 512) (n : Fin 2048) :
    k0_pay2 (F := Ideal) x0 x1 a x2 (ix2 R n) = a (ix2 R n) + ∑ f : Fin 1024, hid x0 x1 R f * x2 (ix2 f n) := by
  unfold_payloads
  pointwise [hid]

/-- The first point of a row block starts the accumulator at zero. -/
theorem outA (c : Dev nD) (t : Fin cfg0.N) (h0 : t.val % 8 = 0) (h1 : ¬t.val % 8 = 7) :
    outsAt0 m c t.val t.isLt = k0_pay2 (F := Ideal) (iblk m c 0 t) (iblk m c 1 t) (k0_pay1 (F := Ideal)) (iblk m c 2 t) := by
  rw [outsAt0_A m c t h0 h1]
  frame_out

/-- A middle point adds its hidden block to what the point before left. -/
theorem outB (c : Dev nD) (t : Fin cfg0.N) (h0 : ¬t.val % 8 = 0) (h1 : ¬t.val % 8 = 7) :
    outsAt0 m c t.val t.isLt = k0_pay2 (F := Ideal) (iblk m c 0 t) (iblk m c 1 t)
      (outsAt0 m c (t.val - 1) (Nat.lt_of_le_of_lt (Nat.sub_le _ _) t.isLt)) (iblk m c 2 t) := by
  rw [outsAt0_B m c t h0 h1]
  frame_out

/-- Stores that cover an index leave there what they leave alone, whatever was stored before them. -/
theorem canon_of_cover {S : Shape} {e : EltTy} (L' : List (View.Piece (Elt Ideal) S e)) (y : S.Idx) :
    ∀ L : List (View.Piece (Elt Ideal) S e), (∃ p ∈ L, y ∈ p.1.set) → View.canon (L ++ L') y = View.canon L y
  | [], h => by obtain ⟨p, hp, _⟩ := h; simp at hp
  | p :: L, h => by
    by_cases hm : y ∈ p.1.set
    · obtain ⟨x, rfl⟩ := p.1.exists_idx_of_mem hm
      exact (View.canon_cons_emb p.1 p.2 (L ++ L') x).trans (View.canon_cons_emb p.1 p.2 L x).symm
    · obtain ⟨q, hq, hy⟩ := h
      rcases List.mem_cons.mp hq with rfl | hq
      · exact absurd hy hm
      · rw [List.cons_append, View.canon_cons_of_not_mem p _ hm, View.canon_cons_of_not_mem p _ hm]
        exact canon_of_cover L' y L ⟨q, hq, hy⟩

/-- What the last point of a row block stores: the residual plus the gate times the finished accumulator. -/
def fin (x : Vec Ideal S512x2048 .f32) (g : Vec Ideal S1x1x2048 .f32) (b : Vec Ideal S512x2048 .f32) (R : Fin 512) (n : Fin 2048) : EReal :=
  x (ix2 R n) + g (ix3 0 0 n) * b (ix2 R n)

/-- The same value, read at a row with the same number. -/
theorem fin_at (x : Vec Ideal S512x2048 .f32) (g : Vec Ideal S1x1x2048 .f32) (b : Vec Ideal S512x2048 .f32) (R : Fin 512) (n : Fin 2048)
    (r : Fin 512) (h : R.val = r.val) : x (ix2 r n) + g (ix3 0 0 n) * b (ix2 r n) = fin x g b R n := by
  obtain rfl : R = r := Fin.ext h
  rfl

/-- The last point of a row block stores the gated sum of the accumulator and its own hidden block, in slabs of eight rows. -/
theorem outC (c : Dev nD) (t : Fin cfg0.N) (h0 : ¬t.val % 8 = 0) (h1 : t.val % 8 = 7) (R : Fin 512) (n : Fin 2048) :
    outsAt0 m c t.val t.isLt (ix2 R n) = fin (iblk m c 3 t) (iblk m c 4 t)
      (k0_pay2 (F := Ideal) (iblk m c 0 t) (iblk m c 1 t)
        (outsAt0 m c (t.val - 1) (Nat.lt_of_le_of_lt (Nat.sub_le _ _) t.isLt)) (iblk m c 2 t)) R n := by
  rw [outsAt0_C m c t h0 h1]
  generalize outsAt0 m c (t.val - 1) _ = a
  frame_open
  simp (disch := decide) only [↓ View.readCov_skip, ↓ View.readCov_cons_toLoadRect, ↓ View.readCov_fill]
  frame_out
  generalize k0_pay2 (iblk m c 0 t) (iblk m c 1 t) a (iblk m c 2 t) = b
  generalize iblk m c 3 t = x
  generalize iblk m c 4 t = g
  refine (congrArg (fun L => View.canon L _) (List.take_append_drop 64 _).symm).trans ?_
  have hc : ∀ L L' : List (View.Piece (Elt Ideal) S512x2048 .f32), View.Piece.tiled L ![8, 2048] = true → ∀ y v, View.canon L y = v → View.canon (L ++ L') y = v :=
    fun L L' h y v hv => (canon_of_cover L' y L (View.cover_of_tiled L _ h y)).trans hv
  refine hc _ _ (by rfl) _ _ ?_
  simp only [List.take_succ_cons, List.take_zero]
  canon_tiles y h
  all_goals idx_vars y
  all_goals unfold_payloads
  all_goals pointwise
  all_goals (obtain rfl : n = y1 := Fin.ext h1; exact fin_at x g b R n _ h0)

end Cert.MlpIdeal.Step

end
-- ==== Proof.MlpValue.lean ====
/- The feed-forward block's result array, as a function of the arguments of the call. -/
module

public import proofs.«01_k».proof.Proof.MlpPoint

@[expose] public section

set_option maxRecDepth 16384

noncomputable section

namespace Cert.MlpIdeal.Step

open Cert.MlpIdeal Cert.MlpIdeal.Gen Idealize.ShloMosaic Idealize.ShloMosaic.TcCoe Idealize.SL.Sem

/-- Hidden unit `f` of token `p` of sequence `s`: the squared positive part of the first product, of the second layer's weights. -/
def unit (h : Vec Ideal S4x2048x2048 .f32) (w1 : Vec Ideal S2x2048x8192 .f32) (s : Fin 4) (p : Fin 2048) (f : Fin 8192) : EReal :=
  max (∑ d : Fin 2048, h (ix3 s p d) * w1 (ix3 1 d f)) 0 * max (∑ d : Fin 2048, h (ix3 s p d) * w1 (ix3 1 d f)) 0

/-- The result at token `p` of sequence `s`, channel `n`: the residual plus the gated second product. -/
def result (h x : Vec Ideal S4x2048x2048 .f32) (mod : Vec Ideal S4x6144 .f32) (w1 : Vec Ideal S2x2048x8192 .f32)
    (w2 : Vec Ideal S2x8192x2048 .f32) (s : Fin 4) (p : Fin 2048) (n : Fin 2048) : EReal :=
  x (ix3 s p n) + mod (ix2 s ⟨4096 + n.val, by omega⟩) * ∑ f : Fin 8192, unit h w1 s p f * w2 (ix3 1 f n)

/-- The result as an array: row `2048·s + p` is token `p` of sequence `s`. -/
def resultArr (h x : Vec Ideal S4x2048x2048 .f32) (mod : Vec Ideal S4x6144 .f32) (w1 : Vec Ideal S2x2048x8192 .f32)
    (w2 : Vec Ideal S2x8192x2048 .f32) : Vec Ideal S8192x2048 .f32 := fun i =>
  result h x mod w1 w2 ⟨(i 0).val / 2048, by have h0 : (i 0).val < 8192 := (i 0).isLt; omega⟩ ⟨(i 0).val % 2048, by omega⟩ (i 1)

variable (m : (ℓ : Loc nD τ sig) → Buf (Elt Ideal) ℓ)

/-- The block every window holds at point `t`: row block `t / 8`, hidden block `t % 8`. -/
theorem idx : ∀ t : Fin grid0.N, win0_0.index t = ![t.val / 8, 0] ∧ win0_1.index t = ![t.val % 8, 1, 0]
    ∧ win0_2.index t = ![8 + t.val % 8, 0] ∧ win0_3.index t = ![t.val / 8, 0] ∧ win0_4.index t = ![t.val / 32, 0, 2]
    ∧ win0_5.index t = ![t.val / 8, 0] := by decide +kernel

theorem blk0 (c : Dev nD) (t : Fin grid0.N) (R : Fin 512) (d : Fin 2048) (s : Fin 4) (p : Fin 2048)
    (hr : 2048 * s.val + p.val = 512 * (t.val / 8) + R.val) :
    iblk m c 0 t (ix2 R d) = m ((c : Thread nD τ).loc main_arg0) (ix3 s p d) := by
  blk_ext! [iblk, V, idx t]

theorem blk1 (c : Dev nD) (t : Fin grid0.N) (d : Fin 2048) (l : Fin 1024) (f : Fin 8192)
    (hf : f.val = 1024 * (t.val % 8) + l.val) :
    iblk m c 1 t (ix3 0 d l) = m ((c : Thread nD τ).loc main_arg3) (ix3 1 d f) := by
  blk_ext! [iblk, V, idx t]

theorem blk2 (c : Dev nD) (t : Fin grid0.N) (l : Fin 1024) (n : Fin 2048) (f : Fin 8192)
    (hf : f.val = 1024 * (t.val % 8) + l.val) :
    iblk m c 2 t (ix2 l n) = m ((c : Thread nD τ).loc main_arg4) (ix3 1 f n) := by
  blk_ext! [iblk, V, idx t]

theorem blk3 (c : Dev nD) (t : Fin grid0.N) (R : Fin 512) (d : Fin 2048) (s : Fin 4) (p : Fin 2048)
    (hr : 2048 * s.val + p.val = 512 * (t.val / 8) + R.val) :
    iblk m c 3 t (ix2 R d) = m ((c : Thread nD τ).loc main_arg1) (ix3 s p d) := by
  blk_ext! [iblk, V, idx t]

theorem blk4 (c : Dev nD) (t : Fin grid0.N) (n : Fin 2048) (s : Fin 4) (hs : s.val = t.val / 32) :
    iblk m c 4 t (ix3 0 0 n) = m ((c : Thread nD τ).loc main_arg2) (ix2 s ⟨4096 + n.val, by omega⟩) := by
  blk_ext! [iblk, V, idx t]

/-- What a point adds to the accumulator. -/
def term (c : Dev nD) (t : Fin cfg0.N) (R : Fin 512) (n : Fin 2048) : EReal :=
  ∑ f : Fin 1024, hid (iblk m c 0 t) (iblk m c 1 t) R f * (show Vec Ideal S1024x2048 .bf16 from iblk m c 2 t) (ix2 f n)

/-- What a point adds, in the call's arguments: its 1024 hidden units' share of the second product. -/
theorem term_eq (c : Dev nD) (t : Fin cfg0.N) (R : Fin 512) (n : Fin 2048) (s : Fin 4) (p : Fin 2048) (J : Fin 8)
    (hr : 2048 * s.val + p.val = 512 * (t.val / 8) + R.val) (hJ : t.val % 8 = J.val) :
    term m c t R n = ∑ l : Fin 1024, unit (m ((c : Thread nD τ).loc main_arg0)) (m ((c : Thread nD τ).loc main_arg3)) s p
      ⟨J.val * 1024 + l.val, by omega⟩ * m ((c : Thread nD τ).loc main_arg4) (ix3 1 ⟨J.val * 1024 + l.val, by omega⟩ n) := by
  refine Finset.sum_congr rfl fun l _ => ?_
  have hs : (∑ d : Fin 2048, (show Vec Ideal S512x2048 .bf16 from iblk m c 0 t) (ix2 R d)
      * (show Vec Ideal S1x2048x1024 .bf16 from iblk m c 1 t) (ix3 0 d l)) = ∑ d : Fin 2048,
        (show Vec Ideal S4x2048x2048 .f32 from m ((c : Thread nD τ).loc main_arg0)) (ix3 s p d)
        * (show Vec Ideal S2x2048x8192 .f32 from m ((c : Thread nD τ).loc main_arg3)) (ix3 1 d ⟨J.val * 1024 + l.val, by omega⟩) :=
    Finset.sum_congr rfl fun d _ => congrArg₂ (· * ·) (blk0 m c t R d s p hr) (blk1 m c t d l _ (by simp only []; omega))
  refine congrArg₂ (· * ·) ?_ (blk2 m c t l n _ (by simp only []; omega))
  exact congrArg (fun z : EReal => max z 0 * max z 0) hs

/-- The accumulator after the first `J + 1` points of row block `I`, before the last of the eight. -/
theorem acc (c : Dev nD) (I : ℕ) (hI : I < 16) (R : Fin 512) (n : Fin 2048) : ∀ (J : ℕ) (hJ : J < 7) (h : 8 * I + J < cfg0.N),
    outsAt0 m c (8 * I + J) h (ix2 R n) = ∑ j : Fin (J + 1), term m c ⟨8 * I + j.val, by omega⟩ R n
  | 0, _, h => by
    refine (congrFun (outA m c ⟨8 * I + 0, h⟩ (by simp only []; omega) (by simp only []; omega)) _).trans ((pay2_apply _ _ _ _ R n).trans ?_)
    rw [Fin.sum_univ_one]
    refine (congrArg₂ (· + ·) (show k0_pay1 (F := Ideal) (ix2 R n) = 0 by unfold_payloads; pointwise) rfl).trans (zero_add _)
  | J + 1, hJ, h => by
    refine (congrFun (outB m c ⟨8 * I + (J + 1), h⟩ (by simp only []; omega) (by simp only []; omega)) _).trans ((pay2_apply _ _ _ _ R n).trans ?_)
    refine Eq.trans ?_ (Fin.sum_univ_castSucc _).symm
    exact congrArg₂ (· + ·) (acc c I hI R n J (by omega) (by omega)) rfl

/-- What the last point of row block `I` leaves: the result's rows of the block. -/
theorem last (c : Dev nD) (t : Fin cfg0.N) (ht : t.val % 8 = 7) (R : Fin 512) (n : Fin 2048) (s : Fin 4) (p : Fin 2048)
    (hr : 2048 * s.val + p.val = 512 * (t.val / 8) + R.val) :
    outsAt0 m c t.val t.isLt (ix2 R n) = result (m ((c : Thread nD τ).loc main_arg0)) (m ((c : Thread nD τ).loc main_arg1))
      (m ((c : Thread nD τ).loc main_arg2)) (m ((c : Thread nD τ).loc main_arg3)) (m ((c : Thread nD τ).loc main_arg4)) s p n := by
  have hN : t.val < 128 := t.isLt
  have hb : 8 * (t.val / 8) + 6 < cfg0.N := by show _ < 128; omega
  have he : t.val - 1 = 8 * (t.val / 8) + 6 := by omega
  have hp : outsAt0 m c (t.val - 1) (Nat.lt_of_le_of_lt (Nat.sub_le _ _) t.isLt) (ix2 R n)
      = ∑ j : Fin 7, term m c ⟨8 * (t.val / 8) + j.val, by show _ < 128; omega⟩ R n := by
    simp only [he]
    exact acc m c (t.val / 8) (by omega) R n 6 (by omega) hb
  refine (outC m c t (by omega) ht R n).trans ?_
  refine congrArg₂ (· + ·) (blk3 m c t R n s p hr) (congrArg₂ (· * ·) (blk4 m c t n s (by omega)) ?_)
  refine (pay2_apply _ _ _ _ R n).trans ?_
  have hs : (∑ j : Fin 7, term m c ⟨8 * (t.val / 8) + j.val, by show _ < 128; omega⟩ R n) + term m c t R n
      = ∑ j : Fin 8, term m c ⟨8 * (t.val / 8) + j.val, by show _ < 128; omega⟩ R n := by
    rw [Fin.sum_univ_castSucc (n := 7)]
    refine congrArg₂ (· + ·) rfl (congrArg (fun t => term m c t R n) (Fin.ext ?_))
    show t.val = 8 * (t.val / 8) + 7
    omega
  refine (congrArg₂ (· + ·) hp rfl).trans (hs.trans ?_)
  exact (Finset.sum_congr rfl fun j _ => term_eq m c ⟨8 * (t.val / 8) + j.val, by show _ < 128; omega⟩ R n s p j
    (by simp only []; omega) (by simp only []; omega)).trans (Fin.sum_mul_add_congr fun j k hl => rfl)

/-- The result array after the run is `G`, once the last point of every row block leaves `G`'s rows of the block. -/
theorem arr5_of (c : Dev nD) (G : Vec Ideal S8192x2048 .f32)
    (hG : ∀ (t : Fin grid0.N) (_ : t.val % 8 = 7) (R : Fin 512) (n : Fin 2048) (r : Fin 8192), r.val = 512 * (t.val / 8) + R.val →
      outsAt0 m c t.val t.isLt (ix2 R n) = G (ix2 r n)) : (dats m 0 c).arrAt 5 cfg0.N = G := by
  refine (dats m 0 c).arrAt_eq_of_covers 5 _ (by decide +kernel) fun t hf y => ?_
  have ht : t.val % 8 = 7 := (flush0_5 t).mp hf
  have h0 : ((win0_5.blk t).view.emb y 0).val = 512 * (t.val / 8) + (y 0).val := by blk_simp [idx t]; omega
  have h1 : ((win0_5.blk t).view.emb y 1).val = (y 1).val := by blk_simp [idx t]
  blk_simp
  rw [after0_5]
  have hy : ∀ x : S512x2048.Idx, x = ix2 (x 0) (x 1) := eq_ix2
  have hz : ∀ (z : S8192x2048.Idx) (a : Fin 2048), (z 1).val = a.val → ix2 (z 0) a = z := fun z a h =>
    (congrArg (fun a => ix2 (z 0) a) (Fin.ext h.symm)).trans (eq_ix2 z).symm
  exact (congrArg _ (hy y)).trans ((hG t ht (y 0) (y 1) _ h0).trans (congrArg G (hz _ _ h1)))

/-- The result array after the run. -/
theorem arr5 (c : Dev nD) : (dats m 0 c).arrAt 5 cfg0.N = resultArr (m ((c : Thread nD τ).loc main_arg0))
    (m ((c : Thread nD τ).loc main_arg1)) (m ((c : Thread nD τ).loc main_arg2)) (m ((c : Thread nD τ).loc main_arg3))
    (m ((c : Thread nD τ).loc main_arg4)) :=
  arr5_of m c _ fun t ht R n r hr => last m c t ht R n _ _ (by
    show 2048 * (r.val / 2048) + r.val % 2048 = _
    omega)

end Cert.MlpIdeal.Step

end
-- ==== Proof.MlpRef.lean ====
/- The reference of the feed-forward block, read at an index. -/
module

public import proofs.«01_k».proof.Proof.MlpValue
public import proofs.«01_k».proof.Proof.Gen.MlpRefIdeal.Read
public import proofs.«01_k».proof.Defs

@[expose] public section

set_option maxRecDepth 16384

noncomputable section

namespace Cert.MlpRefIdeal.Step

open Cert.MlpRefIdeal Cert.MlpRefIdeal.Gen Cert.MlpRefIdeal.Read Idealize.ShloMosaic Idealize.ShloMosaic.TcCoe Idealize.SL.Sem
open Cert.MlpIdeal.Step (unit result resultArr)

/-- The reference's result. -/
theorem result_eq (h x : Vec Ideal S4x2048x2048 .f32) (mod : Vec Ideal S4x6144 .f32) (w1 : Vec Ideal S2x2048x8192 .f32)
    (w2 : Vec Ideal S2x8192x2048 .f32) : val_main_v15 (F := Ideal) h x mod w1 w2 = resultArr h x mod w1 w2 := by
  funext i
  idx_vars i
  pointwise [val_main_v15, val_main_v14, val_main_v13, val_main_v12, val_main_v11, val_main_v10, val_main_v9, val_main_v8,
    val_main_v7, val_main_v6, val_main_v5, val_main_v4, val_main_v3, val_main_v0, val_main_call0_v0, val_main_call0_cst]
  rfl

/-- The kernel's result is the reference's: equal on every pair of memories that agree on the arguments. -/
theorem algebraic : Cert.algebraic_MlpIdeal_MlpRefIdeal (hMlpIdeal := Cert.MlpIdeal.Gen.facts)
    (hMlpRefIdeal := Cert.MlpRefIdeal.Gen.facts) := by
  intro m ρ m' ρ' _ hagree
  refine ⟨_, (θ_run Cert.MlpIdeal.defs _ _).mono (fun _ h c => ⟨(h c).1, (h c).2⟩)
    (Cert.MlpIdeal.Value.run_blocks (F := Ideal) m ρ), ?_⟩
  refine (θ_run Cert.MlpRefIdeal.defs _ _).mono (fun _ h c => ⟨(h c).1.trans ?_, (h c).2⟩)
    (Cert.MlpRefIdeal.Value.run (F := Ideal) m' ρ')
  refine (val_main_v15_eq _ _ _ _ _).trans ((result_eq _ _ _ _ _).trans ?_)
  rw [Cert.MlpIdeal.Step.arr5 m c, (hagree c).1, (hagree c).2.1, (hagree c).2.2.1, (hagree c).2.2.2.1, (hagree c).2.2.2.2]

/-- The reference runs, keeps its arguments and has no semaphore. -/
theorem frame : Cert.quiescent_MlpRefIdeal (hMlpRefIdeal := Cert.MlpRefIdeal.Gen.facts) := fun m ρ _ =>
  (θ_run Cert.MlpRefIdeal.defs _ _).mono (fun r h => ⟨fun c => (h c).2, sem_eq_zero_of_no_sems (by decide) r.2⟩)
    (Cert.MlpRefIdeal.Value.run (F := Ideal) m ρ)

end Cert.MlpRefIdeal.Step

end
-- ==== Proof.MlpsPoint.lean ====
/- One grid point of the feed-forward block on the sample group's rows, read at an index. -/
module

public import proofs.«01_k».proof.Proof.Gen.MlpsIdeal.Value
public import proofs.«01_k».proof.Proof.MlpPoint
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MlpsIdeal.Step

open Cert.MlpIdeal.Step (canon_of_cover)
open Cert.MlpsIdeal Cert.MlpsIdeal.Gen Idealize.ShloMosaic Idealize.ShloMosaic.TcCoe Idealize.SL.Sem

variable (m : (ℓ : Loc nD τ sig) → Buf (Elt Ideal) ℓ)

/-- The hidden unit `f` of row `R` of a point: the squared positive part of the first product. -/
def hid (x0 : Vec Ideal S512x2048 .bf16) (x1 : Vec Ideal S1x2048x1024 .bf16) (R : Fin 512) (f : Fin 1024) : EReal :=
  max (∑ d : Fin 2048, x0 (ix2 R d) * x1 (ix3 0 d f)) 0 * max (∑ d : Fin 2048, x0 (ix2 R d) * x1 (ix3 0 d f)) 0

/-- One accumulation step: the accumulator plus the hidden block's product. -/
theorem pay2_apply (x0 : Vec Ideal S512x2048 .bf16) (x1 : Vec Ideal S1x2048x1024 .bf16) (a : Vec Ideal S512x2048 .f32)
    (x2 : Vec Ideal S1024x2048 .bf16) (R : Fin 512) (n : Fin 2048) :
    k0_pay2 (F := Ideal) x0 x1 a x2 (ix2 R n) = a (ix2 R n) + ∑ f : Fin 1024, hid x0 x1 R f * x2 (ix2 f n) := by
  unfold_payloads
  pointwise [hid]

/-- The first point of a row block starts the accumulator at zero. -/
theorem outA (c : Dev nD) (t : Fin cfg0.N) (h0 : t.val % 8 = 0) (h1 : ¬t.val % 8 = 7) :
    outsAt0 m c t.val t.isLt = k0_pay2 (F := Ideal) (iblk m c 0 t) (iblk m c 1 t) (k0_pay1 (F := Ideal)) (iblk m c 2 t) := by
  rw [outsAt0_A m c t h0 h1]
  frame_out

/-- A middle point adds its hidden block to what the point before left. -/
theorem outB (c : Dev nD) (t : Fin cfg0.N) (h0 : ¬t.val % 8 = 0) (h1 : ¬t.val % 8 = 7) :
    outsAt0 m c t.val t.isLt = k0_pay2 (F := Ideal) (iblk m c 0 t) (iblk m c 1 t)
      (outsAt0 m c (t.val - 1) (Nat.lt_of_le_of_lt (Nat.sub_le _ _) t.isLt)) (iblk m c 2 t) := by
  rw [outsAt0_B m c t h0 h1]
  frame_out

/-- What the last point of a row block stores: the residual plus the gate of the row's sequence times the finished accumulator. -/
def fin (x : Vec Ideal S512x2048 .f32) (g : Vec Ideal S128x2048 .f32) (b : Vec Ideal S512x2048 .f32) (R : Fin 512) (n : Fin 2048) : EReal :=
  x (ix2 R n) + g (ix2 ⟨R.val % 128, by omega⟩ n) * b (ix2 R n)

/-- The same value, read at a row with the same number and at the gate of its sequence. -/
theorem fin_at (x : Vec Ideal S512x2048 .f32) (g : Vec Ideal S128x2048 .f32) (b : Vec Ideal S512x2048 .f32) (R : Fin 512) (n : Fin 2048)
    (r : Fin 512) (q : Fin 128) (h : R.val = r.val) (hq : q.val = R.val % 128) :
    x (ix2 r n) + g (ix2 q n) * b (ix2 r n) = fin x g b R n := by
  obtain rfl : R = r := Fin.ext h
  exact congrArg (fun q => x (ix2 R n) + g (ix2 q n) * b (ix2 R n)) (Fin.ext hq)

set_option maxHeartbeats 2000000 in
/-- The last point of a row block stores the gated sum of the accumulator and its own hidden block, in slabs of eight rows. -/
theorem outC (c : Dev nD) (t : Fin cfg0.N) (h0 : ¬t.val % 8 = 0) (h1 : t.val % 8 = 7) (R : Fin 512) (n : Fin 2048) :
    outsAt0 m c t.val t.isLt (ix2 R n) = fin (iblk m c 3 t) (iblk m c 4 t)
      (k0_pay2 (F := Ideal) (iblk m c 0 t) (iblk m c 1 t)
        (outsAt0 m c (t.val - 1) (Nat.lt_of_le_of_lt (Nat.sub_le _ _) t.isLt)) (iblk m c 2 t)) R n := by
  rw [outsAt0_C m c t h0 h1]
  generalize outsAt0 m c (t.val - 1) _ = a
  frame_open
  simp (disch := decide) only [↓ View.readCov_skip, ↓ View.readCov_cons_toLoadRect, ↓ View.readCov_fill]
  frame_out
  generalize k0_pay2 (iblk m c 0 t) (iblk m c 1 t) a (iblk m c 2 t) = b
  generalize iblk m c 3 t = x
  generalize iblk m c 4 t = g
  refine (congrArg (fun L => View.canon L _) (List.take_append_drop 64 _).symm).trans ?_
  have hc : ∀ L L' : List (View.Piece (Elt Ideal) S512x2048 .f32), View.Piece.tiled L ![8, 2048] = true → ∀ y v, View.canon L y = v → View.canon (L ++ L') y = v :=
    fun L L' h y v hv => (canon_of_cover L' y L (View.cover_of_tiled L _ h y)).trans hv
  refine hc _ _ (by rfl) _ _ ?_
  simp only [List.take_succ_cons, List.take_zero]
  canon_tiles y h
  all_goals idx_vars y
  all_goals unfold_payloads
  all_goals pointwise
  all_goals (obtain rfl : n = y1 := Fin.ext h1; exact fin_at x g b R n _ _ h0 (by simp only []; omega))

end Cert.MlpsIdeal.Step

end
-- ==== Proof.MlpsValue.lean ====
/- The feed-forward block's result array on the sample group's rows, as a function of the arguments of the call. -/
module

public import proofs.«01_k».proof.Proof.MlpsPoint

@[expose] public section

set_option maxRecDepth 16384

noncomputable section

namespace Cert.MlpsIdeal.Step

open Cert.MlpsIdeal Cert.MlpsIdeal.Gen Idealize.ShloMosaic Idealize.ShloMosaic.TcCoe Idealize.SL.Sem

/-- Hidden unit `f` of time step `p` of sequence `s`: the squared positive part of the first product, of the second layer's weights. -/
def unit (h : Vec Ideal S128x8x2048 .f32) (w1 : Vec Ideal S2x2048x8192 .f32) (s : Fin 128) (p : Fin 8) (f : Fin 8192) : EReal :=
  max (∑ d : Fin 2048, h (ix3 s p d) * w1 (ix3 1 d f)) 0 * max (∑ d : Fin 2048, h (ix3 s p d) * w1 (ix3 1 d f)) 0

/-- The result at time step `p` of sequence `s`, channel `n`: the residual plus the gated second product. -/
def result (h x : Vec Ideal S128x8x2048 .f32) (mod : Vec Ideal S128x6144 .f32) (w1 : Vec Ideal S2x2048x8192 .f32)
    (w2 : Vec Ideal S2x8192x2048 .f32) (s : Fin 128) (p : Fin 8) (n : Fin 2048) : EReal :=
  x (ix3 s p n) + mod (ix2 s ⟨4096 + n.val, by omega⟩) * ∑ f : Fin 8192, unit h w1 s p f * w2 (ix3 1 f n)

/-- The result as an array: row `128·p + s` is time step `p` of sequence `s`. -/
def resultArr (h x : Vec Ideal S128x8x2048 .f32) (mod : Vec Ideal S128x6144 .f32) (w1 : Vec Ideal S2x2048x8192 .f32)
    (w2 : Vec Ideal S2x8192x2048 .f32) : Vec Ideal S1024x2048 .f32 := fun i =>
  result h x mod w1 w2 ⟨(i 0).val % 128, by omega⟩ ⟨(i 0).val / 128, by have h0 : (i 0).val < 1024 := (i 0).isLt; omega⟩ (i 1)

variable (m : (ℓ : Loc nD τ sig) → Buf (Elt Ideal) ℓ)

/-- The block every window holds at point `t`: row block `t / 8`, hidden block `t % 8`. -/
theorem idx : ∀ t : Fin grid0.N, win0_0.index t = ![t.val / 8, 0] ∧ win0_1.index t = ![t.val % 8, 1, 0]
    ∧ win0_2.index t = ![8 + t.val % 8, 0] ∧ win0_3.index t = ![t.val / 8, 0] ∧ win0_4.index t = ![0, 2]
    ∧ win0_5.index t = ![t.val / 8, 0] := by decide +kernel

theorem blk0 (c : Dev nD) (t : Fin grid0.N) (R : Fin 512) (d : Fin 2048) (s : Fin 128) (p : Fin 8)
    (hr : 128 * p.val + s.val = 512 * (t.val / 8) + R.val) :
    iblk m c 0 t (ix2 R d) = m ((c : Thread nD τ).loc main_arg0) (ix3 s p d) := by
  blk_ext! [iblk, V, idx t]

theorem blk1 (c : Dev nD) (t : Fin grid0.N) (d : Fin 2048) (l : Fin 1024) (f : Fin 8192)
    (hf : f.val = 1024 * (t.val % 8) + l.val) :
    iblk m c 1 t (ix3 0 d l) = m ((c : Thread nD τ).loc main_arg3) (ix3 1 d f) := by
  blk_ext! [iblk, V, idx t]

theorem blk2 (c : Dev nD) (t : Fin grid0.N) (l : Fin 1024) (n : Fin 2048) (f : Fin 8192)
    (hf : f.val = 1024 * (t.val % 8) + l.val) :
    iblk m c 2 t (ix2 l n) = m ((c : Thread nD τ).loc main_arg4) (ix3 1 f n) := by
  blk_ext! [iblk, V, idx t]

theorem blk3 (c : Dev nD) (t : Fin grid0.N) (R : Fin 512) (d : Fin 2048) (s : Fin 128) (p : Fin 8)
    (hr : 128 * p.val + s.val = 512 * (t.val / 8) + R.val) :
    iblk m c 3 t (ix2 R d) = m ((c : Thread nD τ).loc main_arg1) (ix3 s p d) := by
  blk_ext! [iblk, V, idx t]

theorem blk4 (c : Dev nD) (t : Fin grid0.N) (n : Fin 2048) (s : Fin 128) :
    iblk m c 4 t (ix2 s n) = m ((c : Thread nD τ).loc main_arg2) (ix2 s ⟨4096 + n.val, by omega⟩) := by
  blk_ext! [iblk, V, idx t]

/-- What a point adds to the accumulator. -/
def term (c : Dev nD) (t : Fin cfg0.N) (R : Fin 512) (n : Fin 2048) : EReal :=
  ∑ f : Fin 1024, hid (iblk m c 0 t) (iblk m c 1 t) R f * (show Vec Ideal S1024x2048 .bf16 from iblk m c 2 t) (ix2 f n)

/-- What a point adds, in the call's arguments: its 1024 hidden units' share of the second product. -/
theorem term_eq (c : Dev nD) (t : Fin cfg0.N) (R : Fin 512) (n : Fin 2048) (s : Fin 128) (p : Fin 8) (J : Fin 8)
    (hr : 128 * p.val + s.val = 512 * (t.val / 8) + R.val) (hJ : t.val % 8 = J.val) :
    term m c t R n = ∑ l : Fin 1024, unit (m ((c : Thread nD τ).loc main_arg0)) (m ((c : Thread nD τ).loc main_arg3)) s p
      ⟨J.val * 1024 + l.val, by omega⟩ * m ((c : Thread nD τ).loc main_arg4) (ix3 1 ⟨J.val * 1024 + l.val, by omega⟩ n) := by
  refine Finset.sum_congr rfl fun l _ => ?_
  have hs : (∑ d : Fin 2048, (show Vec Ideal S512x2048 .bf16 from iblk m c 0 t) (ix2 R d)
      * (show Vec Ideal S1x2048x1024 .bf16 from iblk m c 1 t) (ix3 0 d l)) = ∑ d : Fin 2048,
        (show Vec Ideal S128x8x2048 .f32 from m ((c : Thread nD τ).loc main_arg0)) (ix3 s p d)
        * (show Vec Ideal S2x2048x8192 .f32 from m ((c : Thread nD τ).loc main_arg3)) (ix3 1 d ⟨J.val * 1024 + l.val, by omega⟩) :=
    Finset.sum_congr rfl fun d _ => congrArg₂ (· * ·) (blk0 m c t R d s p hr) (blk1 m c t d l _ (by simp only []; omega))
  refine congrArg₂ (· * ·) ?_ (blk2 m c t l n _ (by simp only []; omega))
  exact congrArg (fun z : EReal => max z 0 * max z 0) hs

/-- The accumulator after the first `J + 1` points of row block `I`, before the last of the eight. -/
theorem acc (c : Dev nD) (I : ℕ) (hI : I < 2) (R : Fin 512) (n : Fin 2048) : ∀ (J : ℕ) (hJ : J < 7) (h : 8 * I + J < cfg0.N),
    outsAt0 m c (8 * I + J) h (ix2 R n) = ∑ j : Fin (J + 1), term m c ⟨8 * I + j.val, by omega⟩ R n
  | 0, _, h => by
    refine (congrFun (outA m c ⟨8 * I + 0, h⟩ (by simp only []; omega) (by simp only []; omega)) _).trans ((pay2_apply _ _ _ _ R n).trans ?_)
    rw [Fin.sum_univ_one]
    refine (congrArg₂ (· + ·) (show k0_pay1 (F := Ideal) (ix2 R n) = 0 by unfold_payloads; pointwise) rfl).trans (zero_add _)
  | J + 1, hJ, h => by
    refine (congrFun (outB m c ⟨8 * I + (J + 1), h⟩ (by simp only []; omega) (by simp only []; omega)) _).trans ((pay2_apply _ _ _ _ R n).trans ?_)
    refine Eq.trans ?_ (Fin.sum_univ_castSucc _).symm
    exact congrArg₂ (· + ·) (acc c I hI R n J (by omega) (by omega)) rfl

/-- What the last point of row block `I` leaves: the result's rows of the block. -/
theorem last (c : Dev nD) (t : Fin cfg0.N) (ht : t.val % 8 = 7) (R : Fin 512) (n : Fin 2048) (s : Fin 128) (p : Fin 8)
    (hr : 128 * p.val + s.val = 512 * (t.val / 8) + R.val) :
    outsAt0 m c t.val t.isLt (ix2 R n) = result (m ((c : Thread nD τ).loc main_arg0)) (m ((c : Thread nD τ).loc main_arg1))
      (m ((c : Thread nD τ).loc main_arg2)) (m ((c : Thread nD τ).loc main_arg3)) (m ((c : Thread nD τ).loc main_arg4)) s p n := by
  have hN : t.val < 16 := t.isLt
  have hq : (⟨R.val % 128, by omega⟩ : Fin 128) = s := Fin.ext (by simp only []; omega)
  have hb : 8 * (t.val / 8) + 6 < cfg0.N := by show _ < 16; omega
  have he : t.val - 1 = 8 * (t.val / 8) + 6 := by omega
  have hp : outsAt0 m c (t.val - 1) (Nat.lt_of_le_of_lt (Nat.sub_le _ _) t.isLt) (ix2 R n)
      = ∑ j : Fin 7, term m c ⟨8 * (t.val / 8) + j.val, by show _ < 16; omega⟩ R n := by
    simp only [he]
    exact acc m c (t.val / 8) (by omega) R n 6 (by omega) hb
  refine (outC m c t (by omega) ht R n).trans ?_
  refine congrArg₂ (· + ·) (blk3 m c t R n s p hr) (congrArg₂ (· * ·) ((congrArg (fun q => (show Vec Ideal S128x2048 .f32 from iblk m c 4 t) (ix2 q n)) hq).trans (blk4 m c t n s)) ?_)
  refine (pay2_apply _ _ _ _ R n).trans ?_
  have hs : (∑ j : Fin 7, term m c ⟨8 * (t.val / 8) + j.val, by show _ < 16; omega⟩ R n) + term m c t R n
      = ∑ j : Fin 8, term m c ⟨8 * (t.val / 8) + j.val, by show _ < 16; omega⟩ R n := by
    rw [Fin.sum_univ_castSucc (n := 7)]
    refine congrArg₂ (· + ·) rfl (congrArg (fun t => term m c t R n) (Fin.ext ?_))
    show t.val = 8 * (t.val / 8) + 7
    omega
  refine (congrArg₂ (· + ·) hp rfl).trans (hs.trans ?_)
  exact (Finset.sum_congr rfl fun j _ => term_eq m c ⟨8 * (t.val / 8) + j.val, by show _ < 16; omega⟩ R n s p j
    (by simp only []; omega) (by simp only []; omega)).trans (Fin.sum_mul_add_congr fun j k hl => rfl)

/-- The result array after the run is `G`, once the last point of every row block leaves `G`'s rows of the block. -/
theorem arr5_of (c : Dev nD) (G : Vec Ideal S1024x2048 .f32)
    (hG : ∀ (t : Fin grid0.N) (_ : t.val % 8 = 7) (R : Fin 512) (n : Fin 2048) (r : Fin 1024), r.val = 512 * (t.val / 8) + R.val →
      outsAt0 m c t.val t.isLt (ix2 R n) = G (ix2 r n)) : (dats m 0 c).arrAt 5 cfg0.N = G := by
  refine (dats m 0 c).arrAt_eq_of_covers 5 _ (by decide +kernel) fun t hf y => ?_
  have ht : t.val % 8 = 7 := (flush0_5 t).mp hf
  have h0 : ((win0_5.blk t).view.emb y 0).val = 512 * (t.val / 8) + (y 0).val := by blk_simp [idx t]; omega
  have h1 : ((win0_5.blk t).view.emb y 1).val = (y 1).val := by blk_simp [idx t]
  blk_simp
  rw [after0_5]
  have hy : ∀ x : S512x2048.Idx, x = ix2 (x 0) (x 1) := eq_ix2
  have hz : ∀ (z : S1024x2048.Idx) (a : Fin 2048), (z 1).val = a.val → ix2 (z 0) a = z := fun z a h =>
    (congrArg (fun a => ix2 (z 0) a) (Fin.ext h.symm)).trans (eq_ix2 z).symm
  exact (congrArg _ (hy y)).trans ((hG t ht (y 0) (y 1) _ h0).trans (congrArg G (hz _ _ h1)))

/-- The result array after the run. -/
theorem arr5 (c : Dev nD) : (dats m 0 c).arrAt 5 cfg0.N = resultArr (m ((c : Thread nD τ).loc main_arg0))
    (m ((c : Thread nD τ).loc main_arg1)) (m ((c : Thread nD τ).loc main_arg2)) (m ((c : Thread nD τ).loc main_arg3))
    (m ((c : Thread nD τ).loc main_arg4)) :=
  arr5_of m c _ fun t ht R n r hr => last m c t ht R n _ _ (by
    show 128 * (r.val / 128) + r.val % 128 = _
    omega)

end Cert.MlpsIdeal.Step

end
-- ==== Proof.MlpsRef.lean ====
/- The reference of the feed-forward block on the sample group's rows, read at an index. -/
module

public import proofs.«01_k».proof.Proof.MlpsValue
public import proofs.«01_k».proof.Proof.Gen.MlpsRefIdeal.Read
public import proofs.«01_k».proof.Defs

@[expose] public section

set_option maxRecDepth 16384

noncomputable section

namespace Cert.MlpsRefIdeal.Step

open Cert.MlpsRefIdeal Cert.MlpsRefIdeal.Gen Cert.MlpsRefIdeal.Read Idealize.ShloMosaic Idealize.ShloMosaic.TcCoe Idealize.SL.Sem
open Cert.MlpsIdeal.Step (unit result resultArr)

/-- The reference's result. -/
theorem result_eq (h x : Vec Ideal S128x8x2048 .f32) (mod : Vec Ideal S128x6144 .f32) (w1 : Vec Ideal S2x2048x8192 .f32)
    (w2 : Vec Ideal S2x8192x2048 .f32) : val_main_v16 (F := Ideal) h x mod w1 w2 = resultArr h x mod w1 w2 := by
  funext i
  idx_vars i
  pointwise [val_main_v16, val_main_v15, val_main_v14, val_main_v13, val_main_v12, val_main_v11, val_main_v10, val_main_v9, val_main_v8,
    val_main_v7, val_main_v6, val_main_v5, val_main_v4, val_main_v3, val_main_v0, val_main_call0_v0, val_main_call0_cst]
  rfl

/-- The kernel's result is the reference's: equal on every pair of memories that agree on the arguments. -/
theorem algebraic : Cert.algebraic_MlpsIdeal_MlpsRefIdeal (hMlpsIdeal := Cert.MlpsIdeal.Gen.facts)
    (hMlpsRefIdeal := Cert.MlpsRefIdeal.Gen.facts) := by
  intro m ρ m' ρ' _ hagree
  refine ⟨_, (θ_run Cert.MlpsIdeal.defs _ _).mono (fun _ h c => ⟨(h c).1, (h c).2⟩)
    (Cert.MlpsIdeal.Value.run_blocks (F := Ideal) m ρ), ?_⟩
  refine (θ_run Cert.MlpsRefIdeal.defs _ _).mono (fun _ h c => ⟨(h c).1.trans ?_, (h c).2⟩)
    (Cert.MlpsRefIdeal.Value.run (F := Ideal) m' ρ')
  refine (val_main_v16_eq _ _ _ _ _).trans ((result_eq _ _ _ _ _).trans ?_)
  rw [Cert.MlpsIdeal.Step.arr5 m c, (hagree c).1, (hagree c).2.1, (hagree c).2.2.1, (hagree c).2.2.2.1, (hagree c).2.2.2.2]

/-- The reference runs, keeps its arguments and has no semaphore. -/
theorem frame : Cert.quiescent_MlpsRefIdeal (hMlpsRefIdeal := Cert.MlpsRefIdeal.Gen.facts) := fun m ρ _ =>
  (θ_run Cert.MlpsRefIdeal.defs _ _).mono (fun r h => ⟨fun c => (h c).2, sem_eq_zero_of_no_sems (by decide) r.2⟩)
    (Cert.MlpsRefIdeal.Value.run (F := Ideal) m ρ)

end Cert.MlpsRefIdeal.Step

end
-- ==== Proof.VsValue.lean ====
/- The sample group's value projection, as a function of the arguments of the call. -/
module

public import proofs.«01_k».proof.Proof.Gen.VsIdeal.Value
public import Idealize.ShloMosaic.Lib.Pipeline.ValueKit
public import Idealize.ShloMosaic.Lib.Pointwise

@[expose] public section

set_option maxRecDepth 16384

noncomputable section

namespace Cert.VsIdeal.Step

open Cert.VsIdeal Cert.VsIdeal.Gen Idealize.ShloMosaic Idealize.ShloMosaic.TcCoe Idealize.SL.Sem

/-- Column `n` of the projection of token `t` of sequence `b`: columns 2048 and up of the layer's input weights. -/
def proj (h : Vec Ideal S128x8x2048 .f32) (w : Vec Ideal S1x2048x5120 .f32) (b : Fin 128) (t : Fin 8) (n : Fin 1024) : EReal :=
  ∑ d : Fin 2048, h (ix3 b t d) * w (ix3 0 d ⟨2048 + n.val, by omega⟩)

/-- The projection as an array: row `128·t + b` is time step `t` of sequence `b`. -/
def projArr (h : Vec Ideal S128x8x2048 .f32) (w : Vec Ideal S1x2048x5120 .f32) : Vec Ideal S1024x1024 .f32 := fun i =>
  proj h w ⟨(i 0).val % 128, by omega⟩ ⟨(i 0).val / 128, by have h0 : (i 0).val < 1024 := (i 0).isLt; omega⟩ (i 1)

/-- A point's result block is the product of its rows with its columns of the weights. -/
theorem out2_apply (a : Vec Ideal S1024x2048 .bf16) (w : Vec Ideal S1x2048x1024 .f32) (R l : Fin 1024) :
    out0_2 (F := Ideal) a w (ix2 R l) = ∑ d : Fin 2048, a (ix2 R d) * w (ix3 0 d l) := by
  have e0 : View.ld a r0_0 = a := View.ld_unit_lit (S := S1024x2048) _ _ (by decide)
  have e1 : View.ld w r0_1 = w := View.ld_unit_lit (S := S1x2048x1024) _ _ (by decide)
  unfold out0_2
  rw [e0, e1]
  canon_tiles x h
  all_goals idx_vars x
  all_goals unfold_payloads
  all_goals pointwise
  all_goals
    obtain rfl : R = x0 := Fin.ext h0
    obtain rfl : l = x1 := Fin.ext h1
    rfl

variable (m : (ℓ : Loc nD τ sig) → Buf (Elt Ideal) ℓ)

/-- The block every window holds at point `t`. -/
theorem idx : ∀ t : Fin grid0.N, win0_0.index t = ![0, 0] ∧ win0_1.index t = ![0, 0, 2] ∧ win0_2.index t = ![0, 0] := by
  decide +kernel

theorem blk0 (c : Dev nD) (t : Fin grid0.N) (R : Fin 1024) (d : Fin 2048) (r : Fin 1024) (hr : r.val = R.val) :
    iblk m c 0 t (ix2 R d) = m ((c : Thread nD τ).loc main_arg0) (ix3 ⟨r.val % 128, by omega⟩ ⟨r.val / 128, by omega⟩ d) := by
  blk_ext! [iblk, V, idx t]

theorem blk1 (c : Dev nD) (t : Fin grid0.N) (d : Fin 2048) (l : Fin 1024) (n : Fin 1024) (hn : n.val = l.val) :
    iblk m c 1 t (ix3 0 d l) = m ((c : Thread nD τ).loc main_arg1) (ix3 0 d ⟨2048 + n.val, by omega⟩) := by
  blk_ext! [iblk, V, idx t]

/-- What a point leaves in its result block. -/
theorem point (c : Dev nD) (t : Fin grid0.N) (R l : Fin 1024) (r : Fin 1024) (n : Fin 1024) (hr : r.val = R.val)
    (hn : n.val = l.val) : out0_2 (F := Ideal) (iblk m c 0 t) (iblk m c 1 t) (ix2 R l)
      = proj (m ((c : Thread nD τ).loc main_arg0)) (m ((c : Thread nD τ).loc main_arg1)) ⟨r.val % 128, by omega⟩ ⟨r.val / 128, by omega⟩ n := by
  refine (out2_apply _ _ R l).trans ?_
  unfold proj
  exact Finset.sum_congr rfl fun d _ => congrArg₂ (· * ·) (blk0 m c t R d r hr) (blk1 m c t d l n hn)

/-- The result array after the run is `G`, once every point's block is `G`'s rows and columns of the point. -/
theorem arr2_of (c : Dev nD) (G : Vec Ideal S1024x1024 .f32)
    (hG : ∀ (t : Fin grid0.N) (R l : Fin 1024) (r : Fin 1024) (n : Fin 1024), r.val = R.val → n.val = l.val →
      out0_2 (F := Ideal) (iblk m c 0 t) (iblk m c 1 t) (ix2 R l) = G (ix2 r n)) : (dats m 0 c).arrAt 2 cfg0.N = G := by
  refine (dats m 0 c).arrAt_eq_of_covers 2 _ (by decide +kernel) fun t hf y => ?_
  have h0 : ((win0_2.blk t).view.emb y 0).val = (y 0).val := by blk_simp [idx t]
  have h1 : ((win0_2.blk t).view.emb y 1).val = (y 1).val := by blk_simp [idx t]
  blk_simp
  rw [after0_2]
  have hy : ∀ x : S1024x1024.Idx, x = ix2 (x 0) (x 1) := eq_ix2
  have hz : ∀ z : S1024x1024.Idx, ix2 (z 0) (z 1) = z := fun z => (eq_ix2 z).symm
  exact (congrArg _ (hy y)).trans ((hG t (y 0) (y 1) _ _ h0 h1).trans (congrArg G (hz _)))

/-- The result array after the run. -/
theorem arr2 (c : Dev nD) : (dats m 0 c).arrAt 2 cfg0.N
    = projArr (m ((c : Thread nD τ).loc main_arg0)) (m ((c : Thread nD τ).loc main_arg1)) :=
  arr2_of m c _ fun t R l r n hr hn => point m c t R l r n hr hn

end Cert.VsIdeal.Step

end
-- ==== Proof.VsRef.lean ====
/- The sample group's value projection: the call's result is its reference's. -/
module

public import proofs.«01_k».proof.Proof.VsValue
public import proofs.«01_k».proof.Proof.Gen.VsRefIdeal.Read
public import proofs.«01_k».proof.Defs

@[expose] public section

set_option maxRecDepth 16384

noncomputable section

namespace Cert.VsRefIdeal.Step

open Cert.VsRefIdeal Cert.VsRefIdeal.Gen Cert.VsRefIdeal.Read Idealize.ShloMosaic Idealize.ShloMosaic.TcCoe Idealize.SL.Sem
open Cert.VsIdeal.Step (proj projArr)

/-- The reference's result. -/
theorem result_eq (h : Vec Ideal S128x8x2048 .f32) (w : Vec Ideal S1x2048x5120 .f32) :
    val_main_v4 (F := Ideal) h w = projArr h w := by
  funext i
  idx_vars i
  pointwise [val_main_v4, val_main_v3, val_main_v2, val_main_v1, val_main_v0]
  rfl

/-- The kernel's result is the reference's: equal on every pair of memories that agree on the arguments. -/
theorem algebraic : Cert.algebraic_VsIdeal_VsRefIdeal (hVsIdeal := Cert.VsIdeal.Gen.facts)
    (hVsRefIdeal := Cert.VsRefIdeal.Gen.facts) := by
  intro m ρ m' ρ' _ hagree
  refine ⟨_, (θ_run Cert.VsIdeal.defs _ _).mono (fun _ h c => ⟨(h c).1, (h c).2.2⟩)
    (Cert.VsIdeal.Value.run_blocks (F := Ideal) m ρ), ?_⟩
  refine (θ_run Cert.VsRefIdeal.defs _ _).mono (fun _ h c => ⟨(h c).1.trans ?_, (h c).2⟩)
    (Cert.VsRefIdeal.Value.run (F := Ideal) m' ρ')
  refine (val_main_v4_eq _ _).trans ((result_eq _ _).trans ?_)
  rw [Cert.VsIdeal.Step.arr2 m c, (hagree c).1, (hagree c).2]

/-- The reference runs, keeps its arguments and has no semaphore. -/
theorem frame : Cert.quiescent_VsRefIdeal (hVsRefIdeal := Cert.VsRefIdeal.Gen.facts) := fun m ρ _ =>
  (θ_run Cert.VsRefIdeal.defs _ _).mono (fun r h => ⟨fun c => (h c).2, sem_eq_zero_of_no_sems (by decide) r.2⟩)
    (Cert.VsRefIdeal.Value.run (F := Ideal) m ρ)

end Cert.VsRefIdeal.Step

end
-- ==== Proof.VpValue.lean ====
/- The prompt group's value projection, as a function of the arguments of the call. -/
module

public import proofs.«01_k».proof.Proof.Gen.VpIdeal.Value
public import Idealize.ShloMosaic.Lib.Pipeline.ValueKit
public import Idealize.ShloMosaic.Lib.Pointwise

@[expose] public section

set_option maxRecDepth 16384

noncomputable section

namespace Cert.VpIdeal.Step

open Cert.VpIdeal Cert.VpIdeal.Gen Idealize.ShloMosaic Idealize.ShloMosaic.TcCoe Idealize.SL.Sem

/-- Column `n` of the projection of token `t` of sequence `b`: columns 2048 and up of the layer's input weights. -/
def proj (h : Vec Ideal S4x2048x2048 .f32) (w : Vec Ideal S1x2048x5120 .f32) (b : Fin 4) (t : Fin 2048) (n : Fin 1024) : EReal :=
  ∑ d : Fin 2048, h (ix3 b t d) * w (ix3 0 d ⟨2048 + n.val, by omega⟩)

/-- The projection as an array: row `2048·b + t` is token `t` of sequence `b`. -/
def projArr (h : Vec Ideal S4x2048x2048 .f32) (w : Vec Ideal S1x2048x5120 .f32) : Vec Ideal S8192x1024 .f32 := fun i =>
  proj h w ⟨(i 0).val / 2048, by have h0 : (i 0).val < 8192 := (i 0).isLt; omega⟩ ⟨(i 0).val % 2048, by omega⟩ (i 1)

/-- A point's result block is the product of its rows with its columns of the weights. -/
theorem out2_apply (a : Vec Ideal S1024x2048 .bf16) (w : Vec Ideal S2048x1024 .bf16) (R l : Fin 1024) :
    out0_2 (F := Ideal) a w (ix2 R l) = ∑ d : Fin 2048, a (ix2 R d) * w (ix2 d l) := by
  have e0 : View.ld a r0_0 = a := View.ld_unit_lit (S := S1024x2048) _ _ (by decide)
  have e1 : View.ld w r0_1 = w := View.ld_unit_lit (S := S2048x1024) _ _ (by decide)
  unfold out0_2
  rw [e0, e1]
  canon_tiles x h
  all_goals idx_vars x
  all_goals unfold_payloads
  all_goals pointwise
  all_goals
    obtain rfl : R = x0 := Fin.ext h0
    obtain rfl : l = x1 := Fin.ext h1
    rfl

variable (m : (ℓ : Loc nD τ sig) → Buf (Elt Ideal) ℓ)

/-- The block every window holds at point `t`. -/
theorem idx : ∀ t : Fin grid0.N, win0_0.index t = ![t.val, 0] ∧ win0_1.index t = ![0, 0] ∧ win0_2.index t = ![t.val, 0] := by
  decide +kernel

theorem blk0 (c : Dev nD) (t : Fin grid0.N) (R : Fin 1024) (d : Fin 2048) (r : Fin 8192) (hr : r.val = 1024 * t.val + R.val) :
    iblk m c 0 t (ix2 R d) = m ((c : Thread nD τ).loc main_arg0) (ix3 ⟨r.val / 2048, by omega⟩ ⟨r.val % 2048, by omega⟩ d) := by
  blk_ext! [iblk, V, idx t]

theorem blk1 (c : Dev nD) (t : Fin grid0.N) (d : Fin 2048) (l : Fin 1024) (n : Fin 1024) (hn : n.val = l.val) :
    iblk m c 1 t (ix2 d l) = m ((c : Thread nD τ).loc main_arg1) (ix3 0 d ⟨2048 + n.val, by omega⟩) := by
  blk_ext! [iblk, V, idx t]

/-- What a point leaves in its result block. -/
theorem point (c : Dev nD) (t : Fin grid0.N) (R l : Fin 1024) (r : Fin 8192) (n : Fin 1024) (hr : r.val = 1024 * t.val + R.val)
    (hn : n.val = l.val) : out0_2 (F := Ideal) (iblk m c 0 t) (iblk m c 1 t) (ix2 R l)
      = proj (m ((c : Thread nD τ).loc main_arg0)) (m ((c : Thread nD τ).loc main_arg1)) ⟨r.val / 2048, by omega⟩ ⟨r.val % 2048, by omega⟩ n := by
  refine (out2_apply _ _ R l).trans ?_
  unfold proj
  exact Finset.sum_congr rfl fun d _ => congrArg₂ (· * ·) (blk0 m c t R d r hr) (blk1 m c t d l n hn)

/-- The result array after the run is `G`, once every point's block is `G`'s rows and columns of the point. -/
theorem arr2_of (c : Dev nD) (G : Vec Ideal S8192x1024 .f32)
    (hG : ∀ (t : Fin grid0.N) (R l : Fin 1024) (r : Fin 8192) (n : Fin 1024), r.val = 1024 * t.val + R.val → n.val = l.val →
      out0_2 (F := Ideal) (iblk m c 0 t) (iblk m c 1 t) (ix2 R l) = G (ix2 r n)) : (dats m 0 c).arrAt 2 cfg0.N = G := by
  refine (dats m 0 c).arrAt_eq_of_covers 2 _ (by decide +kernel) fun t hf y => ?_
  have h0 : ((win0_2.blk t).view.emb y 0).val = 1024 * t.val + (y 0).val := by blk_simp [idx t]; omega
  have h1 : ((win0_2.blk t).view.emb y 1).val = (y 1).val := by blk_simp [idx t]
  blk_simp
  rw [after0_2]
  have hy : ∀ x : S1024x1024.Idx, x = ix2 (x 0) (x 1) := eq_ix2
  have hz : ∀ z : S8192x1024.Idx, ix2 (z 0) (z 1) = z := fun z => (eq_ix2 z).symm
  exact (congrArg _ (hy y)).trans ((hG t (y 0) (y 1) _ _ h0 h1).trans (congrArg G (hz _)))

/-- The result array after the run. -/
theorem arr2 (c : Dev nD) : (dats m 0 c).arrAt 2 cfg0.N
    = projArr (m ((c : Thread nD τ).loc main_arg0)) (m ((c : Thread nD τ).loc main_arg1)) :=
  arr2_of m c _ fun t R l r n hr hn => point m c t R l r n hr hn

end Cert.VpIdeal.Step

end
-- ==== Proof.VpRef.lean ====
/- The prompt group's value projection: the call's result is its reference's. -/
module

public import proofs.«01_k».proof.Proof.VpValue
public import proofs.«01_k».proof.Proof.Gen.VpRefIdeal.Read
public import proofs.«01_k».proof.Defs

@[expose] public section

set_option maxRecDepth 16384

noncomputable section

namespace Cert.VpRefIdeal.Step

open Cert.VpRefIdeal Cert.VpRefIdeal.Gen Cert.VpRefIdeal.Read Idealize.ShloMosaic Idealize.ShloMosaic.TcCoe Idealize.SL.Sem
open Cert.VpIdeal.Step (proj projArr)

/-- The reference's result. -/
theorem result_eq (h : Vec Ideal S4x2048x2048 .f32) (w : Vec Ideal S1x2048x5120 .f32) :
    val_main_v3 (F := Ideal) h w = projArr h w := by
  funext i
  idx_vars i
  pointwise [val_main_v3, val_main_v2, val_main_v1, val_main_v0]
  rfl

/-- The kernel's result is the reference's: equal on every pair of memories that agree on the arguments. -/
theorem algebraic : Cert.algebraic_VpIdeal_VpRefIdeal (hVpIdeal := Cert.VpIdeal.Gen.facts)
    (hVpRefIdeal := Cert.VpRefIdeal.Gen.facts) := by
  intro m ρ m' ρ' _ hagree
  refine ⟨_, (θ_run Cert.VpIdeal.defs _ _).mono (fun _ h c => ⟨(h c).1, (h c).2.2⟩)
    (Cert.VpIdeal.Value.run_blocks (F := Ideal) m ρ), ?_⟩
  refine (θ_run Cert.VpRefIdeal.defs _ _).mono (fun _ h c => ⟨(h c).1.trans ?_, (h c).2⟩)
    (Cert.VpRefIdeal.Value.run (F := Ideal) m' ρ')
  refine (val_main_v3_eq _ _).trans ((result_eq _ _).trans ?_)
  rw [Cert.VpIdeal.Step.arr2 m c, (hagree c).1, (hagree c).2]

/-- The reference runs, keeps its arguments and has no semaphore. -/
theorem frame : Cert.quiescent_VpRefIdeal (hVpRefIdeal := Cert.VpRefIdeal.Gen.facts) := fun m ρ _ =>
  (θ_run Cert.VpRefIdeal.defs _ _).mono (fun r h => ⟨fun c => (h c).2, sem_eq_zero_of_no_sems (by decide) r.2⟩)
    (Cert.VpRefIdeal.Value.run (F := Ideal) m ρ)

end Cert.VpRefIdeal.Step

end
-- ==== Proof.XgValue.lean ====
/- The sample group's projection into the recurrence, as a function of the arguments of the call. -/
module

public import proofs.«01_k».proof.Proof.Gen.XgIdeal.Value
public import Idealize.ShloMosaic.Lib.Pipeline.ValueKit
public import Idealize.ShloMosaic.Lib.Pointwise

@[expose] public section

set_option maxRecDepth 16384

noncomputable section

namespace Cert.XgIdeal.Step

open Cert.XgIdeal Cert.XgIdeal.Gen Idealize.ShloMosaic Idealize.ShloMosaic.TcCoe Idealize.SL.Sem

/-- Column `n` of the projection of token `t` of sequence `b`: columns 3072 and up of the layer's input weights. -/
def proj (h : Vec Ideal S128x8x2048 .f32) (w : Vec Ideal S1x2048x5120 .f32) (b : Fin 128) (t : Fin 8) (n : Fin 2048) : EReal :=
  ∑ d : Fin 2048, h (ix3 b t d) * w (ix3 0 d ⟨3072 + n.val, by omega⟩)

/-- The projection as an array: row `128·t + b` is time step `t` of sequence `b`. -/
def projArr (h : Vec Ideal S128x8x2048 .f32) (w : Vec Ideal S1x2048x5120 .f32) : Vec Ideal S1024x2048 .f32 := fun i =>
  proj h w ⟨(i 0).val % 128, by omega⟩ ⟨(i 0).val / 128, by have h0 : (i 0).val < 1024 := (i 0).isLt; omega⟩ (i 1)

/-- A point's result block is the product of its rows with its columns of the weights. -/
theorem out2_apply (a : Vec Ideal S1024x2048 .bf16) (w : Vec Ideal S1x2048x1024 .f32) (R l : Fin 1024) :
    out0_2 (F := Ideal) a w (ix2 R l) = ∑ d : Fin 2048, a (ix2 R d) * w (ix3 0 d l) := by
  have e0 : View.ld a r0_0 = a := View.ld_unit_lit (S := S1024x2048) _ _ (by decide)
  have e1 : View.ld w r0_1 = w := View.ld_unit_lit (S := S1x2048x1024) _ _ (by decide)
  unfold out0_2
  rw [e0, e1]
  canon_tiles x h
  all_goals idx_vars x
  all_goals unfold_payloads
  all_goals pointwise
  all_goals
    obtain rfl : R = x0 := Fin.ext h0
    obtain rfl : l = x1 := Fin.ext h1
    rfl

variable (m : (ℓ : Loc nD τ sig) → Buf (Elt Ideal) ℓ)

/-- The block every window holds at point `t`. -/
theorem idx : ∀ t : Fin grid0.N, win0_0.index t = ![0, 0] ∧ win0_1.index t = ![0, 0, 3 + t.val] ∧ win0_2.index t = ![0, t.val] := by
  decide +kernel

theorem blk0 (c : Dev nD) (t : Fin grid0.N) (R : Fin 1024) (d : Fin 2048) (r : Fin 1024) (hr : r.val = R.val) :
    iblk m c 0 t (ix2 R d) = m ((c : Thread nD τ).loc main_arg0) (ix3 ⟨r.val % 128, by omega⟩ ⟨r.val / 128, by omega⟩ d) := by
  blk_ext! [iblk, V, idx t]

theorem blk1 (c : Dev nD) (t : Fin grid0.N) (d : Fin 2048) (l : Fin 1024) (n : Fin 2048) (hn : n.val = 1024 * t.val + l.val) :
    iblk m c 1 t (ix3 0 d l) = m ((c : Thread nD τ).loc main_arg1) (ix3 0 d ⟨3072 + n.val, by omega⟩) := by
  blk_ext! [iblk, V, idx t]

/-- What a point leaves in its result block. -/
theorem point (c : Dev nD) (t : Fin grid0.N) (R l : Fin 1024) (r : Fin 1024) (n : Fin 2048) (hr : r.val = R.val)
    (hn : n.val = 1024 * t.val + l.val) : out0_2 (F := Ideal) (iblk m c 0 t) (iblk m c 1 t) (ix2 R l)
      = proj (m ((c : Thread nD τ).loc main_arg0)) (m ((c : Thread nD τ).loc main_arg1)) ⟨r.val % 128, by omega⟩ ⟨r.val / 128, by omega⟩ n := by
  refine (out2_apply _ _ R l).trans ?_
  unfold proj
  exact Finset.sum_congr rfl fun d _ => congrArg₂ (· * ·) (blk0 m c t R d r hr) (blk1 m c t d l n hn)

/-- The result array after the run is `G`, once every point's block is `G`'s rows and columns of the point. -/
theorem arr2_of (c : Dev nD) (G : Vec Ideal S1024x2048 .f32)
    (hG : ∀ (t : Fin grid0.N) (R l : Fin 1024) (r : Fin 1024) (n : Fin 2048), r.val = R.val → n.val = 1024 * t.val + l.val →
      out0_2 (F := Ideal) (iblk m c 0 t) (iblk m c 1 t) (ix2 R l) = G (ix2 r n)) : (dats m 0 c).arrAt 2 cfg0.N = G := by
  refine (dats m 0 c).arrAt_eq_of_covers 2 _ (by decide +kernel) fun t hf y => ?_
  have h0 : ((win0_2.blk t).view.emb y 0).val = (y 0).val := by blk_simp [idx t]
  have h1 : ((win0_2.blk t).view.emb y 1).val = 1024 * t.val + (y 1).val := by blk_simp [idx t]; omega
  blk_simp
  rw [after0_2]
  have hy : ∀ x : S1024x1024.Idx, x = ix2 (x 0) (x 1) := eq_ix2
  have hz : ∀ z : S1024x2048.Idx, ix2 (z 0) (z 1) = z := fun z => (eq_ix2 z).symm
  exact (congrArg _ (hy y)).trans ((hG t (y 0) (y 1) _ _ h0 h1).trans (congrArg G (hz _)))

/-- The result array after the run. -/
theorem arr2 (c : Dev nD) : (dats m 0 c).arrAt 2 cfg0.N
    = projArr (m ((c : Thread nD τ).loc main_arg0)) (m ((c : Thread nD τ).loc main_arg1)) :=
  arr2_of m c _ fun t R l r n hr hn => point m c t R l r n hr hn

end Cert.XgIdeal.Step

end
-- ==== Proof.XgRef.lean ====
/- The sample group's projection into the recurrence: the call's result is its reference's. -/
module

public import proofs.«01_k».proof.Proof.XgValue
public import proofs.«01_k».proof.Proof.Gen.XgRefIdeal.Read
public import proofs.«01_k».proof.Defs

@[expose] public section

set_option maxRecDepth 16384

noncomputable section

namespace Cert.XgRefIdeal.Step

open Cert.XgRefIdeal Cert.XgRefIdeal.Gen Cert.XgRefIdeal.Read Idealize.ShloMosaic Idealize.ShloMosaic.TcCoe Idealize.SL.Sem
open Cert.XgIdeal.Step (proj projArr)

/-- The reference's result. -/
theorem result_eq (h : Vec Ideal S128x8x2048 .f32) (w : Vec Ideal S1x2048x5120 .f32) :
    val_main_v4 (F := Ideal) h w = projArr h w := by
  funext i
  idx_vars i
  pointwise [val_main_v4, val_main_v3, val_main_v2, val_main_v1, val_main_v0]
  rfl

/-- The kernel's result is the reference's: equal on every pair of memories that agree on the arguments. -/
theorem algebraic : Cert.algebraic_XgIdeal_XgRefIdeal (hXgIdeal := Cert.XgIdeal.Gen.facts)
    (hXgRefIdeal := Cert.XgRefIdeal.Gen.facts) := by
  intro m ρ m' ρ' _ hagree
  refine ⟨_, (θ_run Cert.XgIdeal.defs _ _).mono (fun _ h c => ⟨(h c).1, (h c).2.2⟩)
    (Cert.XgIdeal.Value.run_blocks (F := Ideal) m ρ), ?_⟩
  refine (θ_run Cert.XgRefIdeal.defs _ _).mono (fun _ h c => ⟨(h c).1.trans ?_, (h c).2⟩)
    (Cert.XgRefIdeal.Value.run (F := Ideal) m' ρ')
  refine (val_main_v4_eq _ _).trans ((result_eq _ _).trans ?_)
  rw [Cert.XgIdeal.Step.arr2 m c, (hagree c).1, (hagree c).2]

/-- The reference runs, keeps its arguments and has no semaphore. -/
theorem frame : Cert.quiescent_XgRefIdeal (hXgRefIdeal := Cert.XgRefIdeal.Gen.facts) := fun m ρ _ =>
  (θ_run Cert.XgRefIdeal.defs _ _).mono (fun r h => ⟨fun c => (h c).2, sem_eq_zero_of_no_sems (by decide) r.2⟩)
    (Cert.XgRefIdeal.Value.run (F := Ideal) m ρ)

end Cert.XgRefIdeal.Step

end
-- ==== Proof.KpPoint.lean ====
/- The prompt group's key projection: one grid point's result block, from the blocks it loads.
   The call multiplies 256 columns at a time and writes 128 of them — a head's two maps — at once: it normalizes each map
   of 64 columns by its root mean square and rotates it by the token's position. -/
module

public import proofs.«01_k».proof.Proof.Gen.KpIdeal.Value
public import Idealize.ShloMosaic.Lib.Pipeline.ValueKit
public import Idealize.ShloMosaic.Lib.Pointwise

@[expose] public section

set_option maxRecDepth 16384

noncomputable section

namespace Cert.KpIdeal.Step

open Cert.KpIdeal Cert.KpIdeal.Gen Idealize.ShloMosaic Idealize.ShloMosaic.TcCoe Idealize.SL.Sem

/-- The normalized and rotated slab of one head: 128 columns `xs`, the norm's weights `g`, the two tables `cs` and `sn`. -/
def slab (xs : FVec Ideal S1024x128 .f32) (g : Vec Ideal S1x128 .f32) (cs sn : Vec Ideal S1024x128 .f32) : FVec Ideal S1024x128 .f32 :=
  k0_pay13 (F := Ideal) g cs sn k0_pay7 k0_pay8 xs (mulf xs xs)
    (multiReduction .add [1] S1024 (select k0_pay7 (mulf xs xs) (broadcast S1024x128 (Scalar.ofBits .f32 0x00000000#32))) 0x00000000#32 reduces_S1024x128_S1024 (.inl rfl) rfl)

/-- Column `n` of a row `z`, divided by the root mean square of its 64 columns and weighted. -/
def normed (z : Fin 1024 → EReal) (g : Fin 128 → EReal) (n : Fin 1024) : EReal :=
  z n * Ideal.rsqrt ((∑ e : Fin 64, z ⟨64 * (n.val / 64) + e.val, by omega⟩ * z ⟨64 * (n.val / 64) + e.val, by omega⟩)
      * Ideal.ofBits .f32 1015021568#32 + Ideal.ofBits .f32 897988541#32) * g ⟨n.val % 128, by omega⟩

/-- The column a column is rotated with: 32 further in the first half of its 64 columns, 32 back in the second. -/
def partner (n : Fin 1024) : Fin 1024 := if h : n.val % 64 < 32 then ⟨n.val + 32, by omega⟩ else ⟨n.val - 32, by omega⟩

/-- Column `n` of a row `z`, normalized and rotated by the tables' rows `cs` and `sn`. -/
def turned (z : Fin 1024 → EReal) (g cs sn : Fin 128 → EReal) (n : Fin 1024) : EReal :=
  normed z g n * cs ⟨n.val % 128, by omega⟩ + normed z g (partner n) * sn ⟨n.val % 128, by omega⟩

/-- The comparison that tells the first map's columns from the second's. -/
theorem bit64 : ∀ l : Fin 128, IntOp.cmpi CmpIPredicate.slt (BitVec.ofNat 32 l.val) 64#32 = if l.val < 64 then 1#1 else 0#1 := by
  decide +kernel

/-- The comparison that tells the first half of a map's columns from the second. -/
theorem bit32 : ∀ l : Fin 128, (IntOp.cmpi CmpIPredicate.slt
            (Scalar.select
              (IntOp.andi
                (IntOp.xori
                  (IntOp.cmpi CmpIPredicate.slt
                    (IntOp.remsi ArithUnit.vector (BitVec.ofNat 32 l.val)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 l.val)
                    (Scalar.select (Scalar.cmpi CmpIPredicate.eq 64#32 0#32) 1#32 64#32))
                  0#32))
              (IntOp.addi
                (IntOp.remsi ArithUnit.vector (BitVec.ofNat 32 l.val)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 l.val)
                (Scalar.select (Scalar.cmpi CmpIPredicate.eq 64#32 0#32) 1#32 64#32)))
            32#32) = if l.val % 64 < 32 then 1#1 else 0#1 := by
  decide +kernel

theorem pick (p : Prop) [Decidable p] (A B : EReal) : Scalar.select (if p then 1#1 else 0#1) A B = if p then A else B := by
  by_cases h : p <;> simp [h, Scalar.select]

/-- A sum over the first map's columns only. -/
theorem sum_lo (f : Fin 128 → EReal) : ∑ x : Fin 128, (if x.val < 64 then f x else 0) = ∑ e : Fin 64, f ⟨e.val, by omega⟩ := by
  refine (Fin.sum_univ_add (a := 64) (b := 64) fun x : Fin (64 + 64) => if x.val < 64 then f x else 0).trans ?_
  rw [Finset.sum_eq_zero (f := fun i : Fin 64 => if (Fin.natAdd 64 i).val < 64 then f (Fin.natAdd 64 i) else 0), add_zero]
  · exact Finset.sum_congr rfl fun e _ => if_pos e.isLt
  · exact fun e _ => if_neg (by simp)

/-- A sum over the second map's columns only. -/
theorem sum_hi (f : Fin 128 → EReal) : ∑ x : Fin 128, (if x.val < 64 then 0 else f x) = ∑ e : Fin 64, f ⟨64 + e.val, by omega⟩ := by
  refine (Fin.sum_univ_add (a := 64) (b := 64) fun x : Fin (64 + 64) => if x.val < 64 then 0 else f x).trans ?_
  rw [Finset.sum_eq_zero (f := fun i : Fin 64 => if (Fin.castAdd 64 i).val < 64 then 0 else f (Fin.castAdd 64 i)), zero_add]
  · exact Finset.sum_congr rfl fun e _ => if_neg (by simp)
  · exact fun e _ => if_pos e.isLt

/-- A slab's columns are the row's columns `128·k + l`, normalized and rotated. -/
theorem slab_apply (xs : FVec Ideal S1024x128 .f32) (g : Vec Ideal S1x128 .f32) (cs sn : Vec Ideal S1024x128 .f32) (R : Fin 1024)
    (l : Fin 128) (z : Fin 1024 → EReal) (k : Fin 8) (hx : ∀ l : Fin 128, xs (ix2 R l) = z ⟨128 * k.val + l.val, by omega⟩)
    (n : Fin 1024) (hn : n.val = 128 * k.val + l.val) :
    slab xs g cs sn (ix2 R l) = turned z (fun l => g (ix2 0 l)) (fun l => cs (ix2 R l)) (fun l => sn (ix2 R l)) n := by
  have key : ∀ l : Fin 128, ∀ n : Fin 1024, n.val = 128 * k.val + l.val →
      xs (ix2 R l) * Ideal.rsqrt (Scalar.select (IntOp.cmpi CmpIPredicate.slt (BitVec.ofNat 32 l.val) 64#32)
          (∑ x : Fin 128, Scalar.select (IntOp.cmpi CmpIPredicate.slt (BitVec.ofNat 32 x.val) 64#32) (xs (ix2 R x) * xs (ix2 R x)) 0)
          (∑ x : Fin 128, Scalar.select (IntOp.cmpi CmpIPredicate.slt (BitVec.ofNat 32 x.val) 64#32) 0 (xs (ix2 R x) * xs (ix2 R x)))
          * Ideal.ofBits .f32 1015021568#32 + Ideal.ofBits .f32 897988541#32) * g (ix2 0 l)
        = normed z (fun l => g (ix2 0 l)) n := by
    intro l n hn
    have hl : (⟨n.val % 128, by omega⟩ : Fin 128) = l := Fin.ext (by show n.val % 128 = l.val; omega)
    have hz : (⟨128 * k.val + l.val, by omega⟩ : Fin 1024) = n := Fin.ext hn.symm
    simp only [bit64, pick, hx]
    rw [sum_lo fun x => z ⟨128 * k.val + x.val, by omega⟩ * z ⟨128 * k.val + x.val, by omega⟩,
      sum_hi fun x => z ⟨128 * k.val + x.val, by omega⟩ * z ⟨128 * k.val + x.val, by omega⟩]
    unfold normed
    rw [hl, hz]
    refine congrArg (fun s => z n * Ideal.rsqrt (s * _ + _) * g (ix2 0 l)) ?_
    have hs : ∀ (o : Nat) (ho : o + 64 ≤ 1024), o = 64 * (n.val / 64) → ∑ e : Fin 64, z ⟨o + e.val, by omega⟩ * z ⟨o + e.val, by omega⟩
        = ∑ e : Fin 64, z ⟨64 * (n.val / 64) + e.val, by omega⟩ * z ⟨64 * (n.val / 64) + e.val, by omega⟩ := by
      rintro o ho rfl; rfl
    by_cases h : l.val < 64
    · rw [if_pos h]
      exact hs (128 * k.val) (by omega) (by omega)
    · rw [if_neg h]
      refine (Finset.sum_congr rfl fun e _ => ?_).trans (hs (128 * k.val + 64) (by omega) (by omega))
      exact congrArg (fun i => z i * z i) (Fin.ext (by show 128 * k.val + (64 + e.val) = 128 * k.val + 64 + e.val; omega))
  unfold slab
  unfold_payloads
  pointwise
  rw [bit32, pick]
  unfold turned
  have hl : (⟨n.val % 128, by omega⟩ : Fin 128) = l := Fin.ext (by show n.val % 128 = l.val; omega)
  rw [hl]
  refine congrArg₂ (· + ·) (congrArg (· * cs (ix2 R l)) (key l n hn)) (congrArg (· * sn (ix2 R l)) ?_)
  unfold partner
  by_cases h : l.val % 64 < 32
  · rw [if_pos h, dif_pos (show n.val % 64 < 32 by omega)]
    exact key ⟨(l.val + 128 - 96) % 128, by omega⟩ _ (by show n.val + 32 = 128 * k.val + (l.val + 128 - 96) % 128; omega)
  · rw [if_neg h, dif_neg (show ¬ n.val % 64 < 32 by omega)]
    exact key ⟨(l.val + 128 - 32) % 128, by omega⟩ _ (by show n.val - 32 = 128 * k.val + (l.val + 128 - 32) % 128; omega)

/-- A row of a block times the projection's columns. -/
def row (a : Vec Ideal S1024x2048 .bf16) (w : Vec Ideal S2048x1024 .bf16) (R : Fin 1024) (n : Fin 1024) : EReal :=
  ∑ d : Fin 2048, a (ix2 R d) * w (ix2 d n)

/-- The first head of a product of 256 columns. -/
theorem head_lo (a : Vec Ideal S1024x2048 .bf16) (w : Vec Ideal S2048x1024 .bf16) (wb : Vec Ideal S2048x256 .bf16) (j : Fin 4)
    (hw : ∀ (d : Fin 2048) (l : Fin 256), wb (ix2 d l) = w (ix2 d ⟨256 * j.val + l.val, by omega⟩)) (R : Fin 1024) (l : Fin 128)
    (n : Fin 1024) (hn : n.val = 256 * j.val + l.val) : k0_pay10 (F := Ideal) a wb (ix2 R l) = row a w R n := by
  unfold_payloads
  pointwise
  unfold row
  refine Finset.sum_congr rfl fun d _ => congrArg (a (ix2 R d) * ·) ((hw d _).trans ?_)
  exact congrArg (fun i => w (ix2 d i)) (Fin.ext hn.symm)

/-- The second head of a product of 256 columns. -/
theorem head_hi (a : Vec Ideal S1024x2048 .bf16) (w : Vec Ideal S2048x1024 .bf16) (wb : Vec Ideal S2048x256 .bf16) (j : Fin 4)
    (hw : ∀ (d : Fin 2048) (l : Fin 256), wb (ix2 d l) = w (ix2 d ⟨256 * j.val + l.val, by omega⟩)) (R : Fin 1024) (l : Fin 128)
    (n : Fin 1024) (hn : n.val = 256 * j.val + 128 + l.val) :
    extractStridedSlice S1024x128 ![0, 128] (k0_pay9 (F := Ideal) a wb) slices_S1024x256_o0_128_S1024x128 (ix2 R l) = row a w R n := by
  unfold_payloads
  pointwise
  unfold row
  refine Finset.sum_congr rfl fun d _ => congrArg (a (ix2 R d) * ·) ((hw d _).trans ?_)
  exact congrArg (fun i => w (ix2 d i)) (Fin.ext (by show 256 * j.val + (128 + l.val) = n.val; omega))

/-- A slab of the first head of a product of 256 columns. -/
theorem slab_lo (a : Vec Ideal S1024x2048 .bf16) (w : Vec Ideal S2048x1024 .bf16) (g : Vec Ideal S1x128 .f32) (cs sn : Vec Ideal S1024x128 .f32)
    (wb : Vec Ideal S2048x256 .bf16) (j : Fin 4)
    (hw : ∀ (d : Fin 2048) (l : Fin 256), wb (ix2 d l) = w (ix2 d ⟨256 * j.val + l.val, by omega⟩)) (R : Fin 1024) (l : Fin 128)
    (n : Fin 1024) (hn : n.val = 256 * j.val + l.val) :
    slab (k0_pay10 (F := Ideal) a wb) g cs sn (ix2 R l)
      = turned (row a w R) (fun l => g (ix2 0 l)) (fun l => cs (ix2 R l)) (fun l => sn (ix2 R l)) n :=
  slab_apply _ g cs sn R l (row a w R) ⟨2 * j.val, by omega⟩
    (fun l => head_lo a w wb j hw R l _ (by show 128 * (2 * j.val) + l.val = _; omega)) n (by show n.val = 128 * (2 * j.val) + l.val; omega)

/-- A slab of the second head of a product of 256 columns. -/
theorem slab_hi (a : Vec Ideal S1024x2048 .bf16) (w : Vec Ideal S2048x1024 .bf16) (g : Vec Ideal S1x128 .f32) (cs sn : Vec Ideal S1024x128 .f32)
    (wb : Vec Ideal S2048x256 .bf16) (j : Fin 4)
    (hw : ∀ (d : Fin 2048) (l : Fin 256), wb (ix2 d l) = w (ix2 d ⟨256 * j.val + l.val, by omega⟩)) (R : Fin 1024) (l : Fin 128)
    (n : Fin 1024) (hn : n.val = 256 * j.val + 128 + l.val) :
    slab (extractStridedSlice S1024x128 ![0, 128] (k0_pay9 (F := Ideal) a wb) slices_S1024x256_o0_128_S1024x128) g cs sn (ix2 R l)
      = turned (row a w R) (fun l => g (ix2 0 l)) (fun l => cs (ix2 R l)) (fun l => sn (ix2 R l)) n :=
  slab_apply _ g cs sn R l (row a w R) ⟨2 * j.val + 1, by omega⟩
    (fun l => head_hi a w wb j hw R l _ (by show 128 * (2 * j.val + 1) + l.val = _; omega)) n
    (by show n.val = 128 * (2 * j.val + 1) + l.val; omega)

/-- A block of 256 columns of the weights. -/
theorem cols (w : Vec Ideal S2048x1024 .bf16) (d : Fin 2048) (l : Fin 256) :
    View.ld w r0_3 (ix2 d l) = w (ix2 d ⟨256 * 0 + l.val, by omega⟩) ∧ View.ld w r0_4 (ix2 d l) = w (ix2 d ⟨256 * 1 + l.val, by omega⟩)
      ∧ View.ld w r0_5 (ix2 d l) = w (ix2 d ⟨256 * 2 + l.val, by omega⟩) ∧ View.ld w r0_6 (ix2 d l) = w (ix2 d ⟨256 * 3 + l.val, by omega⟩) := by
  refine ⟨?_, ?_, ?_, ?_⟩ <;> pointwise

/-- A point's result block: its rows' columns, normalized and rotated. -/
theorem out5_apply (a : Vec Ideal S1024x2048 .bf16) (w : Vec Ideal S2048x1024 .bf16) (g : Vec Ideal S1x128 .f32)
    (cs sn : Vec Ideal S1024x128 .f32) (R n : Fin 1024) : out0_5 (F := Ideal) a w g cs sn (ix2 R n)
      = turned (row a w R) (fun l => g (ix2 0 l)) (fun l => cs (ix2 R l)) (fun l => sn (ix2 R l)) n := by
  have e0 : View.ld a r0_0 = a := View.ld_unit_lit (S := S1024x2048) _ _ (by decide)
  have e2 : View.ld g r0_1 = g := View.ld_unit_lit (S := S1x128) _ _ (by decide)
  have e3 : View.ld cs r0_2 = cs := View.ld_unit_lit (S := S1024x128) _ _ (by decide)
  have e4 : View.ld sn r0_2 = sn := View.ld_unit_lit (S := S1024x128) _ _ (by decide)
  have p4 : k0_pay4 (F := Ideal) g = g := by unfold_payloads; funext i; idx_vars i; pointwise
  have p5 : k0_pay5 (F := Ideal) cs = cs := by unfold_payloads; funext i; idx_vars i; pointwise
  have p6 : k0_pay6 (F := Ideal) sn = sn := by unfold_payloads; funext i; idx_vars i; pointwise
  have c := cols w
  have lo : ∀ (wb : Vec Ideal S2048x256 .bf16) (j : Fin 4)
      (hw : ∀ (d : Fin 2048) (l : Fin 256), wb (ix2 d l) = w (ix2 d ⟨256 * j.val + l.val, by omega⟩)) (l : Fin 128)
      (hn : n.val = 256 * j.val + l.val), slab (k0_pay10 (F := Ideal) (View.ld a r0_0) wb) (k0_pay4 (View.ld g r0_1))
        (k0_pay5 (View.ld cs r0_2)) (k0_pay6 (View.ld sn r0_2)) (ix2 R l)
      = turned (row a w R) (fun l => g (ix2 0 l)) (fun l => cs (ix2 R l)) (fun l => sn (ix2 R l)) n := by
    rw [e0, e2, e3, e4, p4, p5, p6]
    exact fun wb j hw l hn => slab_lo a w g cs sn wb j hw R l n hn
  have hi : ∀ (wb : Vec Ideal S2048x256 .bf16) (j : Fin 4)
      (hw : ∀ (d : Fin 2048) (l : Fin 256), wb (ix2 d l) = w (ix2 d ⟨256 * j.val + l.val, by omega⟩)) (l : Fin 128)
      (hn : n.val = 256 * j.val + 128 + l.val), slab (extractStridedSlice S1024x128 ![0, 128] (k0_pay9 (F := Ideal) (View.ld a r0_0) wb)
        slices_S1024x256_o0_128_S1024x128) (k0_pay4 (View.ld g r0_1)) (k0_pay5 (View.ld cs r0_2)) (k0_pay6 (View.ld sn r0_2)) (ix2 R l)
      = turned (row a w R) (fun l => g (ix2 0 l)) (fun l => cs (ix2 R l)) (fun l => sn (ix2 R l)) n := by
    rw [e0, e2, e3, e4, p4, p5, p6]
    exact fun wb j hw l hn => slab_hi a w g cs sn wb j hw R l n hn
  unfold out0_5
  canon_tiles x h
  all_goals idx_vars x
  all_goals obtain rfl : R = x0 := Fin.ext h0
  · exact hi (View.ld w r0_6) 3 (fun d l => (c d l).2.2.2) x1 h1
  · exact lo (View.ld w r0_6) 3 (fun d l => (c d l).2.2.2) x1 h1
  · exact hi (View.ld w r0_5) 2 (fun d l => (c d l).2.2.1) x1 h1
  · exact lo (View.ld w r0_5) 2 (fun d l => (c d l).2.2.1) x1 h1
  · exact hi (View.ld w r0_4) 1 (fun d l => (c d l).2.1) x1 h1
  · exact lo (View.ld w r0_4) 1 (fun d l => (c d l).2.1) x1 h1
  · exact hi (View.ld w r0_3) 0 (fun d l => (c d l).1) x1 h1
  · exact lo (View.ld w r0_3) 0 (fun d l => (c d l).1) x1 (h1.trans (by simp))

end Cert.KpIdeal.Step

end
-- ==== Proof.KpValue.lean ====
/- The prompt group's key projection, as a function of the arguments of the call. -/
module

public import proofs.«01_k».proof.Proof.KpPoint
public import proofs.«01_k».proof.Proof.Gen.KpRefIdeal.Read
public import Idealize.ShloMosaic.Lib.StableHlo.Run

@[expose] public section

set_option maxRecDepth 16384

noncomputable section

namespace Cert.KpIdeal.Step

open Cert.KpIdeal Cert.KpIdeal.Gen Idealize.ShloMosaic Idealize.ShloMosaic.TcCoe Idealize.SL.Sem

/-- The cosines of the rotation: of position `p` at frequency `j`. -/
def cosT : Vec Ideal S2048x32 .f32 := Cert.KpRefIdeal.Read.val_main_v31 (F := Ideal)

/-- The sines of the rotation. -/
def sinT : Vec Ideal S2048x32 .f32 := Cert.KpRefIdeal.Read.val_main_v33 (F := Ideal)

/-- The sines negated. -/
def negT : Vec Ideal S2048x32 .f32 := Host.negf (F := Ideal) (φ := .f32) sinT

/-- Column `n` of the projection of token `t` of sequence `b`: columns 1024 and up of the layer's input weights. -/
def proj (h : Vec Ideal S4x2048x2048 .f32) (w : Vec Ideal S1x2048x5120 .f32) (b : Fin 4) (t : Fin 2048) (n : Fin 1024) : EReal :=
  ∑ d : Fin 2048, h (ix3 b t d) * w (ix3 0 d ⟨1024 + n.val, by omega⟩)

/-- The cosine a column of a head is multiplied by. -/
def cosAt (p : Fin 2048) (l : Fin 128) : EReal := cosT (ix2 p ⟨l.val % 32, by omega⟩)

/-- The sine a column's partner is multiplied by: negated in the first half of each map. -/
def sinAt (p : Fin 2048) (l : Fin 128) : EReal :=
  if l.val % 64 < 32 then -sinT (ix2 p ⟨l.val % 32, by omega⟩) else sinT (ix2 p ⟨l.val % 32, by omega⟩)

/-- Column `n` of the key of token `t` of sequence `b`. -/
def key (h : Vec Ideal S4x2048x2048 .f32) (w : Vec Ideal S1x2048x5120 .f32) (g : Vec Ideal S1x64 .f32) (b : Fin 4) (t : Fin 2048)
    (n : Fin 1024) : EReal :=
  turned (proj h w b t) (fun l => g (ix2 0 ⟨l.val % 64, by omega⟩)) (cosAt t) (sinAt t) n

/-- The keys as an array: row `2048·b + t` is token `t` of sequence `b`. -/
def keyArr (h : Vec Ideal S4x2048x2048 .f32) (w : Vec Ideal S1x2048x5120 .f32) (g : Vec Ideal S1x64 .f32) : Vec Ideal S8192x1024 .f32 := fun i =>
  key h w g ⟨(i 0).val / 2048, by have h0 : (i 0).val < 8192 := (i 0).isLt; omega⟩ ⟨(i 0).val % 2048, by omega⟩ (i 1)

/-- Four tables of 32 columns side by side. -/
theorem cat_apply (T1 T2 T3 T4 : Vec Ideal S2048x32 .f32) (p : Fin 2048) (l : Fin 128) :
    (concatenate S2048x128 1 [⟨S2048x32, T1⟩, ⟨S2048x32, T2⟩, ⟨S2048x32, T3⟩, ⟨S2048x32, T4⟩] concatenates_S2048x32_S2048x32_S2048x32_S2048x32_S2048x128_d1 : Vec Ideal S2048x128 .f32) (ix2 p l)
      = if l.val < 32 then T1 (ix2 p ⟨l.val % 32, by omega⟩) else if l.val < 64 then T2 (ix2 p ⟨l.val % 32, by omega⟩)
        else if l.val < 96 then T3 (ix2 p ⟨l.val % 32, by omega⟩) else T4 (ix2 p ⟨l.val % 32, by omega⟩) := by
  pointwise
  have e : ∀ (T : Vec Ideal S2048x32 .f32) (a : Fin 32), a.val = l.val % 32 → T (ix2 p a) = T (ix2 p ⟨l.val % 32, by omega⟩) :=
    fun T a ha => congrArg (fun a => T (ix2 p a)) (Fin.ext ha)
  by_cases h1 : l.val < 32
  · rw [dif_pos h1, if_pos h1]; exact e _ _ (by show l.val = _; omega)
  rw [dif_neg h1, if_neg h1]
  by_cases h2 : l.val < 64
  · rw [dif_pos (by omega), if_pos h2]; exact e _ _ (by show l.val - 32 = _; omega)
  rw [dif_neg (by omega), if_neg h2]
  by_cases h3 : l.val < 96
  · rw [dif_pos (by omega), if_pos h3]; exact e _ _ (by show l.val - 32 - 32 = _; omega)
  rw [dif_neg (by omega), if_neg h3]; exact e _ _ (by show l.val - 32 - 32 - 32 = _; omega)

variable (m : (ℓ : Loc nD τ sig) → Buf (Elt Ideal) ℓ)

/-- The cosine table the call is handed. -/
theorem cos_tbl (c : Dev nD) : V m c main_v15 = concatenate S2048x128 1 [⟨S2048x32, cosT⟩, ⟨S2048x32, cosT⟩, ⟨S2048x32, cosT⟩, ⟨S2048x32, cosT⟩] concatenates_S2048x32_S2048x32_S2048x32_S2048x32_S2048x128_d1 := by
  unfold V hostOps0
  after_results_simp
  rfl

/-- The sine table the call is handed. -/
theorem sin_tbl (c : Dev nD) : V m c main_v18 = concatenate S2048x128 1 [⟨S2048x32, negT⟩, ⟨S2048x32, sinT⟩, ⟨S2048x32, negT⟩, ⟨S2048x32, sinT⟩] concatenates_S2048x32_S2048x32_S2048x32_S2048x32_S2048x128_d1 := by
  unfold V hostOps0
  after_results_simp
  rfl

theorem cos_tbl_apply (c : Dev nD) (p : Fin 2048) (l : Fin 128) : (V m c main_v15 : Vec Ideal S2048x128 .f32) (ix2 p l) = cosAt p l := by
  refine (congrFun (cos_tbl m c) (ix2 p l)).trans ((cat_apply _ _ _ _ p l).trans ?_)
  unfold cosAt
  simp only [ite_self]

theorem sin_tbl_apply (c : Dev nD) (p : Fin 2048) (l : Fin 128) : (V m c main_v18 : Vec Ideal S2048x128 .f32) (ix2 p l) = sinAt p l := by
  refine (congrFun (sin_tbl m c) (ix2 p l)).trans ((cat_apply _ _ _ _ p l).trans ?_)
  unfold sinAt
  have e : ∀ i, negT i = -sinT i := fun _ => rfl
  rw [e]
  by_cases h1 : l.val < 32
  · rw [if_pos h1, if_pos (by omega)]
  rw [if_neg h1]
  by_cases h2 : l.val < 64
  · rw [if_pos h2, if_neg (by omega)]
  rw [if_neg h2]
  by_cases h3 : l.val < 96
  · rw [if_pos h3, if_pos (by omega)]
  rw [if_neg h3, if_neg (by omega)]

/-- The block every window holds at point `t`. -/
theorem idx : ∀ t : Fin grid0.N, win0_0.index t = ![t.val, 0] ∧ win0_1.index t = ![0, 0] ∧ win0_2.index t = ![0, 0]
    ∧ win0_3.index t = ![t.val % 2, 0] ∧ win0_4.index t = ![t.val % 2, 0] ∧ win0_5.index t = ![t.val, 0] := by
  decide +kernel

theorem blk0 (c : Dev nD) (t : Fin grid0.N) (R : Fin 1024) (d : Fin 2048) (r : Fin 8192) (hr : r.val = 1024 * t.val + R.val) :
    iblk m c 0 t (ix2 R d) = m ((c : Thread nD τ).loc main_arg0) (ix3 ⟨r.val / 2048, by omega⟩ ⟨r.val % 2048, by omega⟩ d) := by
  blk_ext! [iblk, V, idx t]

theorem blk1 (c : Dev nD) (t : Fin grid0.N) (d : Fin 2048) (n : Fin 1024) :
    iblk m c 1 t (ix2 d n) = m ((c : Thread nD τ).loc main_arg1) (ix3 0 d ⟨1024 + n.val, by omega⟩) := by
  blk_ext! [iblk, V, idx t]

theorem blk2 (c : Dev nD) (t : Fin grid0.N) (l : Fin 128) :
    iblk m c 2 t (ix2 0 l) = m ((c : Thread nD τ).loc main_arg2) (ix2 0 ⟨l.val % 64, by omega⟩) := by
  blk_ext! [iblk, V, idx t]

theorem blk3 (c : Dev nD) (t : Fin grid0.N) (R : Fin 1024) (l : Fin 128) (p : Fin 2048) (hp : p.val = 1024 * (t.val % 2) + R.val) :
    iblk m c 3 t (ix2 R l) = cosAt p l := by
  refine Eq.trans ?_ (cos_tbl_apply m c p l)
  unfold iblk
  generalize V m c = f
  blk_ext! [idx t]

theorem blk4 (c : Dev nD) (t : Fin grid0.N) (R : Fin 1024) (l : Fin 128) (p : Fin 2048) (hp : p.val = 1024 * (t.val % 2) + R.val) :
    iblk m c 4 t (ix2 R l) = sinAt p l := by
  refine Eq.trans ?_ (sin_tbl_apply m c p l)
  unfold iblk
  generalize V m c = f
  blk_ext! [idx t]

/-- What a point leaves in its result block. -/
theorem point (c : Dev nD) (t : Fin grid0.N) (R n : Fin 1024) (r : Fin 8192) (hr : r.val = 1024 * t.val + R.val) :
    out0_5 (F := Ideal) (iblk m c 0 t) (iblk m c 1 t) (iblk m c 2 t) (iblk m c 3 t) (iblk m c 4 t) (ix2 R n)
      = key (m ((c : Thread nD τ).loc main_arg0)) (m ((c : Thread nD τ).loc main_arg1)) (m ((c : Thread nD τ).loc main_arg2))
        ⟨r.val / 2048, by omega⟩ ⟨r.val % 2048, by omega⟩ n := by
  refine (out5_apply _ _ _ _ _ R n).trans ?_
  unfold key
  have h0 : row (iblk m c 0 t) (iblk m c 1 t) R
      = proj (m ((c : Thread nD τ).loc main_arg0)) (m ((c : Thread nD τ).loc main_arg1)) ⟨r.val / 2048, by omega⟩ ⟨r.val % 2048, by omega⟩ :=
    funext fun n => Finset.sum_congr rfl fun d _ => congrArg₂ (· * ·) (blk0 m c t R d r hr) (blk1 m c t d n)
  rw [h0, show (fun l : Fin 128 => iblk m c 2 t (ix2 0 l)) = _ from funext fun l => blk2 m c t l,
    show (fun l : Fin 128 => iblk m c 3 t (ix2 R l)) = _ from funext fun l => blk3 m c t R l ⟨r.val % 2048, by omega⟩ (by show r.val % 2048 = _; omega),
    show (fun l : Fin 128 => iblk m c 4 t (ix2 R l)) = _ from funext fun l => blk4 m c t R l ⟨r.val % 2048, by omega⟩ (by show r.val % 2048 = _; omega)]

/-- The result array after the run is `G`, once every point's block is `G`'s rows of the point. -/
theorem arr5_of (c : Dev nD) (G : Vec Ideal S8192x1024 .f32)
    (hG : ∀ (t : Fin grid0.N) (R l : Fin 1024) (r : Fin 8192) (n : Fin 1024), r.val = 1024 * t.val + R.val → n.val = l.val →
      out0_5 (F := Ideal) (iblk m c 0 t) (iblk m c 1 t) (iblk m c 2 t) (iblk m c 3 t) (iblk m c 4 t) (ix2 R l) = G (ix2 r n)) :
    (dats m 0 c).arrAt 5 cfg0.N = G := by
  refine (dats m 0 c).arrAt_eq_of_covers 5 _ (by decide +kernel) fun t hf y => ?_
  have h0 : ((win0_5.blk t).view.emb y 0).val = 1024 * t.val + (y 0).val := by blk_simp [idx t]; omega
  have h1 : ((win0_5.blk t).view.emb y 1).val = (y 1).val := by blk_simp [idx t]
  blk_simp
  rw [after0_5]
  have hy : ∀ x : S1024x1024.Idx, x = ix2 (x 0) (x 1) := eq_ix2
  have hz : ∀ z : S8192x1024.Idx, ix2 (z 0) (z 1) = z := fun z => (eq_ix2 z).symm
  exact (congrArg _ (hy y)).trans ((hG t (y 0) (y 1) _ _ h0 h1).trans (congrArg G (hz _)))

/-- The result array after the run. -/
theorem arr5 (c : Dev nD) : (dats m 0 c).arrAt 5 cfg0.N
    = keyArr (m ((c : Thread nD τ).loc main_arg0)) (m ((c : Thread nD τ).loc main_arg1)) (m ((c : Thread nD τ).loc main_arg2)) :=
  arr5_of m c _ fun t R l r n hr hn => by obtain rfl : n = l := Fin.ext hn; exact point m c t R n r hr

end Cert.KpIdeal.Step

end
-- ==== Proof.KpRef.lean ====
/- The prompt group's key projection: the call's result is its reference's. -/
module

public import proofs.«01_k».proof.Proof.KpValue
public import proofs.«01_k».proof.Defs

@[expose] public section

set_option maxRecDepth 16384

noncomputable section

namespace Cert.KpRefIdeal.Step

open Cert.KpRefIdeal Cert.KpRefIdeal.Gen Cert.KpRefIdeal.Read Idealize.ShloMosaic Idealize.ShloMosaic.TcCoe Idealize.SL.Sem
open Cert.KpIdeal.Step (proj normed partner turned cosT sinT cosAt sinAt key keyArr)

/-- The reference divides a sum of squares by 64. -/
theorem c64 : Ideal.ofBits .f32 1115684864#32 = ((64 : ℝ) : EReal) := by
  simp [Ideal.ofBits, Ideal.ieee, -EReal.coe_mul]; norm_num

/-- The kernel multiplies it by 1/64. -/
theorem c64inv : Ideal.ofBits .f32 1015021568#32 = ((1 / 64 : ℝ) : EReal) := by
  simp [Ideal.ofBits, Ideal.ieee, -EReal.coe_mul]; norm_num

theorem div64 (x : EReal) : Ideal.div x (Ideal.ofBits .f32 1115684864#32) = x * Ideal.ofBits .f32 1015021568#32 := by
  rw [c64, c64inv]
  exact Ideal.div_coe (by norm_num) x

/-- The reference's normalized projection. -/
theorem v17_apply (h : Vec Ideal S4x2048x2048 .f32) (w : Vec Ideal S1x2048x5120 .f32) (g : Vec Ideal S1x64 .f32) (b : Fin 4) (t : Fin 2048)
    (hd : Fin 8) (mp : Fin 2) (e : Fin 64) (n : Fin 1024) (hn : n.val = hd.val * 128 + mp.val * 64 + e.val) :
    val_main_v17 (F := Ideal) h w g (ix5 b t hd mp e) = normed (proj h w b t) (fun l => g (ix2 0 ⟨l.val % 64, by omega⟩)) n := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  unfold normed
  rw [div64]
  have hg : (⟨n.val % 128 % 64, by omega⟩ : Fin 64) = e := Fin.ext (by show n.val % 128 % 64 = e.val; omega)
  have hz : ∀ (x : Fin 64) (i : Fin 1024), i.val = hd.val * 128 + mp.val * 64 + x.val →
      ∑ d : Fin 2048, h (ix3 b t d) * w (ix3 0 d ⟨1024 + (hd.val * 128 + mp.val * 64 + x.val), by omega⟩) = proj h w b t i := fun x i hi =>
    Finset.sum_congr rfl fun d _ => congrArg (fun j => h (ix3 b t d) * w (ix3 0 d j)) (Fin.ext (by show 1024 + _ = 1024 + i.val; omega))
  refine congrArg₂ (· * ·) (congrArg₂ (· * ·) (hz e n hn) ?_) (congrArg (fun j => g (ix2 0 j)) hg.symm)
  refine congrArg (fun s => Ideal.rsqrt (s * _ + _)) (Finset.sum_congr rfl fun x _ => ?_)
  exact congrArg₂ (· * ·) (hz x _ (by show 64 * (n.val / 64) + x.val = _; omega)) (hz x _ (by show 64 * (n.val / 64) + x.val = _; omega))

/-- The rotation the reference writes as two halves is the one the kernel writes with partners and signed sines. -/
theorem halves (X : Vec Ideal S4x2048x8x2x64 .f32) (C S : Vec Ideal S2048x32 .f32) (N : Fin 1024 → EReal) (b : Fin 4) (t : Fin 2048)
    (hX : ∀ (hd : Fin 8) (mp : Fin 2) (e : Fin 64) (n : Fin 1024), n.val = hd.val * 128 + mp.val * 64 + e.val → X (ix5 b t hd mp e) = N n)
    (n : Fin 1024) :
    (if h : n.val % 64 < 32 then
      X (ix5 b t ⟨n.val / 128, by omega⟩ ⟨n.val / 64 % 2, by omega⟩ ⟨n.val % 64, by omega⟩) * C (ix2 t ⟨n.val % 64, by omega⟩)
        - X (ix5 b t ⟨n.val / 128, by omega⟩ ⟨n.val / 64 % 2, by omega⟩ ⟨32 + n.val % 64, by omega⟩) * S (ix2 t ⟨n.val % 64, by omega⟩)
    else
      X (ix5 b t ⟨n.val / 128, by omega⟩ ⟨n.val / 64 % 2, by omega⟩ ⟨32 + (n.val % 64 - 32), by omega⟩) * C (ix2 t ⟨n.val % 64 - 32, by omega⟩)
        + X (ix5 b t ⟨n.val / 128, by omega⟩ ⟨n.val / 64 % 2, by omega⟩ ⟨n.val % 64 - 32, by omega⟩) * S (ix2 t ⟨n.val % 64 - 32, by omega⟩))
      = N n * C (ix2 t ⟨n.val % 128 % 32, by omega⟩)
        + N (partner n) * (if n.val % 128 % 64 < 32 then -S (ix2 t ⟨n.val % 128 % 32, by omega⟩) else S (ix2 t ⟨n.val % 128 % 32, by omega⟩)) := by
  have hT : ∀ (T : Vec Ideal S2048x32 .f32) (a : Fin 32), a.val = n.val % 128 % 32 → T (ix2 t a) = T (ix2 t ⟨n.val % 128 % 32, by omega⟩) :=
    fun T a ha => congrArg (fun j => T (ix2 t j)) (Fin.ext ha)
  by_cases h1 : n.val % 64 < 32
  · have hp : partner n = ⟨n.val + 32, by omega⟩ := dif_pos h1
    rw [dif_pos h1, hp, if_pos (show n.val % 128 % 64 < 32 by omega), mul_neg, ← sub_eq_add_neg,
      hX _ _ _ n (by show n.val = n.val / 128 * 128 + n.val / 64 % 2 * 64 + n.val % 64; omega),
      hX _ _ _ ⟨n.val + 32, by omega⟩ (by show n.val + 32 = n.val / 128 * 128 + n.val / 64 % 2 * 64 + (32 + n.val % 64); omega),
      hT C _ (by show n.val % 64 = _; omega), hT S _ (by show n.val % 64 = _; omega)]
  · have hp : partner n = ⟨n.val - 32, by omega⟩ := dif_neg h1
    rw [dif_neg h1, hp, if_neg (show ¬ n.val % 128 % 64 < 32 by omega),
      hX _ _ _ n (by show n.val = n.val / 128 * 128 + n.val / 64 % 2 * 64 + (32 + (n.val % 64 - 32)); omega),
      hX _ _ _ ⟨n.val - 32, by omega⟩ (by show n.val - 32 = n.val / 128 * 128 + n.val / 64 % 2 * 64 + (n.val % 64 - 32); omega),
      hT C _ (by show n.val % 64 - 32 = _; omega), hT S _ (by show n.val % 64 - 32 = _; omega)]

/-- The reference's result at row `r`, column `n`. -/
theorem result_apply (h : Vec Ideal S4x2048x2048 .f32) (w : Vec Ideal S1x2048x5120 .f32) (g : Vec Ideal S1x64 .f32) (r : Fin 8192) (n : Fin 1024) :
    val_main_v52 (F := Ideal) h w g (ix2 r n) = key h w g ⟨r.val / 2048, by omega⟩ ⟨r.val % 2048, by omega⟩ n := by
  refine Eq.trans ?_ (halves (val_main_v17 (F := Ideal) h w g) cosT sinT _ ⟨r.val / 2048, by omega⟩ ⟨r.val % 2048, by omega⟩
    (fun hd mp e n hn => v17_apply h w g _ _ hd mp e n hn) n)
  unfold cosT sinT
  pointwise [val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v32]

/-- The reference's result. -/
theorem result_eq (h : Vec Ideal S4x2048x2048 .f32) (w : Vec Ideal S1x2048x5120 .f32) (g : Vec Ideal S1x64 .f32) :
    val_main_v52 (F := Ideal) h w g = keyArr h w g := by
  funext i
  exact (congrArg (val_main_v52 (F := Ideal) h w g) (eq_ix2 i)).trans (result_apply h w g (i 0) (i 1))

/-- The kernel's result is the reference's: equal on every pair of memories that agree on the arguments. -/
theorem algebraic : Cert.algebraic_KpIdeal_KpRefIdeal (hKpIdeal := Cert.KpIdeal.Gen.facts)
    (hKpRefIdeal := Cert.KpRefIdeal.Gen.facts) := by
  intro m ρ m' ρ' _ hagree
  refine ⟨_, (θ_run Cert.KpIdeal.defs _ _).mono (fun _ h c => ⟨(h c).1, (h c).2.2⟩)
    (Cert.KpIdeal.Value.run_blocks (F := Ideal) m ρ), ?_⟩
  refine (θ_run Cert.KpRefIdeal.defs _ _).mono (fun _ h c => ⟨(h c).1.trans ?_, (h c).2⟩)
    (Cert.KpRefIdeal.Value.run (F := Ideal) m' ρ')
  refine (val_main_v52_eq _ _).trans ((result_eq _ _ _).trans ?_)
  rw [Cert.KpIdeal.Step.arr5 m c, (hagree c).1, (hagree c).2.1, (hagree c).2.2]

/-- The reference runs, keeps its arguments and has no semaphore. -/
theorem frame : Cert.quiescent_KpRefIdeal (hKpRefIdeal := Cert.KpRefIdeal.Gen.facts) := fun m ρ _ =>
  (θ_run Cert.KpRefIdeal.defs _ _).mono (fun r h => ⟨fun c => (h c).2, sem_eq_zero_of_no_sems (by decide) r.2⟩)
    (Cert.KpRefIdeal.Value.run (F := Ideal) m ρ)

end Cert.KpRefIdeal.Step

end
-- ==== Proof.KsPoint.lean ====
/- The sample group's key projection: the call's result block, from the blocks it loads. The body casts the weights 256
   columns at a time; of each product it normalizes and rotates two heads as the prompt group's body does (KpPoint). -/
module

public import proofs.«01_k».proof.Proof.Gen.KsIdeal.Value
public import proofs.«01_k».proof.Proof.KpPoint
public import Idealize.ShloMosaic.Lib.Pipeline.ValueKit
public import Idealize.ShloMosaic.Lib.Pointwise

@[expose] public section

set_option maxRecDepth 16384

noncomputable section

namespace Cert.KsIdeal.Step

open Cert.KsIdeal Cert.KsIdeal.Gen Idealize.ShloMosaic Idealize.ShloMosaic.TcCoe Idealize.SL.Sem
open Cert.KpIdeal.Step (slab slab_apply turned)

/-- The body's scale is one. -/
theorem one_bits : Ideal.ofBits .f32 1065353216#32 = 1 := by
  simp [Ideal.ofBits, Ideal.ieee, -EReal.coe_mul]; norm_num

/-- A head's slab as the body writes it: multiplied by the scale. -/
def scaled (xs : FVec Ideal S1024x128 .f32) (g : Vec Ideal S1x128 .f32) (cs sn : Vec Ideal S1024x128 .f32) : FVec Ideal S1024x128 .f32 :=
  mulf (slab xs g cs sn) (broadcast S1024x128 (Scalar.ofBits .f32 0x3F800000#32))

theorem scaled_apply (xs : FVec Ideal S1024x128 .f32) (g : Vec Ideal S1x128 .f32) (cs sn : Vec Ideal S1024x128 .f32) (R : Fin 1024)
    (l : Fin 128) : scaled xs g cs sn (ix2 R l) = slab xs g cs sn (ix2 R l) := by
  show slab xs g cs sn (ix2 R l) * Ideal.ofBits .f32 1065353216#32 = _
  rw [one_bits, mul_one]

/-- A row of a block times the projection's columns. -/
def row (a : Vec Ideal S1024x2048 .bf16) (w : Vec Ideal S1x2048x1024 .f32) (R : Fin 1024) (n : Fin 1024) : EReal :=
  ∑ d : Fin 2048, a (ix2 R d) * w (ix3 0 d n)

/-- A product of 256 columns of the weights, which the body casts. -/
theorem prod_apply (a : Vec Ideal S1024x2048 .bf16) (w : Vec Ideal S1x2048x1024 .f32) (wb : Vec Ideal S1x2048x256 .f32) (j : Fin 4)
    (hw : ∀ (d : Fin 2048) (l : Fin 256), wb (ix3 0 d l) = w (ix3 0 d ⟨256 * j.val + l.val, by omega⟩)) (R : Fin 1024) (l : Fin 256)
    (n : Fin 1024) (hn : n.val = 256 * j.val + l.val) : k0_pay12 (F := Ideal) a wb (ix2 R l) = row a w R n := by
  unfold_payloads
  pointwise
  unfold row
  refine Finset.sum_congr rfl fun d _ => congrArg (a (ix2 R d) * ·) ((hw d _).trans ?_)
  exact congrArg (fun i => w (ix3 0 d i)) (Fin.ext hn.symm)

/-- The first head's half of a product. -/
theorem take_lo (f : FVec Ideal S1024x256 .f32) (R : Fin 1024) (l : Fin 128) :
    extractStridedSlice S1024x128 ![0, 0] f slices_S1024x256_o0_0_S1024x128 (ix2 R l) = f (ix2 R ⟨l.val, by omega⟩) := by
  pointwise

/-- The second head's half of a product. -/
theorem take_hi (f : FVec Ideal S1024x256 .f32) (R : Fin 1024) (l : Fin 128) :
    extractStridedSlice S1024x128 ![0, 128] f slices_S1024x256_o0_128_S1024x128 (ix2 R l) = f (ix2 R ⟨128 + l.val, by omega⟩) := by
  pointwise

/-- The slab of the first head of a product. -/
theorem lo_apply (a : Vec Ideal S1024x2048 .bf16) (w : Vec Ideal S1x2048x1024 .f32) (g : Vec Ideal S1x128 .f32) (cs sn : Vec Ideal S1024x128 .f32)
    (wb : Vec Ideal S1x2048x256 .f32) (j : Fin 4)
    (hw : ∀ (d : Fin 2048) (l : Fin 256), wb (ix3 0 d l) = w (ix3 0 d ⟨256 * j.val + l.val, by omega⟩)) (R : Fin 1024) (l : Fin 128)
    (n : Fin 1024) (hn : n.val = 256 * j.val + l.val) :
    scaled (extractStridedSlice S1024x128 ![0, 0] (k0_pay12 (F := Ideal) a wb) slices_S1024x256_o0_0_S1024x128) g cs sn (ix2 R l)
      = turned (row a w R) (fun l => g (ix2 0 l)) (fun l => cs (ix2 R l)) (fun l => sn (ix2 R l)) n :=
  (scaled_apply _ g cs sn R l).trans (slab_apply _ g cs sn R l (row a w R) ⟨2 * j.val, by omega⟩
    (fun l => (take_lo _ R l).trans (prod_apply a w wb j hw R _ _ (by show 128 * (2 * j.val) + l.val = 256 * j.val + l.val; omega))) n
    (by show n.val = 128 * (2 * j.val) + l.val; omega))

/-- The slab of the second head of a product. -/
theorem hi_apply (a : Vec Ideal S1024x2048 .bf16) (w : Vec Ideal S1x2048x1024 .f32) (g : Vec Ideal S1x128 .f32) (cs sn : Vec Ideal S1024x128 .f32)
    (wb : Vec Ideal S1x2048x256 .f32) (j : Fin 4)
    (hw : ∀ (d : Fin 2048) (l : Fin 256), wb (ix3 0 d l) = w (ix3 0 d ⟨256 * j.val + l.val, by omega⟩)) (R : Fin 1024) (l : Fin 128)
    (n : Fin 1024) (hn : n.val = 256 * j.val + 128 + l.val) :
    scaled (extractStridedSlice S1024x128 ![0, 128] (k0_pay12 (F := Ideal) a wb) slices_S1024x256_o0_128_S1024x128) g cs sn (ix2 R l)
      = turned (row a w R) (fun l => g (ix2 0 l)) (fun l => cs (ix2 R l)) (fun l => sn (ix2 R l)) n :=
  (scaled_apply _ g cs sn R l).trans (slab_apply _ g cs sn R l (row a w R) ⟨2 * j.val + 1, by omega⟩
    (fun l => (take_hi _ R l).trans (prod_apply a w wb j hw R _ _ (by show 128 * (2 * j.val + 1) + l.val = 256 * j.val + (128 + l.val); omega))) n
    (by show n.val = 128 * (2 * j.val + 1) + l.val; omega))

/-- A block of 256 columns of the weights. -/
theorem cols (w : Vec Ideal S1x2048x1024 .f32) (d : Fin 2048) (l : Fin 256) :
    View.ld w r0_3 (ix3 0 d l) = w (ix3 0 d ⟨256 * 0 + l.val, by omega⟩) ∧ View.ld w r0_5 (ix3 0 d l) = w (ix3 0 d ⟨256 * 1 + l.val, by omega⟩)
      ∧ View.ld w r0_7 (ix3 0 d l) = w (ix3 0 d ⟨256 * 2 + l.val, by omega⟩) ∧ View.ld w r0_9 (ix3 0 d l) = w (ix3 0 d ⟨256 * 3 + l.val, by omega⟩) := by
  refine ⟨?_, ?_, ?_, ?_⟩ <;> pointwise

/-- The result block: its rows' columns, normalized and rotated. -/
theorem out5_apply (a : Vec Ideal S1024x2048 .bf16) (w : Vec Ideal S1x2048x1024 .f32) (g : Vec Ideal S1x128 .f32)
    (cs sn : Vec Ideal S1024x128 .f32) (R n : Fin 1024) : out0_5 (F := Ideal) a w g cs sn (ix2 R n)
      = turned (row a w R) (fun l => g (ix2 0 l)) (fun l => cs (ix2 R l)) (fun l => sn (ix2 R l)) n := by
  have e0 : View.ld a r0_0 = a := View.ld_unit_lit (S := S1024x2048) _ _ (by decide)
  have e2 : View.ld g r0_1 = g := View.ld_unit_lit (S := S1x128) _ _ (by decide)
  have e3 : View.ld cs r0_2 = cs := View.ld_unit_lit (S := S1024x128) _ _ (by decide)
  have e4 : View.ld sn r0_2 = sn := View.ld_unit_lit (S := S1024x128) _ _ (by decide)
  have p4 : k0_pay6 (F := Ideal) g = g := by unfold_payloads; funext i; idx_vars i; pointwise
  have p5 : k0_pay7 (F := Ideal) cs = cs := by unfold_payloads; funext i; idx_vars i; pointwise
  have p6 : k0_pay8 (F := Ideal) sn = sn := by unfold_payloads; funext i; idx_vars i; pointwise
  have c := cols w
  have lo : ∀ (wb : Vec Ideal S1x2048x256 .f32) (j : Fin 4)
      (hw : ∀ (d : Fin 2048) (l : Fin 256), wb (ix3 0 d l) = w (ix3 0 d ⟨256 * j.val + l.val, by omega⟩)) (l : Fin 128)
      (hn : n.val = 256 * j.val + l.val), scaled (extractStridedSlice S1024x128 ![0, 0] (k0_pay12 (F := Ideal) (View.ld a r0_0) wb)
        slices_S1024x256_o0_0_S1024x128) (k0_pay6 (View.ld g r0_1)) (k0_pay7 (View.ld cs r0_2)) (k0_pay8 (View.ld sn r0_2)) (ix2 R l)
      = turned (row a w R) (fun l => g (ix2 0 l)) (fun l => cs (ix2 R l)) (fun l => sn (ix2 R l)) n := by
    rw [e0, e2, e3, e4, p4, p5, p6]
    exact fun wb j hw l hn => lo_apply a w g cs sn wb j hw R l n hn
  have hi : ∀ (wb : Vec Ideal S1x2048x256 .f32) (j : Fin 4)
      (hw : ∀ (d : Fin 2048) (l : Fin 256), wb (ix3 0 d l) = w (ix3 0 d ⟨256 * j.val + l.val, by omega⟩)) (l : Fin 128)
      (hn : n.val = 256 * j.val + 128 + l.val), scaled (extractStridedSlice S1024x128 ![0, 128] (k0_pay12 (F := Ideal) (View.ld a r0_0) wb)
        slices_S1024x256_o0_128_S1024x128) (k0_pay6 (View.ld g r0_1)) (k0_pay7 (View.ld cs r0_2)) (k0_pay8 (View.ld sn r0_2)) (ix2 R l)
      = turned (row a w R) (fun l => g (ix2 0 l)) (fun l => cs (ix2 R l)) (fun l => sn (ix2 R l)) n := by
    rw [e0, e2, e3, e4, p4, p5, p6]
    exact fun wb j hw l hn => hi_apply a w g cs sn wb j hw R l n hn
  unfold out0_5
  canon_tiles x h
  all_goals idx_vars x
  all_goals obtain rfl : R = x0 := Fin.ext h0
  · exact hi (View.ld w r0_9) 3 (fun d l => (c d l).2.2.2) x1 h1
  · exact lo (View.ld w r0_9) 3 (fun d l => (c d l).2.2.2) x1 h1
  · exact hi (View.ld w r0_7) 2 (fun d l => (c d l).2.2.1) x1 h1
  · exact lo (View.ld w r0_7) 2 (fun d l => (c d l).2.2.1) x1 h1
  · exact hi (View.ld w r0_5) 1 (fun d l => (c d l).2.1) x1 h1
  · exact lo (View.ld w r0_5) 1 (fun d l => (c d l).2.1) x1 h1
  · exact hi (View.ld w r0_3) 0 (fun d l => (c d l).1) x1 h1
  · exact lo (View.ld w r0_3) 0 (fun d l => (c d l).1) x1 (h1.trans (by simp))

end Cert.KsIdeal.Step

end
-- ==== Proof.KsValue.lean ====
/- The sample group's key projection, as a function of the arguments of the call. -/
module

public import proofs.«01_k».proof.Proof.KsPoint
public import proofs.«01_k».proof.Proof.Gen.KsRefIdeal.Read
public import Idealize.ShloMosaic.Lib.StableHlo.Run

@[expose] public section

set_option maxRecDepth 16384

noncomputable section

namespace Cert.KsIdeal.Step

open Cert.KsIdeal Cert.KsIdeal.Gen Idealize.ShloMosaic Idealize.ShloMosaic.TcCoe Idealize.SL.Sem
open Cert.KpIdeal.Step (turned)

/-- The cosines of the rotation: of new token `p`, at position `2048 + p`, at frequency `j`. -/
def cosT : Vec Ideal S8x32 .f32 := Cert.KsRefIdeal.Read.val_main_v33 (F := Ideal)

/-- The sines of the rotation. -/
def sinT : Vec Ideal S8x32 .f32 := Cert.KsRefIdeal.Read.val_main_v35 (F := Ideal)

/-- The sines negated. -/
def negT : Vec Ideal S8x32 .f32 := Host.negf (F := Ideal) (φ := .f32) sinT

/-- Column `n` of the projection of token `t` of sequence `b`: columns 1024 and up of the layer's input weights. -/
def proj (h : Vec Ideal S128x8x2048 .f32) (w : Vec Ideal S1x2048x5120 .f32) (b : Fin 128) (t : Fin 8) (n : Fin 1024) : EReal :=
  ∑ d : Fin 2048, h (ix3 b t d) * w (ix3 0 d ⟨1024 + n.val, by omega⟩)

/-- The cosine a column of a head is multiplied by. -/
def cosAt (p : Fin 8) (l : Fin 128) : EReal := cosT (ix2 p ⟨l.val % 32, by omega⟩)

/-- The sine a column's partner is multiplied by: negated in the first half of each map. -/
def sinAt (p : Fin 8) (l : Fin 128) : EReal :=
  if l.val % 64 < 32 then -sinT (ix2 p ⟨l.val % 32, by omega⟩) else sinT (ix2 p ⟨l.val % 32, by omega⟩)

/-- Column `n` of the key of token `t` of sequence `b`. -/
def key (h : Vec Ideal S128x8x2048 .f32) (w : Vec Ideal S1x2048x5120 .f32) (g : Vec Ideal S1x64 .f32) (b : Fin 128) (t : Fin 8)
    (n : Fin 1024) : EReal :=
  turned (proj h w b t) (fun l => g (ix2 0 ⟨l.val % 64, by omega⟩)) (cosAt t) (sinAt t) n

/-- The keys as an array: row `128·t + b` is new token `t` of sequence `b`. -/
def keyArr (h : Vec Ideal S128x8x2048 .f32) (w : Vec Ideal S1x2048x5120 .f32) (g : Vec Ideal S1x64 .f32) : Vec Ideal S1024x1024 .f32 := fun i =>
  key h w g ⟨(i 0).val % 128, by omega⟩ ⟨(i 0).val / 128, by have h0 : (i 0).val < 1024 := (i 0).isLt; omega⟩ (i 1)

/-- Four tables of 32 columns side by side. -/
theorem cat_apply (T1 T2 T3 T4 : Vec Ideal S8x32 .f32) (p : Fin 8) (l : Fin 128) :
    (concatenate S8x128 1 [⟨S8x32, T1⟩, ⟨S8x32, T2⟩, ⟨S8x32, T3⟩, ⟨S8x32, T4⟩] concatenates_S8x32_S8x32_S8x32_S8x32_S8x128_d1 : Vec Ideal S8x128 .f32) (ix2 p l)
      = if l.val < 32 then T1 (ix2 p ⟨l.val % 32, by omega⟩) else if l.val < 64 then T2 (ix2 p ⟨l.val % 32, by omega⟩)
        else if l.val < 96 then T3 (ix2 p ⟨l.val % 32, by omega⟩) else T4 (ix2 p ⟨l.val % 32, by omega⟩) := by
  pointwise
  have e : ∀ (T : Vec Ideal S8x32 .f32) (a : Fin 32), a.val = l.val % 32 → T (ix2 p a) = T (ix2 p ⟨l.val % 32, by omega⟩) :=
    fun T a ha => congrArg (fun a => T (ix2 p a)) (Fin.ext ha)
  by_cases h1 : l.val < 32
  · rw [dif_pos h1, if_pos h1]; exact e _ _ (by show l.val = _; omega)
  rw [dif_neg h1, if_neg h1]
  by_cases h2 : l.val < 64
  · rw [dif_pos (by omega), if_pos h2]; exact e _ _ (by show l.val - 32 = _; omega)
  rw [dif_neg (by omega), if_neg h2]
  by_cases h3 : l.val < 96
  · rw [dif_pos (by omega), if_pos h3]; exact e _ _ (by show l.val - 32 - 32 = _; omega)
  rw [dif_neg (by omega), if_neg h3]; exact e _ _ (by show l.val - 32 - 32 - 32 = _; omega)

variable (m : (ℓ : Loc nD τ sig) → Buf (Elt Ideal) ℓ)

/-- A table's row for every sequence of a token: row `128·t + b` is token `t`'s. -/
theorem rep_apply (T : Vec Ideal S8x128 .f32) (R : Fin 1024) (l : Fin 128) :
    (shapeCast S1024x128 (broadcastInDim S8x128x128 ![0, 2] bcast_S8x128_S8x128x128_0_2 T) shapeCasts_S8x128x128_S1024x128 : Vec Ideal S1024x128 .f32)
      (ix2 R l) = T (ix2 ⟨R.val / 128, by omega⟩ l) := by
  pointwise

/-- The cosine table the call is handed. -/
theorem cos_tbl (c : Dev nD) : V m c main_v22 = shapeCast S1024x128 (broadcastInDim S8x128x128 ![0, 2] bcast_S8x128_S8x128x128_0_2
    (concatenate S8x128 1 [⟨S8x32, cosT⟩, ⟨S8x32, cosT⟩, ⟨S8x32, cosT⟩, ⟨S8x32, cosT⟩] concatenates_S8x32_S8x32_S8x32_S8x32_S8x128_d1))
    shapeCasts_S8x128x128_S1024x128 := by
  unfold V hostOps0
  after_results_simp
  rfl

/-- The sine table the call is handed. -/
theorem sin_tbl (c : Dev nD) : V m c main_v24 = shapeCast S1024x128 (broadcastInDim S8x128x128 ![0, 2] bcast_S8x128_S8x128x128_0_2
    (concatenate S8x128 1 [⟨S8x32, negT⟩, ⟨S8x32, sinT⟩, ⟨S8x32, negT⟩, ⟨S8x32, sinT⟩] concatenates_S8x32_S8x32_S8x32_S8x32_S8x128_d1))
    shapeCasts_S8x128x128_S1024x128 := by
  unfold V hostOps0
  after_results_simp
  rfl

theorem cos_tbl_apply (c : Dev nD) (R : Fin 1024) (l : Fin 128) :
    (V m c main_v22 : Vec Ideal S1024x128 .f32) (ix2 R l) = cosAt ⟨R.val / 128, by omega⟩ l := by
  refine (congrFun (cos_tbl m c) (ix2 R l)).trans ((rep_apply _ R l).trans ((cat_apply _ _ _ _ _ l).trans ?_))
  unfold cosAt
  simp only [ite_self]

theorem sin_tbl_apply (c : Dev nD) (R : Fin 1024) (l : Fin 128) :
    (V m c main_v24 : Vec Ideal S1024x128 .f32) (ix2 R l) = sinAt ⟨R.val / 128, by omega⟩ l := by
  refine (congrFun (sin_tbl m c) (ix2 R l)).trans ((rep_apply _ R l).trans ((cat_apply _ _ _ _ _ l).trans ?_))
  unfold sinAt
  have e : ∀ i, negT i = -sinT i := fun _ => rfl
  rw [e]
  by_cases h1 : l.val < 32
  · rw [if_pos h1, if_pos (by omega)]
  rw [if_neg h1]
  by_cases h2 : l.val < 64
  · rw [if_pos h2, if_neg (by omega)]
  rw [if_neg h2]
  by_cases h3 : l.val < 96
  · rw [if_pos h3, if_pos (by omega)]
  rw [if_neg h3, if_neg (by omega)]

/-- The block every window holds at point `t`. -/
theorem idx : ∀ t : Fin grid0.N, win0_0.index t = ![0, 0] ∧ win0_1.index t = ![0, 0, 1] ∧ win0_2.index t = ![0, 0]
    ∧ win0_3.index t = ![0, 0] ∧ win0_4.index t = ![0, 0] ∧ win0_5.index t = ![0, 0] := by
  decide +kernel

theorem blk0 (c : Dev nD) (t : Fin grid0.N) (R : Fin 1024) (d : Fin 2048) :
    iblk m c 0 t (ix2 R d) = m ((c : Thread nD τ).loc main_arg0) (ix3 ⟨R.val % 128, by omega⟩ ⟨R.val / 128, by omega⟩ d) := by
  blk_ext! [iblk, V, idx t]

theorem blk1 (c : Dev nD) (t : Fin grid0.N) (d : Fin 2048) (n : Fin 1024) :
    iblk m c 1 t (ix3 0 d n) = m ((c : Thread nD τ).loc main_arg1) (ix3 0 d ⟨1024 + n.val, by omega⟩) := by
  blk_ext! [iblk, V, idx t]

theorem blk2 (c : Dev nD) (t : Fin grid0.N) (l : Fin 128) :
    iblk m c 2 t (ix2 0 l) = m ((c : Thread nD τ).loc main_arg2) (ix2 0 ⟨l.val % 64, by omega⟩) := by
  blk_ext! [iblk, V, idx t]

theorem blk3 (c : Dev nD) (t : Fin grid0.N) (R : Fin 1024) (l : Fin 128) :
    iblk m c 3 t (ix2 R l) = cosAt ⟨R.val / 128, by omega⟩ l := by
  refine Eq.trans ?_ (cos_tbl_apply m c R l)
  unfold iblk
  generalize V m c = f
  blk_ext! [idx t]

theorem blk4 (c : Dev nD) (t : Fin grid0.N) (R : Fin 1024) (l : Fin 128) :
    iblk m c 4 t (ix2 R l) = sinAt ⟨R.val / 128, by omega⟩ l := by
  refine Eq.trans ?_ (sin_tbl_apply m c R l)
  unfold iblk
  generalize V m c = f
  blk_ext! [idx t]

/-- What the point leaves in its result block. -/
theorem point (c : Dev nD) (t : Fin grid0.N) (R n : Fin 1024) :
    out0_5 (F := Ideal) (iblk m c 0 t) (iblk m c 1 t) (iblk m c 2 t) (iblk m c 3 t) (iblk m c 4 t) (ix2 R n)
      = key (m ((c : Thread nD τ).loc main_arg0)) (m ((c : Thread nD τ).loc main_arg1)) (m ((c : Thread nD τ).loc main_arg2))
        ⟨R.val % 128, by omega⟩ ⟨R.val / 128, by omega⟩ n := by
  refine (out5_apply _ _ _ _ _ R n).trans ?_
  unfold key
  have h0 : row (iblk m c 0 t) (iblk m c 1 t) R
      = proj (m ((c : Thread nD τ).loc main_arg0)) (m ((c : Thread nD τ).loc main_arg1)) ⟨R.val % 128, by omega⟩ ⟨R.val / 128, by omega⟩ :=
    funext fun n => Finset.sum_congr rfl fun d _ => congrArg₂ (· * ·) (blk0 m c t R d) (blk1 m c t d n)
  rw [h0, show (fun l : Fin 128 => iblk m c 2 t (ix2 0 l)) = _ from funext fun l => blk2 m c t l,
    show (fun l : Fin 128 => iblk m c 3 t (ix2 R l)) = _ from funext fun l => blk3 m c t R l,
    show (fun l : Fin 128 => iblk m c 4 t (ix2 R l)) = _ from funext fun l => blk4 m c t R l]

/-- The result array after the run is `G`, once the point's block is `G`. -/
theorem arr5_of (c : Dev nD) (G : Vec Ideal S1024x1024 .f32)
    (hG : ∀ (t : Fin grid0.N) (R l : Fin 1024) (r n : Fin 1024), r.val = R.val → n.val = l.val →
      out0_5 (F := Ideal) (iblk m c 0 t) (iblk m c 1 t) (iblk m c 2 t) (iblk m c 3 t) (iblk m c 4 t) (ix2 R l) = G (ix2 r n)) :
    (dats m 0 c).arrAt 5 cfg0.N = G := by
  refine (dats m 0 c).arrAt_eq_of_covers 5 _ (by decide +kernel) fun t hf y => ?_
  have h0 : ((win0_5.blk t).view.emb y 0).val = (y 0).val := by blk_simp [idx t]
  have h1 : ((win0_5.blk t).view.emb y 1).val = (y 1).val := by blk_simp [idx t]
  blk_simp
  rw [after0_5]
  have hy : ∀ x : S1024x1024.Idx, x = ix2 (x 0) (x 1) := eq_ix2
  have hz : ∀ z : S1024x1024.Idx, ix2 (z 0) (z 1) = z := fun z => (eq_ix2 z).symm
  exact (congrArg _ (hy y)).trans ((hG t (y 0) (y 1) _ _ h0 h1).trans (congrArg G (hz _)))

/-- The result array after the run. -/
theorem arr5 (c : Dev nD) : (dats m 0 c).arrAt 5 cfg0.N
    = keyArr (m ((c : Thread nD τ).loc main_arg0)) (m ((c : Thread nD τ).loc main_arg1)) (m ((c : Thread nD τ).loc main_arg2)) :=
  arr5_of m c _ fun t R l r n hr hn => by
    obtain rfl : n = l := Fin.ext hn
    obtain rfl : r = R := Fin.ext hr
    exact point m c t r n

end Cert.KsIdeal.Step

end
-- ==== Proof.KsRef.lean ====
/- The sample group's key projection: the call's result is its reference's. -/
module

public import proofs.«01_k».proof.Proof.KsValue
public import proofs.«01_k».proof.Proof.KpRef
public import proofs.«01_k».proof.Defs

@[expose] public section

set_option maxRecDepth 16384

noncomputable section

namespace Cert.KsRefIdeal.Step

open Cert.KsRefIdeal Cert.KsRefIdeal.Gen Cert.KsRefIdeal.Read Idealize.ShloMosaic Idealize.ShloMosaic.TcCoe Idealize.SL.Sem
open Cert.KsIdeal.Step (proj cosT sinT cosAt sinAt key keyArr)
open Cert.KpIdeal.Step (normed partner turned)
open Cert.KpRefIdeal.Step (div64 halves)

/-- The reference's normalized projection. -/
theorem v17_apply (h : Vec Ideal S128x8x2048 .f32) (w : Vec Ideal S1x2048x5120 .f32) (g : Vec Ideal S1x64 .f32) (b : Fin 128) (t : Fin 8)
    (hd : Fin 8) (mp : Fin 2) (e : Fin 64) (n : Fin 1024) (hn : n.val = hd.val * 128 + mp.val * 64 + e.val) :
    val_main_v17 (F := Ideal) h w g (ix5 b t hd mp e) = normed (proj h w b t) (fun l => g (ix2 0 ⟨l.val % 64, by omega⟩)) n := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  unfold normed
  rw [div64]
  have hg : (⟨n.val % 128 % 64, by omega⟩ : Fin 64) = e := Fin.ext (by show n.val % 128 % 64 = e.val; omega)
  have hz : ∀ (x : Fin 64) (i : Fin 1024), i.val = hd.val * 128 + mp.val * 64 + x.val →
      ∑ d : Fin 2048, h (ix3 b t d) * w (ix3 0 d ⟨1024 + (hd.val * 128 + mp.val * 64 + x.val), by omega⟩) = proj h w b t i := fun x i hi =>
    Finset.sum_congr rfl fun d _ => congrArg (fun j => h (ix3 b t d) * w (ix3 0 d j)) (Fin.ext (by show 1024 + _ = 1024 + i.val; omega))
  refine congrArg₂ (· * ·) (congrArg₂ (· * ·) (hz e n hn) ?_) (congrArg (fun j => g (ix2 0 j)) hg.symm)
  refine congrArg (fun s => Ideal.rsqrt (s * _ + _)) (Finset.sum_congr rfl fun x _ => ?_)
  exact congrArg₂ (· * ·) (hz x _ (by show 64 * (n.val / 64) + x.val = _; omega)) (hz x _ (by show 64 * (n.val / 64) + x.val = _; omega))

/-- The reference's result at row `r`, column `n`. -/
theorem result_apply (h : Vec Ideal S128x8x2048 .f32) (w : Vec Ideal S1x2048x5120 .f32) (g : Vec Ideal S1x64 .f32) (r : Fin 1024) (n : Fin 1024) :
    val_main_v55 (F := Ideal) h w g (ix2 r n) = key h w g ⟨r.val % 128, by omega⟩ ⟨r.val / 128, by omega⟩ n := by
  refine Eq.trans ?_ (halves (fun i => val_main_v17 (F := Ideal) h w g (ix5 ⟨r.val % 128, by omega⟩ ⟨r.val / 128, by omega⟩ (i 2) (i 3) (i 4)))
    (fun i => cosT (ix2 ⟨r.val / 128, by omega⟩ (i 1))) (fun i => sinT (ix2 ⟨r.val / 128, by omega⟩ (i 1))) _ 0 0
    (fun hd mp e n hn => v17_apply h w g _ _ hd mp e n hn) n)
  unfold cosT sinT
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v34]

/-- The reference's result. -/
theorem result_eq (h : Vec Ideal S128x8x2048 .f32) (w : Vec Ideal S1x2048x5120 .f32) (g : Vec Ideal S1x64 .f32) :
    val_main_v55 (F := Ideal) h w g = keyArr h w g := by
  funext i
  exact (congrArg (val_main_v55 (F := Ideal) h w g) (eq_ix2 i)).trans (result_apply h w g (i 0) (i 1))

/-- The kernel's result is the reference's: equal on every pair of memories that agree on the arguments. -/
theorem algebraic : Cert.algebraic_KsIdeal_KsRefIdeal (hKsIdeal := Cert.KsIdeal.Gen.facts)
    (hKsRefIdeal := Cert.KsRefIdeal.Gen.facts) := by
  intro m ρ m' ρ' _ hagree
  refine ⟨_, (θ_run Cert.KsIdeal.defs _ _).mono (fun _ h c => ⟨(h c).1, (h c).2.2⟩)
    (Cert.KsIdeal.Value.run_blocks (F := Ideal) m ρ), ?_⟩
  refine (θ_run Cert.KsRefIdeal.defs _ _).mono (fun _ h c => ⟨(h c).1.trans ?_, (h c).2⟩)
    (Cert.KsRefIdeal.Value.run (F := Ideal) m' ρ')
  refine (val_main_v55_eq _ _).trans ((result_eq _ _ _).trans ?_)
  rw [Cert.KsIdeal.Step.arr5 m c, (hagree c).1, (hagree c).2.1, (hagree c).2.2]

/-- The reference runs, keeps its arguments and has no semaphore. -/
theorem frame : Cert.quiescent_KsRefIdeal (hKsRefIdeal := Cert.KsRefIdeal.Gen.facts) := fun m ρ _ =>
  (θ_run Cert.KsRefIdeal.defs _ _).mono (fun r h => ⟨fun c => (h c).2, sem_eq_zero_of_no_sems (by decide) r.2⟩)
    (Cert.KsRefIdeal.Value.run (F := Ideal) m ρ)

end Cert.KsRefIdeal.Step

end
-- ==== Proof.ScpPoint.lean ====
/- One grid point of the prompt group's short convolution, read at an index. A point holds 512 channels of 1024 rows, half
   of a sequence; the gated rows it makes are carried to the next point, which takes the two rows before its own from them. -/
module

public import proofs.«01_k».proof.Proof.Gen.ScpIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ScpIdeal.Step

open Cert.ScpIdeal Cert.ScpIdeal.Gen Idealize.ShloMosaic Idealize.ShloMosaic.TcCoe Idealize.SL.Sem

/-- A product of a point's rows with a block of weights. -/
def prod (x : Vec Ideal S1024x2048 .bf16) (w : Vec Ideal S2048x512 .bf16) (R : Fin 1024) (l : Fin 512) : EReal :=
  ∑ d : Fin 2048, x (ix2 R d) * w (ix2 d l)

/-- The gated rows of a point. -/
theorem pay6_apply (x : Vec Ideal S1024x2048 .bf16) (w2 w3 : Vec Ideal S2048x512 .bf16) (R : Fin 1024) (l : Fin 512) :
    k0_pay6 (F := Ideal) x w2 w3 (ix2 R l) = prod x w2 R l * prod x w3 R l := by
  unfold_payloads
  pointwise [prod]

/-- The rows carried to the next point are the gated ones. -/
theorem pay2_eq (u : FVec Ideal S1024x512 .f32) : k0_pay2 (F := Ideal) u = u := by
  unfold_payloads
  funext i
  idx_vars i
  pointwise

/-- A point that starts a sequence carries nothing in. -/
theorem pay4_apply (R : Fin 1024) (l : Fin 512) : k0_pay4 (F := Ideal) (ix2 R l) = 0 := by
  unfold_payloads
  pointwise

/-- The last eight gated rows. -/
theorem pay3_apply (u : FVec Ideal S1024x512 .f32) (j : Fin 8) (l : Fin 512) :
    k0_pay3 (F := Ideal) u (ix3 0 j l) = u (ix2 ⟨1016 + j.val, by omega⟩ l) := by
  unfold_payloads
  pointwise

variable (m : (ℓ : Loc nD τ sig) → Buf (Elt Ideal) ℓ)

/-- The gated rows of point `t`. -/
def rows (c : Dev nD) (t : Fin cfg0.N) : FVec Ideal S1024x512 .f32 := k0_pay6 (F := Ideal) (iblk m c 0 t) (iblk m c 2 t) (iblk m c 3 t)

/-- What a point carries to the next. -/
theorem carried (c : Dev nD) (t : Fin cfg0.N) : (outsAt0 m c t.val t.isLt).2.2 = rows m c t := by
  by_cases h0 : t.val % 2 = 0
  · rw [outsAt0_A m c t h0]
    frame_out
    exact pay2_eq _
  · rw [outsAt0_B m c t h0]
    frame_out
    exact pay2_eq _

/-- What a point leaves in its second result block. -/
theorem tail_at (c : Dev nD) (t : Fin cfg0.N) : (outsAt0 m c t.val t.isLt).2.1 = k0_pay3 (F := Ideal) (rows m c t) := by
  by_cases h0 : t.val % 2 = 0
  · rw [outsAt0_A m c t h0]
    frame_out
    rfl
  · rw [outsAt0_B m c t h0]
    frame_out
    rfl

/-- What a point leaves in its first result block, from the rows `z` carried in. -/
def gout (x : Vec Ideal S1024x2048 .bf16) (w1 w2 w3 : Vec Ideal S2048x512 .bf16) (k : Vec Ideal S3x512 .f32)
    (z : FVec Ideal S1024x512 .f32) : FVec Ideal S1024x512 .bf16 :=
  k0_pay1 (k0_pay5 x) (k0_pay6 x w2 w3) z (k0_pay7 x w2 w3 (View.ld k (Rect.unit (s := S3x512) ![2, 0] S1x512.size inb_S3x512_S1x512_2_0)))
    (k0_pay8 x w2 w3 z) (View.ld k (Rect.unit (s := S3x512) ![1, 0] S1x512.size inb_S3x512_S1x512_1_0))
    (View.ld k (Rect.unit (s := S3x512) ![0, 0] S1x512.size inb_S3x512_S1x512_0_0)) w1

/-- Row `R` of the rows `u` moved down by `s`, with the last rows of `z` in front. -/
def moved (u z : FVec Ideal S1024x512 .f32) (s : ℕ) (R : Fin 1024) (l : Fin 512) : EReal :=
  if R.val < s then z (ix2 ⟨(R.val + 1024 - s) % 1024, by omega⟩ l) else u (ix2 ⟨(R.val + 1024 - s) % 1024, by omega⟩ l)

/-- The first result block at an index: the gate times three taps of the rows, the carried ones in front. -/
theorem gout_apply (x : Vec Ideal S1024x2048 .bf16) (w1 w2 w3 : Vec Ideal S2048x512 .bf16) (k : Vec Ideal S3x512 .f32)
    (z : FVec Ideal S1024x512 .f32) (R : Fin 1024) (l : Fin 512) : gout x w1 w2 w3 k z (ix2 R l)
      = prod x w1 R l * (k0_pay6 (F := Ideal) x w2 w3 (ix2 R l) * k (ix2 2 l) + moved (k0_pay6 x w2 w3) z 1 R l * k (ix2 1 l)
          + moved (k0_pay6 x w2 w3) z 2 R l * k (ix2 0 l)) := by
  unfold gout k0_pay1 k0_pay7 k0_pay8 k0_pay5
  generalize k0_pay6 x w2 w3 = u
  pointwise [prod]
  have b1 : ∀ R : Fin 1024, IntOp.cmpi CmpIPredicate.slt (BitVec.ofNat 32 R.val) 1#32 = if R.val < 1 then 1#1 else 0#1 := by decide +kernel
  have b2 : ∀ R : Fin 1024, IntOp.cmpi CmpIPredicate.slt (BitVec.ofNat 32 R.val) 2#32 = if R.val < 2 then 1#1 else 0#1 := by decide +kernel
  have pick : ∀ (p : Prop) [Decidable p] (A B : EReal), Scalar.select (if p then 1#1 else 0#1) A B = if p then A else B := by
    intro p _ A B
    by_cases h : p <;> simp [h, Scalar.select]
  rw [b1, b2, pick, pick]
  rfl

set_option maxHeartbeats 1000000 in
/-- A sequence's first point, which carries nothing in. -/
theorem g_A (c : Dev nD) (t : Fin cfg0.N) (h0 : t.val % 2 = 0) : (outsAt0 m c t.val t.isLt).1
    = gout (iblk m c 0 t) (iblk m c 1 t) (iblk m c 2 t) (iblk m c 3 t) (iblk m c 4 t) (k0_pay4 (F := Ideal)) := by
  rw [outsAt0_A m c t h0]
  frame_open
  simp (disch := decide) only [↓ View.readCov_skip, ↓ View.readCov_cons_toLoadRect, ↓ View.readCov_fill]
  frame_out
  rfl

set_option maxHeartbeats 1000000 in
/-- A later point, which carries in what the point before left. -/
theorem g_B (c : Dev nD) (t : Fin cfg0.N) (h0 : ¬t.val % 2 = 0) : (outsAt0 m c t.val t.isLt).1
    = gout (iblk m c 0 t) (iblk m c 1 t) (iblk m c 2 t) (iblk m c 3 t) (iblk m c 4 t)
      (outsAt0 m c (t.val - 1) (Nat.lt_of_le_of_lt (Nat.sub_le _ _) t.isLt)).2.2 := by
  rw [outsAt0_B m c t h0]
  generalize (outsAt0 m c (t.val - 1) _).2.2 = z
  frame_out
  have hz : View.read (Elt Ideal) (View.whole cc0_scratch0) ((Memref.isWhole_whole cc0_scratch0).unread z) = z :=
    (Memref.isWhole_whole cc0_scratch0).read_unread z
  rw [hz]
  rfl

end Cert.ScpIdeal.Step

end
-- ==== Proof.ScpValue.lean ====
/- The two results of the prompt group's short convolution, as functions of the arguments of the call. -/
module

public import proofs.«01_k».proof.Proof.ScpPoint

@[expose] public section

set_option maxRecDepth 16384

noncomputable section

namespace Cert.ScpIdeal.Step

open Cert.ScpIdeal Cert.ScpIdeal.Gen Idealize.ShloMosaic Idealize.ShloMosaic.TcCoe Idealize.SL.Sem

/-- Column `n` of the projection of token `t` of sequence `b`. -/
def proj (h : Vec Ideal S4x2048x2048 .f32) (w : Vec Ideal S1x2048x6144 .f32) (b : Fin 4) (t : Fin 2048) (n : Fin 6144) : EReal :=
  ∑ d : Fin 2048, h (ix3 b t d) * w (ix3 0 d n)

/-- The gated input of sequence `b` at token `t`, channel `d`. -/
def gated (h : Vec Ideal S4x2048x2048 .f32) (w : Vec Ideal S1x2048x6144 .f32) (b : Fin 4) (t : Fin 2048) (d : Fin 2048) : EReal :=
  proj h w b t ⟨2048 + d.val, by omega⟩ * proj h w b t ⟨4096 + d.val, by omega⟩

/-- The gated inputs with two zeros in front: place `i` of 2050. -/
def padded (h : Vec Ideal S4x2048x2048 .f32) (w : Vec Ideal S1x2048x6144 .f32) (b : Fin 4) (i : Fin 2050) (d : Fin 2048) : EReal :=
  if i.val < 2 then 0 else gated h w b ⟨(i.val - 2) % 2048, by omega⟩ d

/-- The first result: three taps of the padded sequence, gated. -/
def result (h : Vec Ideal S4x2048x2048 .f32) (w : Vec Ideal S1x2048x6144 .f32) (k : Vec Ideal S1x3x2048 .f32) (b : Fin 4)
    (t : Fin 2048) (d : Fin 2048) : EReal :=
  proj h w b t ⟨d.val, by omega⟩ *
    (padded h w b ⟨t.val + 2, by omega⟩ d * k (ix3 0 2 d) + padded h w b ⟨t.val + 1, by omega⟩ d * k (ix3 0 1 d)
      + padded h w b ⟨t.val, by omega⟩ d * k (ix3 0 0 d))

/-- The first result as an array: row `2048·b + t` is token `t` of sequence `b`. -/
def resultArr (h : Vec Ideal S4x2048x2048 .f32) (w : Vec Ideal S1x2048x6144 .f32) (k : Vec Ideal S1x3x2048 .f32) :
    Vec Ideal S8192x2048 .bf16 := fun i =>
  result h w k ⟨(i 0).val / 2048, by have h0 : (i 0).val < 8192 := (i 0).isLt; omega⟩ ⟨(i 0).val % 2048, by omega⟩ (i 1)

/-- The second result as an array: the gated inputs of the last eight tokens of every sequence. -/
def tailArr (h : Vec Ideal S4x2048x2048 .f32) (w : Vec Ideal S1x2048x6144 .f32) : Vec Ideal S4x8x2048 .f32 := fun i =>
  gated h w (i 0) ⟨2040 + (i 1).val, by have h1 : (i 1).val < 8 := (i 1).isLt; omega⟩ (i 2)

variable (m : (ℓ : Loc nD τ sig) → Buf (Elt Ideal) ℓ)

/-- The block every window holds at point `t`: column block `t / 8`, row block `t % 8`. -/
theorem idx : ∀ t : Fin grid0.N, win0_0.index t = ![t.val % 8, 0] ∧ win0_1.index t = ![0, t.val / 8] ∧ win0_2.index t = ![0, t.val / 8]
    ∧ win0_3.index t = ![0, t.val / 8] ∧ win0_4.index t = ![0, t.val / 8] ∧ win0_5.index t = ![t.val % 8, t.val / 8]
    ∧ win0_6.index t = ![t.val % 8 / 2, 0, t.val / 8] := by decide +kernel

theorem blk0 (c : Dev nD) (t : Fin grid0.N) (R : Fin 1024) (d : Fin 2048) (b : Fin 4) (p : Fin 2048)
    (hr : 2048 * b.val + p.val = 1024 * (t.val % 8) + R.val) :
    iblk m c 0 t (ix2 R d) = m ((c : Thread nD τ).loc main_arg0) (ix3 b p d) := by
  blk_ext! [iblk, V, idx t]

theorem blk1 (c : Dev nD) (t : Fin grid0.N) (d : Fin 2048) (l : Fin 512) (n : Fin 6144) (hn : n.val = 512 * (t.val / 8) + l.val) :
    iblk m c 1 t (ix2 d l) = m ((c : Thread nD τ).loc main_arg1) (ix3 0 d n) := by
  blk_ext! [iblk, V, idx t]

theorem blk2 (c : Dev nD) (t : Fin grid0.N) (d : Fin 2048) (l : Fin 512) (n : Fin 6144)
    (hn : n.val = 2048 + 512 * (t.val / 8) + l.val) :
    iblk m c 2 t (ix2 d l) = m ((c : Thread nD τ).loc main_arg1) (ix3 0 d n) := by
  blk_ext! [iblk, V, idx t]

theorem blk3 (c : Dev nD) (t : Fin grid0.N) (d : Fin 2048) (l : Fin 512) (n : Fin 6144)
    (hn : n.val = 4096 + 512 * (t.val / 8) + l.val) :
    iblk m c 3 t (ix2 d l) = m ((c : Thread nD τ).loc main_arg1) (ix3 0 d n) := by
  blk_ext! [iblk, V, idx t]

theorem blk4 (c : Dev nD) (t : Fin grid0.N) (j : Fin 3) (l : Fin 512) (n : Fin 2048) (hn : n.val = 512 * (t.val / 8) + l.val) :
    iblk m c 4 t (ix2 j l) = m ((c : Thread nD τ).loc main_arg2) (ix3 0 j n) := by
  blk_ext! [iblk, V, idx t]

/-- A point's product is the projection's columns the point holds. -/
theorem prod_blk (c : Dev nD) (t : Fin grid0.N) (w : Vec Ideal S2048x512 .bf16) (R : Fin 1024) (l : Fin 512) (b : Fin 4) (p : Fin 2048)
    (n : Fin 6144) (hr : 2048 * b.val + p.val = 1024 * (t.val % 8) + R.val)
    (hw : ∀ d, w (ix2 d l) = m ((c : Thread nD τ).loc main_arg1) (ix3 0 d n)) :
    prod (iblk m c 0 t) w R l = proj (m ((c : Thread nD τ).loc main_arg0)) (m ((c : Thread nD τ).loc main_arg1)) b p n :=
  Finset.sum_congr rfl fun d _ => congrArg₂ (· * ·) (blk0 m c t R d b p hr) (hw d)

/-- The gated rows a point makes. -/
theorem rows_apply (c : Dev nD) (t : Fin grid0.N) (R : Fin 1024) (l : Fin 512) (b : Fin 4) (p : Fin 2048) (n : Fin 2048)
    (hr : 2048 * b.val + p.val = 1024 * (t.val % 8) + R.val) (hn : n.val = 512 * (t.val / 8) + l.val) :
    rows m c t (ix2 R l) = gated (m ((c : Thread nD τ).loc main_arg0)) (m ((c : Thread nD τ).loc main_arg1)) b p n := by
  refine (pay6_apply _ _ _ R l).trans (congrArg₂ (· * ·) ?_ ?_)
  · exact prod_blk m c t _ R l b p ⟨2048 + n.val, by omega⟩ hr fun d => blk2 m c t d l _ (by simp only []; omega)
  · exact prod_blk m c t _ R l b p ⟨4096 + n.val, by omega⟩ hr fun d => blk3 m c t d l _ (by simp only []; omega)

/-- The rows carried into a point: none at a sequence's first, else those of the point before. -/
def carry (c : Dev nD) (t : Fin cfg0.N) : FVec Ideal S1024x512 .f32 :=
  if t.val % 2 = 0 then k0_pay4 (F := Ideal) else rows m c ⟨t.val - 1, Nat.lt_of_le_of_lt (Nat.sub_le _ _) t.isLt⟩

/-- What a point leaves in its first result block, from the rows carried in. -/
theorem g_at (c : Dev nD) (t : Fin cfg0.N) : (outsAt0 m c t.val t.isLt).1
    = gout (iblk m c 0 t) (iblk m c 1 t) (iblk m c 2 t) (iblk m c 3 t) (iblk m c 4 t) (carry m c t) := by
  unfold carry
  by_cases h0 : t.val % 2 = 0
  · rw [if_pos h0]
    exact g_A m c t h0
  · rw [if_neg h0]
    refine (g_B m c t h0).trans (congrArg _ ?_)
    exact carried m c ⟨t.val - 1, Nat.lt_of_le_of_lt (Nat.sub_le _ _) t.isLt⟩

/-- The rows moved down by `s` are the padded sequence's, `s` places back. -/
theorem moved_eq (c : Dev nD) (t : Fin cfg0.N) (s : ℕ) (hs0 : 0 < s) (hs : s ≤ 2) (R : Fin 1024) (l : Fin 512) (b : Fin 4) (p : Fin 2048)
    (n : Fin 2048) (hr : 2048 * b.val + p.val = 1024 * (t.val % 8) + R.val) (hn : n.val = 512 * (t.val / 8) + l.val) :
    moved (rows m c t) (carry m c t) s R l
      = padded (m ((c : Thread nD τ).loc main_arg0)) (m ((c : Thread nD τ).loc main_arg1)) b ⟨p.val + 2 - s, by omega⟩ n := by
  unfold moved padded carry
  have hR := R.isLt
  have hp := p.isLt
  by_cases h : R.val < s
  · rw [if_pos h]
    by_cases h0 : t.val % 2 = 0
    · rw [if_pos h0, if_pos (by show p.val + 2 - s < 2; omega)]
      exact pay4_apply _ l
    · rw [if_neg h0, if_neg (by show ¬p.val + 2 - s < 2; omega)]
      exact rows_apply m c ⟨t.val - 1, _⟩ _ l b _ n (by
        show 2048 * b.val + (p.val + 2 - s - 2) % 2048 = 1024 * ((t.val - 1) % 8) + (R.val + 1024 - s) % 1024; omega)
        (by show n.val = 512 * ((t.val - 1) / 8) + l.val; omega)
  · rw [if_neg h, if_neg (by show ¬p.val + 2 - s < 2; omega)]
    exact rows_apply m c t _ l b _ n (by
      show 2048 * b.val + (p.val + 2 - s - 2) % 2048 = 1024 * (t.val % 8) + (R.val + 1024 - s) % 1024; omega) hn

/-- What a point leaves at row `R`, lane `l` of its first result block. -/
theorem point5 (c : Dev nD) (t : Fin cfg0.N) (R : Fin 1024) (l : Fin 512) (b : Fin 4) (p : Fin 2048) (n : Fin 2048)
    (hr : 2048 * b.val + p.val = 1024 * (t.val % 8) + R.val) (hn : n.val = 512 * (t.val / 8) + l.val) :
    (outsAt0 m c t.val t.isLt).1 (ix2 R l) = result (m ((c : Thread nD τ).loc main_arg0)) (m ((c : Thread nD τ).loc main_arg1))
      (m ((c : Thread nD τ).loc main_arg2)) b p n := by
  refine (congrFun (g_at m c t) _).trans ((gout_apply _ _ _ _ _ _ R l).trans ?_)
  unfold result
  refine congrArg₂ (· * ·) ?_ (congrArg₂ (· + ·) (congrArg₂ (· + ·) (congrArg₂ (· * ·) ?_ ?_) (congrArg₂ (· * ·) ?_ ?_))
    (congrArg₂ (· * ·) ?_ ?_))
  · exact prod_blk m c t _ R l b p _ hr fun d => blk1 m c t d l _ hn
  · refine (rows_apply m c t R l b p n hr hn).trans ?_
    unfold padded
    rw [if_neg (by show ¬p.val + 2 < 2; omega)]
    exact congrArg (fun p => gated _ _ b p n) (Fin.ext (by show p.val = (p.val + 2 - 2) % 2048; omega))
  · exact blk4 m c t 2 l n hn
  · exact moved_eq m c t 1 (by omega) (by omega) R l b p n hr hn
  · exact blk4 m c t 1 l n hn
  · exact moved_eq m c t 2 (by omega) (by omega) R l b p n hr hn
  · exact blk4 m c t 0 l n hn

/-- The first result array after the run is `G`, once every point's block is `G`'s rows and columns of the point. -/
theorem arr5_of (c : Dev nD) (G : Vec Ideal S8192x2048 .bf16)
    (hG : ∀ (t : Fin grid0.N) (R : Fin 1024) (l : Fin 512) (r : Fin 8192) (n : Fin 2048), r.val = 1024 * (t.val % 8) + R.val →
      n.val = 512 * (t.val / 8) + l.val → (outsAt0 m c t.val t.isLt).1 (ix2 R l) = G (ix2 r n)) : (dats m 0 c).arrAt 5 cfg0.N = G := by
  refine (dats m 0 c).arrAt_eq_of_covers 5 _ (by decide +kernel) fun t hf y => ?_
  have h0 : ((win0_5.blk t).view.emb y 0).val = 1024 * (t.val % 8) + (y 0).val := by blk_simp [idx t]; omega
  have h1 : ((win0_5.blk t).view.emb y 1).val = 512 * (t.val / 8) + (y 1).val := by blk_simp [idx t]; omega
  blk_simp
  rw [after0_5]
  have hy : ∀ x : S1024x512.Idx, x = ix2 (x 0) (x 1) := eq_ix2
  have hz : ∀ z : S8192x2048.Idx, ix2 (z 0) (z 1) = z := fun z => (eq_ix2 z).symm
  exact (congrArg _ (hy y)).trans ((hG t (y 0) (y 1) _ _ h0 h1).trans (congrArg G (hz _)))

/-- The second result array after the run is `G`, once the last point of every sequence leaves `G`'s rows of the sequence. -/
theorem arr6_of (c : Dev nD) (G : Vec Ideal S4x8x2048 .f32)
    (hG : ∀ (t : Fin grid0.N) (_ : t.val % 2 = 1) (j : Fin 8) (l : Fin 512) (b : Fin 4) (n : Fin 2048), b.val = t.val % 8 / 2 →
      n.val = 512 * (t.val / 8) + l.val → (outsAt0 m c t.val t.isLt).2.1 (ix3 0 j l) = G (ix3 b j n)) :
    (dats m 0 c).arrAt 6 cfg0.N = G := by
  refine (dats m 0 c).arrAt_eq_of_covers 6 _ (by decide +kernel) fun t hf y => ?_
  have ht : t.val % 2 = 1 := (flush0_6 t).mp hf
  have hy0 : (y 0).val = 0 := by have h : (y 0).val < 1 := (y 0).isLt; omega
  have h0 : ((win0_6.blk t).view.emb y 0).val = t.val % 8 / 2 := by blk_simp [idx t]
  have h1 : ((win0_6.blk t).view.emb y 1).val = (y 1).val := by blk_simp [idx t]
  have h2 : ((win0_6.blk t).view.emb y 2).val = 512 * (t.val / 8) + (y 2).val := by blk_simp [idx t]; omega
  blk_simp
  rw [after0_6]
  have hy : ∀ x : S1x8x512.Idx, (x 0).val = 0 → x = ix3 0 (x 1) (x 2) := fun x h =>
    (eq_ix3 x).trans (congrArg (fun a => ix3 a (x 1) (x 2)) (Fin.ext h))
  have hz : ∀ (z : S4x8x2048.Idx) (a : Fin 8), (z 1).val = a.val → ix3 (z 0) a (z 2) = z := fun z a h =>
    (congrArg (fun a => ix3 (z 0) a (z 2)) (Fin.ext h.symm)).trans (eq_ix3 z).symm
  exact (congrArg _ (hy y hy0)).trans ((hG t ht (y 1) (y 2) _ _ h0 h2).trans (congrArg G (hz _ _ h1)))

/-- The first result array after the run. -/
theorem arr5 (c : Dev nD) : (dats m 0 c).arrAt 5 cfg0.N = resultArr (m ((c : Thread nD τ).loc main_arg0))
    (m ((c : Thread nD τ).loc main_arg1)) (m ((c : Thread nD τ).loc main_arg2)) :=
  arr5_of m c _ fun t R l r n hr hn => point5 m c t R l _ _ n (by
    show 2048 * (r.val / 2048) + r.val % 2048 = _
    omega) hn

/-- The second result array after the run. -/
theorem arr6 (c : Dev nD) : (dats m 0 c).arrAt 6 cfg0.N = tailArr (m ((c : Thread nD τ).loc main_arg0))
    (m ((c : Thread nD τ).loc main_arg1)) :=
  arr6_of m c _ fun t ht j l b n hb hn => by
    refine (congrFun (tail_at m c t) _).trans ((pay3_apply _ j l).trans ?_)
    exact rows_apply m c t _ l b _ n (by show 2048 * b.val + (2040 + j.val) = 1024 * (t.val % 8) + (1016 + j.val); omega) hn

end Cert.ScpIdeal.Step

end
-- ==== Proof.ScpRef.lean ====
/- The reference of the prompt group's short convolution, read at an index. -/
module

public import proofs.«01_k».proof.Proof.ScpValue
public import proofs.«01_k».proof.Proof.Gen.ScpRefIdeal.Read
public import proofs.«01_k».proof.Defs

@[expose] public section

set_option maxRecDepth 16384

noncomputable section

namespace Cert.ScpRefIdeal.Step

open Cert.ScpRefIdeal Cert.ScpRefIdeal.Gen Cert.ScpRefIdeal.Read Idealize.ShloMosaic Idealize.ShloMosaic.TcCoe Idealize.SL.Sem
open Cert.ScpIdeal.Step (proj gated padded result resultArr tailArr)

/-- The reference's padded sequence. -/
theorem padded_apply (h : Vec Ideal S4x2048x2048 .f32) (w : Vec Ideal S1x2048x6144 .f32)
    (b : Fin 4) (i : Fin 2050) (d : Fin 2048) : val_main_v7 (F := Ideal) h w (ix3 b i d) = padded h w b i d := by
  pointwise [val_main_v7, val_main_v6, val_main_v5, val_main_v4, val_main_v3, val_main_v2, val_main_v1, val_main_v0, val_main_cst]
  unfold padded
  by_cases hi : i.val < 2
  · rw [dif_pos hi, if_pos hi]
  · rw [dif_neg hi, if_neg hi]
    have e : ∀ p q : Fin 2048, p.val = q.val → gated h w b p d = gated h w b q d := fun p q hpq => by rw [Fin.ext hpq]
    exact e ⟨i.val - 2, by omega⟩ _ (by show i.val - 2 = (i.val - 2) % 2048; omega)

/-- The reference's first result. -/
theorem result_eq (h : Vec Ideal S4x2048x2048 .f32) (w : Vec Ideal S1x2048x6144 .f32)
    (k : Vec Ideal S1x3x2048 .f32) : val_main_v30 (F := Ideal) h w k = resultArr h w k := by
  funext i
  idx_vars i
  pointwise [val_main_v30, val_main_v29, val_main_v28, val_main_v27, val_main_v26, val_main_v25, val_main_v24,
    val_main_v23, val_main_v22, val_main_v21, val_main_v20, val_main_v19, val_main_v18, val_main_v17, val_main_v16,
    val_main_v15, val_main_v14, val_main_v13, val_main_v12, val_main_v11, val_main_v10, val_main_v9, val_main_v8,
    val_main_v2, val_main_v1, val_main_v0]
  rw [padded_apply, padded_apply, padded_apply]
  refine congrArg₂ (· * ·) rfl ?_
  have e1 : (⟨1 + i0.val % 2048, by omega⟩ : Fin 2050) = ⟨i0.val % 2048 + 1, by omega⟩ := Fin.ext (Nat.add_comm _ _)
  have e2 : (⟨2 + i0.val % 2048, by omega⟩ : Fin 2050) = ⟨i0.val % 2048 + 2, by omega⟩ := Fin.ext (Nat.add_comm _ _)
  rw [e1, e2]
  refine (add_comm _ _).trans ?_
  rw [add_comm (padded _ _ _ ⟨i0.val % 2048, _⟩ _ * _), ← add_assoc]
  rfl

/-- The reference's second result. -/
theorem tail_eq (h : Vec Ideal S4x2048x2048 .f32) (w : Vec Ideal S1x2048x6144 .f32) :
    val_main_v31 (F := Ideal) h w = tailArr h w := by
  funext i
  idx_vars i
  pointwise [val_main_v31]
  rw [padded_apply]
  unfold padded tailArr
  rw [if_neg (by simp only []; omega)]
  refine congrArg (fun t => gated h w i0 t i2) (Fin.ext ?_)
  show (2042 + i1.val - 2) % 2048 = 2040 + i1.val
  omega

/-- The kernel's two results are the reference's: equal on every pair of memories that agree on the arguments. -/
theorem algebraic : Cert.algebraic_ScpIdeal_ScpRefIdeal (hScpIdeal := Cert.ScpIdeal.Gen.facts)
    (hScpRefIdeal := Cert.ScpRefIdeal.Gen.facts) := by
  intro m ρ m' ρ' _ hagree
  refine ⟨_, _, (θ_run Cert.ScpIdeal.defs _ _).mono (fun _ h c => ⟨(h c).1, (h c).2.1, (h c).2.2⟩)
    (Cert.ScpIdeal.Value.run_blocks (F := Ideal) m ρ), ?_⟩
  refine (θ_run Cert.ScpRefIdeal.defs _ _).mono (fun _ h c => ⟨(h c).1.trans ?_, (h c).2.1.trans ?_, (h c).2.2⟩)
    (Cert.ScpRefIdeal.Value.run (F := Ideal) m' ρ')
  · refine (val_main_v30_eq _ _ _).trans ((result_eq _ _ _).trans ?_)
    rw [Cert.ScpIdeal.Step.arr5 m c, (hagree c).1, (hagree c).2.1, (hagree c).2.2]
  · refine (val_main_v31_eq _ _).trans ((tail_eq _ _).trans ?_)
    rw [Cert.ScpIdeal.Step.arr6 m c, (hagree c).1, (hagree c).2.1]

/-- The reference runs, keeps its arguments and has no semaphore. -/
theorem frame : Cert.quiescent_ScpRefIdeal (hScpRefIdeal := Cert.ScpRefIdeal.Gen.facts) := fun m ρ _ =>
  (θ_run Cert.ScpRefIdeal.defs _ _).mono (fun r h => ⟨fun c => (h c).2.2, sem_eq_zero_of_no_sems (by decide) r.2⟩)
    (Cert.ScpRefIdeal.Value.run (F := Ideal) m ρ)

end Cert.ScpRefIdeal.Step

end
-- ==== Proof.lean ====
module

public import proofs.«01_k».proof.Defs
public import proofs.«01_k».proof.Proof.Gen.Attn.Frame
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.Sconv.Frame
public import proofs.«01_k».proof.Proof.Gen.SconvIdeal.Value
public import proofs.«01_k».proof.Proof.Gen.SconvRefIdeal.Run
public import proofs.«01_k».proof.Proof.Gen.SconvRefIdeal.Read
public import proofs.«01_k».proof.Proof.Gen.Mlp.Frame
public import proofs.«01_k».proof.Proof.Gen.MlpIdeal.Value
public import proofs.«01_k».proof.Proof.Gen.MlpRefIdeal.Run
public import proofs.«01_k».proof.Proof.Gen.MlpRefIdeal.Read
public import proofs.«01_k».proof.Proof.Gen.Mlps.Frame
public import proofs.«01_k».proof.Proof.Gen.MlpsIdeal.Value
public import proofs.«01_k».proof.Proof.Gen.MlpsRefIdeal.Run
public import proofs.«01_k».proof.Proof.Gen.MlpsRefIdeal.Read
public import proofs.«01_k».proof.Proof.Gen.Vs.Frame
public import proofs.«01_k».proof.Proof.Gen.VsIdeal.Value
public import proofs.«01_k».proof.Proof.Gen.VsRefIdeal.Run
public import proofs.«01_k».proof.Proof.Gen.VsRefIdeal.Read
public import proofs.«01_k».proof.Proof.Gen.Vp.Frame
public import proofs.«01_k».proof.Proof.Gen.VpIdeal.Value
public import proofs.«01_k».proof.Proof.Gen.VpRefIdeal.Run
public import proofs.«01_k».proof.Proof.Gen.VpRefIdeal.Read
public import proofs.«01_k».proof.Proof.Gen.Xg.Frame
public import proofs.«01_k».proof.Proof.Gen.XgIdeal.Value
public import proofs.«01_k».proof.Proof.Gen.XgRefIdeal.Run
public import proofs.«01_k».proof.Proof.Gen.XgRefIdeal.Read
public import proofs.«01_k».proof.Proof.Gen.Kp.Frame
public import proofs.«01_k».proof.Proof.Gen.KpIdeal.Value
public import proofs.«01_k».proof.Proof.Gen.KpRefIdeal.Run
public import proofs.«01_k».proof.Proof.Gen.KpRefIdeal.Read
public import proofs.«01_k».proof.Proof.Gen.Ks.Frame
public import proofs.«01_k».proof.Proof.Gen.KsIdeal.Value
public import proofs.«01_k».proof.Proof.Gen.KsRefIdeal.Run
public import proofs.«01_k».proof.Proof.Gen.KsRefIdeal.Read
public import proofs.«01_k».proof.Proof.Gen.Scp.Frame
public import proofs.«01_k».proof.Proof.Gen.ScpIdeal.Value
public import proofs.«01_k».proof.Proof.Gen.ScpRefIdeal.Run
public import proofs.«01_k».proof.Proof.Gen.ScpRefIdeal.Read
public import proofs.«01_k».proof.Proof.AttnRef
public import proofs.«01_k».proof.Proof.SconvRef
public import proofs.«01_k».proof.Proof.MlpRef
public import proofs.«01_k».proof.Proof.MlpsRef
public import proofs.«01_k».proof.Proof.VsRef
public import proofs.«01_k».proof.Proof.VpRef
public import proofs.«01_k».proof.Proof.XgRef
public import proofs.«01_k».proof.Proof.KpRef
public import proofs.«01_k».proof.Proof.KsRef
public import proofs.«01_k».proof.Proof.ScpRef
public import Idealize.ShloMosaic.Adequacy
public import Idealize.ShloMosaic.Init

@[expose] public section

noncomputable section

namespace Cert.Proof

open Idealize.ShloMosaic Idealize.SL.Sem

/-- Everything the certificate claims. -/
theorem claim : Cert.Claim := ⟨Cert.Attn.Gen.facts, Cert.AttnIdeal.Gen.facts, Cert.AttnRefIdeal.Gen.facts,
  Cert.Sconv.Gen.facts, Cert.SconvIdeal.Gen.facts, Cert.SconvRefIdeal.Gen.facts,
  Cert.Mlp.Gen.facts, Cert.MlpIdeal.Gen.facts, Cert.MlpRefIdeal.Gen.facts,
  Cert.Mlps.Gen.facts, Cert.MlpsIdeal.Gen.facts, Cert.MlpsRefIdeal.Gen.facts,
  Cert.Vs.Gen.facts, Cert.VsIdeal.Gen.facts, Cert.VsRefIdeal.Gen.facts,
  Cert.Vp.Gen.facts, Cert.VpIdeal.Gen.facts, Cert.VpRefIdeal.Gen.facts,
  Cert.Xg.Gen.facts, Cert.XgIdeal.Gen.facts, Cert.XgRefIdeal.Gen.facts,
  Cert.Kp.Gen.facts, Cert.KpIdeal.Gen.facts, Cert.KpRefIdeal.Gen.facts,
  Cert.Ks.Gen.facts, Cert.KsIdeal.Gen.facts, Cert.KsRefIdeal.Gen.facts,
  Cert.Scp.Gen.facts, Cert.ScpIdeal.Gen.facts, Cert.ScpRefIdeal.Gen.facts,
  Cert.Pre_attnp_finite.Gen.facts,
  fun m ρ _ => Cert.Attn.Gen.frame m ρ, fun m ρ _ => Cert.AttnIdeal.Gen.frame m ρ, fun m ρ _ => Cert.AttnIdeal.Gen.frame m ρ,
  Cert.AttnRefIdeal.Step.frame, fun m ρ _ => Cert.AttnRefIdeal.Step.frame m ρ trivial,
  fun m ρ _ => Cert.Sconv.Gen.frame m ρ, fun m ρ _ => Cert.SconvIdeal.Gen.frame m ρ, Cert.SconvRefIdeal.Step.frame,
  fun m ρ _ => Cert.Mlp.Gen.frame m ρ, fun m ρ _ => Cert.MlpIdeal.Gen.frame m ρ, Cert.MlpRefIdeal.Step.frame,
  fun m ρ _ => Cert.Mlps.Gen.frame m ρ, fun m ρ _ => Cert.MlpsIdeal.Gen.frame m ρ, Cert.MlpsRefIdeal.Step.frame,
  fun m ρ _ => Cert.Vs.Gen.frame m ρ, fun m ρ _ => Cert.VsIdeal.Gen.frame m ρ, Cert.VsRefIdeal.Step.frame,
  fun m ρ _ => Cert.Vp.Gen.frame m ρ, fun m ρ _ => Cert.VpIdeal.Gen.frame m ρ, Cert.VpRefIdeal.Step.frame,
  fun m ρ _ => Cert.Xg.Gen.frame m ρ, fun m ρ _ => Cert.XgIdeal.Gen.frame m ρ, Cert.XgRefIdeal.Step.frame,
  fun m ρ _ => Cert.Kp.Gen.frame m ρ, fun m ρ _ => Cert.KpIdeal.Gen.frame m ρ, Cert.KpRefIdeal.Step.frame,
  fun m ρ _ => Cert.Ks.Gen.frame m ρ, fun m ρ _ => Cert.KsIdeal.Gen.frame m ρ, Cert.KsRefIdeal.Step.frame,
  fun m ρ _ => Cert.Scp.Gen.frame m ρ, fun m ρ _ => Cert.ScpIdeal.Gen.frame m ρ, Cert.ScpRefIdeal.Step.frame,
  IdealRules.named_const.statement Cert.AttnIdeal.κ "mask" .f32 0xF149F2CA#32 ⊥ rfl, Cert.AttnRefIdeal.Step.algebraic,
  trivial, Cert.SconvRefIdeal.Step.algebraic, trivial, Cert.MlpRefIdeal.Step.algebraic,
  trivial, Cert.MlpsRefIdeal.Step.algebraic, trivial, Cert.VsRefIdeal.Step.algebraic,
  trivial, Cert.VpRefIdeal.Step.algebraic, trivial, Cert.XgRefIdeal.Step.algebraic, trivial, Cert.KpRefIdeal.Step.algebraic,
  trivial, Cert.KsRefIdeal.Step.algebraic, trivial, Cert.ScpRefIdeal.Step.algebraic⟩

end Cert.Proof

end
